-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_are_weights [hPre_gates_are_weights : Cert.Pre_gates_are_weights.Facts] (m : (ℓ : Loc Cert.KernelIdeal.nD Cert.KernelIdeal.τ Cert.KernelIdeal.sig) → Buf (Elt Ideal) ℓ) : Prop :=
  ∀ c : Dev Cert.KernelIdeal.nD,
    (Cert.Pre_gates_are_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_are_weights [hPre_gates_are_weights : Cert.Pre_gates_are_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_are_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_tables_are_heads [hPre_tables_are_heads : Cert.Pre_tables_are_heads.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables_are_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).1 = (fun _ => 1#1)
    ∧ (Cert.Pre_tables_are_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.1 = (fun _ => 1#1)
    ∧ (Cert.Pre_tables_are_heads.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables_are_heads [hPre_tables_are_heads : Cert.Pre_tables_are_heads.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables_are_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).1 = (fun _ => 1#1)
    ∧ (Cert.Pre_tables_are_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.1 = (fun _ => 1#1)
    ∧ (Cert.Pre_tables_are_heads.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_are_weights [hKernelIdeal : Cert.KernelIdeal.Facts] [hPre_gates_are_weights : Cert.Pre_gates_are_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_are_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_are_weights [hReferenceIdeal : Cert.ReferenceIdeal.Facts] [hPre_gates_are_weights : Cert.Pre_gates_are_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_are_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Kernel3Ideal_pre_tables_are_heads [hKernel3Ideal : Cert.Kernel3Ideal.Facts] [hPre_tables_are_heads : Cert.Pre_tables_are_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_tables_are_heads m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def quiescent_Reference3Ideal_pre_tables_are_heads [hReference3Ideal : Cert.Reference3Ideal.Facts] [hPre_tables_are_heads : Cert.Pre_tables_are_heads.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables_are_heads m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  True

def algebraic_KernelIdeal_ReferenceIdeal_pre_gates_are_weights [hKernelIdeal : Cert.KernelIdeal.Facts] [hReferenceIdeal : Cert.ReferenceIdeal.Facts] [hPre_gates_are_weights : Cert.Pre_gates_are_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_are_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v45) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_tables_are_heads [hKernel3Ideal : Cert.Kernel3Ideal.Facts] [hReference3Ideal : Cert.Reference3Ideal.Facts] [hPre_tables_are_heads : Cert.Pre_tables_are_heads.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_tables_are_heads m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v13_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gates_are_weights : Cert.Pre_gates_are_weights.Facts) (hPre_tables_are_heads : Cert.Pre_tables_are_heads.Facts),
    quiescent_Kernel (hKernel := hKernel)
    ∧ quiescent_KernelIdeal (hKernelIdeal := hKernelIdeal)
    ∧ quiescent_KernelIdeal_pre_gates_are_weights (hKernelIdeal := hKernelIdeal) (hPre_gates_are_weights := hPre_gates_are_weights)
    ∧ quiescent_ReferenceIdeal (hReferenceIdeal := hReferenceIdeal)
    ∧ quiescent_ReferenceIdeal_pre_gates_are_weights (hReferenceIdeal := hReferenceIdeal) (hPre_gates_are_weights := hPre_gates_are_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_tables_are_heads (hKernel3Ideal := hKernel3Ideal) (hPre_tables_are_heads := hPre_tables_are_heads)
    ∧ quiescent_Reference3Ideal (hReference3Ideal := hReference3Ideal)
    ∧ quiescent_Reference3Ideal_pre_tables_are_heads (hReference3Ideal := hReference3Ideal) (hPre_tables_are_heads := hPre_tables_are_heads)
    ∧ preserves_Kernel_KernelIdeal
    ∧ algebraic_KernelIdeal_ReferenceIdeal_pre_gates_are_weights (hKernelIdeal := hKernelIdeal) (hReferenceIdeal := hReferenceIdeal) (hPre_gates_are_weights := hPre_gates_are_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_tables_are_heads (hKernel3Ideal := hKernel3Ideal) (hReference3Ideal := hReference3Ideal) (hPre_tables_are_heads := hPre_tables_are_heads)
-- ==== Pre_gates_are_weights.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩

class Facts : Prop where
  bcast_S_S16384x16 : S_.BroadcastsInDim S16384x16 (![] : Fin 0 → Fin S16384x16.rank)

variable [Facts]

def fn {F : FTy → Type} [FloatOps F] (main_arg0 : FVec F S16384x1024 .f32) (main_arg1 : FVec F S16384x16 .f32) (main_arg2 : FVec F S16x1024x512 .f32) (main_arg3 : FVec F S16x1024x512 .f32) (main_arg4 : FVec F S16x512x1024 .f32) (main_arg5 : FVec F S1024 .f32) (main_arg6 : FVec F S1024 .f32) : IVec S16384x16 1 :=
  let main_cst : FVec F S_ .f32 := constant S_ .f32 0x00000000#32
  let main_v0 : FVec F S16384x16 .f32 := broadcastInDim S16384x16 ![] bcast_S_S16384x16 main_cst
  let main_v1 : IVec S16384x16 1 := cmpf .oge main_arg1 main_v0
  let main_cst_0 : FVec F S_ .f32 := constant S_ .f32 0x7F800000#32
  let main_v2 : FVec F S16384x16 .f32 := broadcastInDim S16384x16 ![] bcast_S_S16384x16 main_cst_0
  let main_v3 : IVec S16384x16 1 := cmpf .olt main_arg1 main_v2
  let main_v4 : IVec S16384x16 1 := andi main_v1 main_v3
  main_v4
-- ==== Pre_tables_are_heads.lean ====
abbrev S16384x256 : Shape := ⟨2, ![16384, 256]⟩
abbrev S16384x512 : Shape := ⟨2, ![16384, 512]⟩
abbrev S16384x2432 : Shape := ⟨2, ![16384, 2432]⟩
abbrev S16384x1024 : Shape := ⟨2, ![16384, 1024]⟩
abbrev S24 : Shape := ⟨1, ![24]⟩
abbrev S1024 : Shape := ⟨1, ![1024]⟩
abbrev S1024x1024 : Shape := ⟨2, ![1024, 1024]⟩
abbrev S1024x128 : Shape := ⟨2, ![1024, 128]⟩
abbrev S1x128 : Shape := ⟨2, ![1, 128]⟩
abbrev S3x128x512 : Shape := ⟨3, ![3, 128, 512]⟩
abbrev S512x512 : Shape := ⟨2, ![512, 512]⟩
abbrev S256x256 : Shape := ⟨2, ![256, 256]⟩
abbrev S_ : Shape := ⟨0, ![]⟩

class Facts : Prop where
  bcast_S_S3x128x512 : S_.BroadcastsInDim S3x128x512 (![] : Fin 0 → Fin S3x128x512.rank)
  bcast_S_S512x512 : S_.BroadcastsInDim S512x512 (![] : Fin 0 → Fin S512x512.rank)
  bcast_S_S256x256 : S_.BroadcastsInDim S256x256 (![] : Fin 0 → Fin S256x256.rank)

variable [Facts]

def fn_where {F : FTy → Type} [FloatOps F] (arg0 : IVec S3x128x512 1) (arg1 : FVec F S_ .f32) (arg2 : FVec F S_ .f32) : FVec F S3x128x512 .f32 :=
  let v0 : FVec F S3x128x512 .f32 := broadcastInDim S3x128x512 ![] bcast_S_S3x128x512 arg1
  let v1 : FVec F S3x128x512 .f32 := broadcastInDim S3x128x512 ![] bcast_S_S3x128x512 arg2
  let v2 : FVec F S3x128x512 .f32 := select arg0 v0 v1
  v2

def fn_where_0 {F : FTy → Type} [FloatOps F] (arg0 : IVec S512x512 1) (arg1 : FVec F S_ .f32) (arg2 : FVec F S_ .f32) : FVec F S512x512 .f32 :=
  let v0 : FVec F S512x512 .f32 := broadcastInDim S512x512 ![] bcast_S_S512x512 arg1
  let v1 : FVec F S512x512 .f32 := broadcastInDim S512x512 ![] bcast_S_S512x512 arg2
  let v2 : FVec F S512x512 .f32 := select arg0 v0 v1
  v2

def fn_where_1 {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_part1 {F : FTy → Type} [FloatOps F] (main_arg15 : FVec F S512x512 .f32) (main_arg16 : FVec F S256x256 .f32) (main_v11 : IVec S3x128x512 1) (main_v14 : IVec S512x512 32) (main_v17 : IVec S512x512 32) : IVec S3x128x512 1 × IVec S512x512 1 × IVec S256x256 1 :=
  let main_v18 : IVec S512x512 1 := cmpi .eq main_v14 main_v17
  let main_cst_4 : FVec F S_ .f32 := constant S_ .f32 0x3C800000#32
  let main_cst_5 : FVec F S_ .f32 := constant S_ .f32 0x00000000#32
  let main_v19 : FVec F S512x512 .f32 := fn_where_0 (F := F) main_v18 main_cst_4 main_cst_5
  let main_v20 : FVec F S512x512 .f32 := id main_v19
  let main_v21 : IVec S512x512 1 := cmpf .oeq main_arg15 main_v20
  let main_v22 : IVec S256x256 32 := iotaInDim S256x256 32 0
  let main_c_6 : IVec S_ 32 := constantI S_ 32 6#32
  let main_v23 : IVec S256x256 32 := broadcastInDim S256x256 ![] bcast_S_S256x256 main_c_6
  let main_v24 : IVec S256x256 32 := Host.shrui main_v22 main_v23
  let main_v25 : IVec S256x256 32 := iotaInDim S256x256 32 1
  let main_c_7 : IVec S_ 32 := constantI S_ 32 6#32
  let main_v26 : IVec S256x256 32 := broadcastInDim S256x256 ![] bcast_S_S256x256 main_c_7
  let main_v27 : IVec S256x256 32 := Host.shrui main_v25 main_v26
  let main_v28 : IVec S256x256 1 := cmpi .eq main_v24 main_v27
  let main_cst_8 : FVec F S_ .f32 := constant S_ .f32 0x3C800000#32
  let main_cst_9 : FVec F S_ .f32 := constant S_ .f32 0x00000000#32
  let main_v29 : FVec F S256x256 .f32 := fn_where_1 (F := F) main_v28 main_cst_8 main_cst_9
  let main_v30 : FVec F S256x256 .f32 := id main_v29
  let main_v31 : IVec S256x256 1 := cmpf .oeq main_arg16 main_v30
  (main_v11, main_v21, main_v31)

def fn {F : FTy → Type} [FloatOps F] (main_arg0 : FVec F S16384x256 .f32) (main_arg1 : FVec F S16384x512 .f32) (main_arg2 : FVec F S16384x512 .f32) (main_arg3 : FVec F S16384x512 .f32) (main_arg4 : FVec F S16384x2432 .f32) (main_arg5 : FVec F S16384x256 .f32) (main_arg6 : FVec F S16384x1024 .f32) (main_arg7 : FVec F S24 .f32) (main_arg8 : FVec F S1024 .f32) (main_arg9 : FVec F S1024x1024 .f32) (main_arg10 : FVec F S1024 .f32) (main_arg11 : FVec F S1024 .f32) (main_arg12 : FVec F S1024x128 .f32) (main_arg13 : FVec F S1x128 .f32) (main_arg14 : FVec F S3x128x512 .f32) (main_arg15 : FVec F S512x512 .f32) (main_arg16 : FVec F S256x256 .f32) : IVec S3x128x512 1 × IVec S512x512 1 × IVec S256x256 1 :=
  let main_v0 : IVec S3x128x512 32 := iotaInDim S3x128x512 32 1
  let main_v1 : IVec S3x128x512 32 := iotaInDim S3x128x512 32 2
  let main_c : IVec S_ 32 := constantI S_ 32 6#32
  let main_v2 : IVec S3x128x512 32 := broadcastInDim S3x128x512 ![] bcast_S_S3x128x512 main_c
  let main_v3 : IVec S3x128x512 32 := Host.shrui main_v1 main_v2
  let main_c_0 : IVec S_ 32 := constantI S_ 32 3#32
  let main_v4 : IVec S3x128x512 32 := broadcastInDim S3x128x512 ![] bcast_S_S3x128x512 main_c_0
  let main_v5 : IVec S3x128x512 32 := muli main_v3 main_v4
  let main_v6 : IVec S3x128x512 32 := iotaInDim S3x128x512 32 0
  let main_v7 : IVec S3x128x512 32 := addi main_v5 main_v6
  let main_v8 : IVec S3x128x512 1 := cmpi .eq main_v0 main_v7
  let main_cst : FVec F S_ .f32 := constant S_ .f32 0x3F800000#32
  let main_cst_1 : FVec F S_ .f32 := constant S_ .f32 0x00000000#32
  let main_v9 : FVec F S3x128x512 .f32 := fn_where (F := F) main_v8 main_cst main_cst_1
  let main_v10 : FVec F S3x128x512 .f32 := id main_v9
  let main_v11 : IVec S3x128x512 1 := cmpf .oeq main_arg14 main_v10
  let main_v12 : IVec S512x512 32 := iotaInDim S512x512 32 0
  let main_c_2 : IVec S_ 32 := constantI S_ 32 6#32
  let main_v13 : IVec S512x512 32 := broadcastInDim S512x512 ![] bcast_S_S512x512 main_c_2
  let main_v14 : IVec S512x512 32 := Host.shrui main_v12 main_v13
  let main_v15 : IVec S512x512 32 := iotaInDim S512x512 32 1
  let main_c_3 : IVec S_ 32 := constantI S_ 32 6#32
  let main_v16 : IVec S512x512 32 := broadcastInDim S512x512 ![] bcast_S_S512x512 main_c_3
  let main_v17 : IVec S512x512 32 := Host.shrui main_v15 main_v16
  fn_part1 (F := F) main_arg15 main_arg16 main_v11 main_v14 main_v17
-- ==== Kernel.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S16384x128 : Shape := ⟨2, ![16384, 128]⟩
abbrev S1x1024 : Shape := ⟨2, ![1, 1024]⟩
abbrev S1024x1024 : Shape := ⟨2, ![1024, 1024]⟩
abbrev S1024x128 : Shape := ⟨2, ![1024, 128]⟩
abbrev S2x1024x512 : Shape := ⟨3, ![2, 1024, 512]⟩
abbrev S2x512x1024 : Shape := ⟨3, ![2, 512, 1024]⟩
abbrev S128x1024 : Shape := ⟨2, ![128, 1024]⟩
abbrev S8x128 : Shape := ⟨2, ![8, 128]⟩
abbrev S1280x1024 : Shape := ⟨2, ![1280, 1024]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S160x1 : Shape := ⟨2, ![160, 1]⟩
abbrev S160x1024 : Shape := ⟨2, ![160, 1024]⟩
abbrev S160 : Shape := ⟨1, ![160]⟩
abbrev S1x1024x512 : Shape := ⟨3, ![1, 1024, 512]⟩
abbrev S1024x512 : Shape := ⟨2, ![1024, 512]⟩
abbrev S160x512 : Shape := ⟨2, ![160, 512]⟩
abbrev S1x512x1024 : Shape := ⟨3, ![1, 512, 1024]⟩
abbrev S512x1024 : Shape := ⟨2, ![512, 1024]⟩
abbrev S1024x1 : Shape := ⟨2, ![1024, 1]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x16, .f32⟩
  | .hbm, ⟨2, _⟩ => ⟨S16x1024x512, .f32⟩
  | .hbm, ⟨3, _⟩ => ⟨S16x1024x512, .f32⟩
  | .hbm, ⟨4, _⟩ => ⟨S16x512x1024, .f32⟩
  | .hbm, ⟨5, _⟩ => ⟨S1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S16384x128, .f32⟩
  | .hbm, ⟨10, _⟩ => ⟨S16x1024x512, .bf16⟩
  | .hbm, ⟨11, _⟩ => ⟨S16x1024x512, .bf16⟩
  | .hbm, ⟨12, _⟩ => ⟨S16x512x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S2x1024x512, .bf16⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .bf16⟩
  | .local _ .vmem, ⟨8, _⟩ => ⟨S2x512x1024, .bf16⟩
  | .local _ .vmem, ⟨9, _⟩ => ⟨S2x512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | .local _ .vmem, ⟨16, _⟩ => ⟨S128x1024, .f32⟩
  | .local _ .vmem, ⟨17, _⟩ => ⟨S128x1024, .f32⟩
  | .local _ .vmem, ⟨18, _⟩ => ⟨S8x128, .f32⟩
  | .local _ .vmem, ⟨19, _⟩ => ⟨S1280x1024, .bf16⟩
  | .local _ .vmem, ⟨20, _⟩ => ⟨S1280x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def k0_off1 (i : grid0.Coords) (c0_i32_1 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32_1
  let c4_i32 : BitVec 32 := 4#32
  let v6 : BitVec 32 := Scalar.addi v5 c4_i32
  let v7 : Index := Scalar.indexCast v6
  let c0 : Index := 0#32
  ![v7.toNat, 0]
def k0_mult1 (i : grid0.Coords) : BitVec 32 :=
  let arg1 : BitVec 32 := BitVec.ofNat 32 (i 1).val
  let c2_i32 : BitVec 32 := 2#32
  let v4 : BitVec 32 := Scalar.muli arg1 c2_i32
  let c0_i32_1 : BitVec 32 := 0#32
  let v5 : BitVec 32 := Scalar.addi v4 c0_i32_1
  let c8_i32 : BitVec 32 := 8#32
  let v23 : BitVec 32 := Scalar.remsi v5 c8_i32
  let c160_i32 : BitVec 32 := 160#32
  let v24 : BitVec 32 := Scalar.muli v23 c160_i32
  v24
def k0_off2 (i : grid0.Coords) (c0_i32_1 : BitVec 32) : Fin 2 → Nat :=
  let arg1 : BitVec 32 := BitVec.ofNat 32 (i 1).val
  let c2_i32 : BitVec 32 := 2#32
  let v4 : BitVec 32 := Scalar.muli arg1 c2_i32
  let v5 : BitVec 32 := Scalar.addi v4 c0_i32_1
  let c8_i32 : BitVec 32 := 8#32
  let v23 : BitVec 32 := Scalar.remsi v5 c8_i32
  let c160_i32 : BitVec 32 := 160#32
  let v24 : BitVec 32 := Scalar.muli v23 c160_i32
  let v25 : BitVec 32 := v24
  let v70 : Index := Scalar.indexCast v25
  let c0_32 : Index := 0#32
  ![v70.toNat, 0]
def k0_mult2 (i : grid0.Coords) : BitVec 32 :=
  let arg1 : BitVec 32 := BitVec.ofNat 32 (i 1).val
  let c2_i32_34 : BitVec 32 := 2#32
  let v78 : BitVec 32 := Scalar.muli arg1 c2_i32_34
  let c1_i32 : BitVec 32 := 1#32
  let v79 : BitVec 32 := Scalar.addi v78 c1_i32
  let c8_i32_44 : BitVec 32 := 8#32
  let v97 : BitVec 32 := Scalar.remsi v79 c8_i32_44
  let c160_i32_45 : BitVec 32 := 160#32
  let v98 : BitVec 32 := Scalar.muli v97 c160_i32_45
  v98
@[reducible] def k0_t1_loop (v22 : BitVec 32) : Scf.Loop 32 :=
  let c1_i32_81 : BitVec 32 := 1#32
  let c160_i32_71 : BitVec 32 := 160#32
  let v152 : BitVec 32 := Scalar.addi v22 c160_i32_71
  let c1_i32_72 : BitVec 32 := 1#32
  let v153 : BitVec 32 := Scalar.subi v152 c1_i32_72
  let c0_i32_74 : BitVec 32 := 0#32
  let v155 : BitVec 1 := Scalar.cmpi .sgt v153 c0_i32_74
  let v156 : BitVec 32 := Scalar.extui v155
  let c0_i32_75 : BitVec 32 := 0#32
  let v157 : BitVec 1 := Scalar.cmpi .slt v153 c0_i32_75
  let v158 : BitVec 32 := Scalar.extui v157
  let v159 : BitVec 32 := Scalar.subi v156 v158
  let c160_i32_73 : BitVec 32 := 160#32
  let c0_i32_76 : BitVec 32 := 0#32
  let v160 : BitVec 1 := Scalar.cmpi .sgt c160_i32_73 c0_i32_76
  let v161 : BitVec 32 := Scalar.extui v160
  let c0_i32_77 : BitVec 32 := 0#32
  let v162 : BitVec 1 := Scalar.cmpi .slt c160_i32_73 c0_i32_77
  let v163 : BitVec 32 := Scalar.extui v162
  let v164 : BitVec 32 := Scalar.subi v161 v163
  let v165 : BitVec 1 := Scalar.cmpi .ne v159 v164
  let v166 : BitVec 32 := Scalar.remsi v153 c160_i32_73
  let c0_i32_78 : BitVec 32 := 0#32
  let v167 : BitVec 1 := Scalar.cmpi .ne v166 c0_i32_78
  let v168 : BitVec 1 := Scalar.andi v165 v167
  let v154 : BitVec 32 := Scalar.divsi v153 c160_i32_73
  let c1_i32_79 : BitVec 32 := 1#32
  let v169 : BitVec 32 := Scalar.subi v154 c1_i32_79
  let v170 : BitVec 32 := Scalar.select v168 v169 v154
  let v171 : BitVec 32 := Scalar.subi v170 c1_i32_81
  let c1_i32_82 : BitVec 32 := 1#32
  let v173 : BitVec 32 := Scalar.divsi v171 c1_i32_82
  let v174 : BitVec 32 := Scalar.muli v173 c1_i32_82
  let v175 : BitVec 32 := Scalar.addi c1_i32_81 v174
  let c1_i32_83 : BitVec 32 := 1#32
  ⟨c1_i32_81, v175, c1_i32_83⟩

@[reducible] def k0_t2_loop (v22 : BitVec 32) : Scf.Loop 32 :=
  let c1_i32_81 : BitVec 32 := 1#32
  let c160_i32_71 : BitVec 32 := 160#32
  let v152 : BitVec 32 := Scalar.addi v22 c160_i32_71
  let c1_i32_72 : BitVec 32 := 1#32
  let v153 : BitVec 32 := Scalar.subi v152 c1_i32_72
  let c0_i32_74 : BitVec 32 := 0#32
  let v155 : BitVec 1 := Scalar.cmpi .sgt v153 c0_i32_74
  let v156 : BitVec 32 := Scalar.extui v155
  let c0_i32_75 : BitVec 32 := 0#32
  let v157 : BitVec 1 := Scalar.cmpi .slt v153 c0_i32_75
  let v158 : BitVec 32 := Scalar.extui v157
  let v159 : BitVec 32 := Scalar.subi v156 v158
  let c160_i32_73 : BitVec 32 := 160#32
  let c0_i32_76 : BitVec 32 := 0#32
  let v160 : BitVec 1 := Scalar.cmpi .sgt c160_i32_73 c0_i32_76
  let v161 : BitVec 32 := Scalar.extui v160
  let c0_i32_77 : BitVec 32 := 0#32
  let v162 : BitVec 1 := Scalar.cmpi .slt c160_i32_73 c0_i32_77
  let v163 : BitVec 32 := Scalar.extui v162
  let v164 : BitVec 32 := Scalar.subi v161 v163
  let v165 : BitVec 1 := Scalar.cmpi .ne v159 v164
  let v166 : BitVec 32 := Scalar.remsi v153 c160_i32_73
  let c0_i32_78 : BitVec 32 := 0#32
  let v167 : BitVec 1 := Scalar.cmpi .ne v166 c0_i32_78
  let v168 : BitVec 1 := Scalar.andi v165 v167
  let v154 : BitVec 32 := Scalar.divsi v153 c160_i32_73
  let c1_i32_79 : BitVec 32 := 1#32
  let v169 : BitVec 32 := Scalar.subi v154 c1_i32_79
  let v170 : BitVec 32 := Scalar.select v168 v169 v154
  let v171 : BitVec 32 := Scalar.subi v170 c1_i32_81
  let c1_i32_82 : BitVec 32 := 1#32
  let v173 : BitVec 32 := Scalar.divsi v171 c1_i32_82
  let v174 : BitVec 32 := Scalar.muli v173 c1_i32_82
  let v175 : BitVec 32 := Scalar.addi c1_i32_81 v174
  let v172 : BitVec 32 := Scalar.addi c1_i32_81 v171
  let c1_i32_84 : BitVec 32 := 1#32
  ⟨v175, v172, c1_i32_84⟩

def k0_chk1 (v22 : BitVec 32) : Prop :=
  ((k0_t1_loop v22).OK) ∧
  ((k0_t2_loop v22).OK)
theorem k0_t1_ok : ∀ (v22 : BitVec 32) (k0_hw1 : k0_chk1 v22), (k0_t1_loop v22).OK := fun v22 k0_hw1 => k0_hw1.1
theorem k0_t2_ok : ∀ (v22 : BitVec 32) (k0_hw1 : k0_chk1 v22), (k0_t2_loop v22).OK := fun v22 k0_hw1 => k0_hw1.2

@[reducible] def k0_t3_loop (v96 : BitVec 32) : Scf.Loop 32 :=
  let c1_i32_95 : BitVec 32 := 1#32
  let c160_i32_85 : BitVec 32 := 160#32
  let v176 : BitVec 32 := Scalar.addi v96 c160_i32_85
  let c1_i32_86 : BitVec 32 := 1#32
  let v177 : BitVec 32 := Scalar.subi v176 c1_i32_86
  let c0_i32_88 : BitVec 32 := 0#32
  let v179 : BitVec 1 := Scalar.cmpi .sgt v177 c0_i32_88
  let v180 : BitVec 32 := Scalar.extui v179
  let c0_i32_89 : BitVec 32 := 0#32
  let v181 : BitVec 1 := Scalar.cmpi .slt v177 c0_i32_89
  let v182 : BitVec 32 := Scalar.extui v181
  let v183 : BitVec 32 := Scalar.subi v180 v182
  let c160_i32_87 : BitVec 32 := 160#32
  let c0_i32_90 : BitVec 32 := 0#32
  let v184 : BitVec 1 := Scalar.cmpi .sgt c160_i32_87 c0_i32_90
  let v185 : BitVec 32 := Scalar.extui v184
  let c0_i32_91 : BitVec 32 := 0#32
  let v186 : BitVec 1 := Scalar.cmpi .slt c160_i32_87 c0_i32_91
  let v187 : BitVec 32 := Scalar.extui v186
  let v188 : BitVec 32 := Scalar.subi v185 v187
  let v189 : BitVec 1 := Scalar.cmpi .ne v183 v188
  let v190 : BitVec 32 := Scalar.remsi v177 c160_i32_87
  let c0_i32_92 : BitVec 32 := 0#32
  let v191 : BitVec 1 := Scalar.cmpi .ne v190 c0_i32_92
  let v192 : BitVec 1 := Scalar.andi v189 v191
  let v178 : BitVec 32 := Scalar.divsi v177 c160_i32_87
  let c1_i32_93 : BitVec 32 := 1#32
  let v193 : BitVec 32 := Scalar.subi v178 c1_i32_93
  let v194 : BitVec 32 := Scalar.select v192 v193 v178
  let v195 : BitVec 32 := Scalar.subi v194 c1_i32_95
  let c1_i32_96 : BitVec 32 := 1#32
  let v197 : BitVec 32 := Scalar.divsi v195 c1_i32_96
  let v198 : BitVec 32 := Scalar.muli v197 c1_i32_96
  let v199 : BitVec 32 := Scalar.addi c1_i32_95 v198
  let c1_i32_97 : BitVec 32 := 1#32
  ⟨c1_i32_95, v199, c1_i32_97⟩

@[reducible] def k0_t4_loop (v96 : BitVec 32) : Scf.Loop 32 :=
  let c1_i32_95 : BitVec 32 := 1#32
  let c160_i32_85 : BitVec 32 := 160#32
  let v176 : BitVec 32 := Scalar.addi v96 c160_i32_85
  let c1_i32_86 : BitVec 32 := 1#32
  let v177 : BitVec 32 := Scalar.subi v176 c1_i32_86
  let c0_i32_88 : BitVec 32 := 0#32
  let v179 : BitVec 1 := Scalar.cmpi .sgt v177 c0_i32_88
  let v180 : BitVec 32 := Scalar.extui v179
  let c0_i32_89 : BitVec 32 := 0#32
  let v181 : BitVec 1 := Scalar.cmpi .slt v177 c0_i32_89
  let v182 : BitVec 32 := Scalar.extui v181
  let v183 : BitVec 32 := Scalar.subi v180 v182
  let c160_i32_87 : BitVec 32 := 160#32
  let c0_i32_90 : BitVec 32 := 0#32
  let v184 : BitVec 1 := Scalar.cmpi .sgt c160_i32_87 c0_i32_90
  let v185 : BitVec 32 := Scalar.extui v184
  let c0_i32_91 : BitVec 32 := 0#32
  let v186 : BitVec 1 := Scalar.cmpi .slt c160_i32_87 c0_i32_91
  let v187 : BitVec 32 := Scalar.extui v186
  let v188 : BitVec 32 := Scalar.subi v185 v187
  let v189 : BitVec 1 := Scalar.cmpi .ne v183 v188
  let v190 : BitVec 32 := Scalar.remsi v177 c160_i32_87
  let c0_i32_92 : BitVec 32 := 0#32
  let v191 : BitVec 1 := Scalar.cmpi .ne v190 c0_i32_92
  let v192 : BitVec 1 := Scalar.andi v189 v191
  let v178 : BitVec 32 := Scalar.divsi v177 c160_i32_87
  let c1_i32_93 : BitVec 32 := 1#32
  let v193 : BitVec 32 := Scalar.subi v178 c1_i32_93
  let v194 : BitVec 32 := Scalar.select v192 v193 v178
  let v195 : BitVec 32 := Scalar.subi v194 c1_i32_95
  let c1_i32_96 : BitVec 32 := 1#32
  let v197 : BitVec 32 := Scalar.divsi v195 c1_i32_96
  let v198 : BitVec 32 := Scalar.muli v197 c1_i32_96
  let v199 : BitVec 32 := Scalar.addi c1_i32_95 v198
  let v196 : BitVec 32 := Scalar.addi c1_i32_95 v195
  let c1_i32_98 : BitVec 32 := 1#32
  ⟨v199, v196, c1_i32_98⟩

def k0_chk2 (v96 : BitVec 32) : Prop :=
  ((k0_t3_loop v96).OK) ∧
  ((k0_t4_loop v96).OK)
theorem k0_t3_ok : ∀ (v96 : BitVec 32) (k0_hw2 : k0_chk2 v96), (k0_t3_loop v96).OK := fun v96 k0_hw2 => k0_hw2.1
theorem k0_t4_ok : ∀ (v96 : BitVec 32) (k0_hw2 : k0_chk2 v96), (k0_t4_loop v96).OK := fun v96 k0_hw2 => k0_hw2.2

def k0_cond3 (i : grid0.Coords) : BitVec 1 :=
  let arg1 : BitVec 32 := BitVec.ofNat 32 (i 1).val
  let c7_i32 : BitVec 32 := 7#32
  let v204 : BitVec 1 := Scalar.cmpi .eq arg1 c7_i32
  let v205 : BitVec 32 := Scalar.extui v204
  let c0_i32_101 : BitVec 32 := 0#32
  let v206 : BitVec 1 := Scalar.cmpi .ne v205 c0_i32_101
  v206

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x1024 : Shape := ⟨2, ![16384, 1024]⟩
abbrev S16384x16 : Shape := ⟨2, ![16384, 16]⟩
abbrev S16x1024x512 : Shape := ⟨3, ![16, 1024, 512]⟩
abbrev S16x512x1024 : Shape := ⟨3, ![16, 512, 1024]⟩
abbrev S1024 : Shape := ⟨1, ![1024]⟩
abbrev S_ : Shape := ⟨0, ![]⟩
abbrev S1x1024x512 : Shape := ⟨3, ![1, 1024, 512]⟩
abbrev S1024x512 : Shape := ⟨2, ![1024, 512]⟩
abbrev S16384x512 : Shape := ⟨2, ![16384, 512]⟩
abbrev S16384x1 : Shape := ⟨2, ![16384, 1]⟩
abbrev S1x512x1024 : Shape := ⟨3, ![1, 512, 1024]⟩
abbrev S512x1024 : Shape := ⟨2, ![512, 1024]⟩
abbrev S16384 : Shape := ⟨1, ![16384]⟩
abbrev S1x1024 : Shape := ⟨2, ![1, 1024]⟩

abbrev nBuf : Space → Nat
  | .hbm => 410
  | .vmem => 0
  | .smem => 0
  | _ => 0

abbrev hbmTy0_0 (i : Nat) : BufTy := match i % 128 with
  | 0 => ⟨S16384x1024, .f32⟩
  | 1 => ⟨S16384x16, .f32⟩
  | 2 => ⟨S16x1024x512, .f32⟩
  | 3 => ⟨S16x1024x512, .f32⟩
  | 4 => ⟨S16x512x1024, .f32⟩
  | 5 => ⟨S1024, .f32⟩
  | 6 => ⟨S1024, .f32⟩
  | 7 => ⟨S_, .f32⟩
  | 8 => ⟨S16384x1024, .f32⟩
  | 9 => ⟨S1x1024x512, .f32⟩
  | 10 => ⟨S1024x512, .f32⟩
  | 11 => ⟨S16384x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S16384x512, .f32⟩
  | 21 => ⟨S1x1024x512, .f32⟩
  | 22 => ⟨S1024x512, .f32⟩
  | 23 => ⟨S16384x512, .f32⟩
  | 24 => ⟨S16384x512, .f32⟩
  | 25 => ⟨S16384x1, .f32⟩
  | 26 => ⟨S1x512x1024, .f32⟩
  | 27 => ⟨S512x1024, .f32⟩
  | 28 => ⟨S16384x1024, .f32⟩
  | 29 => ⟨S16384x1024, .f32⟩
  | 30 => ⟨S16384x1024, .f32⟩
  | 31 => ⟨S16384x1024, .f32⟩
  | 32 => ⟨S1x1024x512, .f32⟩
  | 33 => ⟨S1024x512, .f32⟩
  | 34 => ⟨S16384x512, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S_, .f32⟩
  | 41 => ⟨S16384x512, .f32⟩
  | 42 => ⟨S16384x512, .f32⟩
  | 43 => ⟨S16384x512, .f32⟩
  | 44 => ⟨S1x1024x512, .f32⟩
  | 45 => ⟨S1024x512, .f32⟩
  | 46 => ⟨S16384x512, .f32⟩
  | 47 => ⟨S16384x512, .f32⟩
  | 48 => ⟨S16384x1, .f32⟩
  | 49 => ⟨S1x512x1024, .f32⟩
  | 50 => ⟨S512x1024, .f32⟩
  | 51 => ⟨S16384x1024, .f32⟩
  | 52 => ⟨S16384x1024, .f32⟩
  | 53 => ⟨S16384x1024, .f32⟩
  | 54 => ⟨S16384x1024, .f32⟩
  | 55 => ⟨S1x1024x512, .f32⟩
  | 56 => ⟨S1024x512, .f32⟩
  | 57 => ⟨S16384x512, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S1x1024x512, .f32⟩
  | 68 => ⟨S1024x512, .f32⟩
  | 69 => ⟨S16384x512, .f32⟩
  | 70 => ⟨S16384x512, .f32⟩
  | 71 => ⟨S16384x1, .f32⟩
  | 72 => ⟨S1x512x1024, .f32⟩
  | 73 => ⟨S512x1024, .f32⟩
  | 74 => ⟨S16384x1024, .f32⟩
  | 75 => ⟨S16384x1024, .f32⟩
  | 76 => ⟨S16384x1024, .f32⟩
  | 77 => ⟨S16384x1024, .f32⟩
  | 78 => ⟨S1x1024x512, .f32⟩
  | 79 => ⟨S1024x512, .f32⟩
  | 80 => ⟨S16384x512, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x512, .f32⟩
  | 90 => ⟨S1x1024x512, .f32⟩
  | 91 => ⟨S1024x512, .f32⟩
  | 92 => ⟨S16384x512, .f32⟩
  | 93 => ⟨S16384x512, .f32⟩
  | 94 => ⟨S16384x1, .f32⟩
  | 95 => ⟨S1x512x1024, .f32⟩
  | 96 => ⟨S512x1024, .f32⟩
  | 97 => ⟨S16384x1024, .f32⟩
  | 98 => ⟨S16384x1024, .f32⟩
  | 99 => ⟨S16384x1024, .f32⟩
  | 100 => ⟨S16384x1024, .f32⟩
  | 101 => ⟨S1x1024x512, .f32⟩
  | 102 => ⟨S1024x512, .f32⟩
  | 103 => ⟨S16384x512, .f32⟩
  | 104 => ⟨S16384x512, .f32⟩
  | 105 => ⟨S16384x512, .f32⟩
  | 106 => ⟨S_, .f32⟩
  | 107 => ⟨S16384x512, .f32⟩
  | 108 => ⟨S16384x512, .f32⟩
  | 109 => ⟨S_, .f32⟩
  | 110 => ⟨S16384x512, .f32⟩
  | 111 => ⟨S16384x512, .f32⟩
  | 112 => ⟨S16384x512, .f32⟩
  | 113 => ⟨S1x1024x512, .f32⟩
  | 114 => ⟨S1024x512, .f32⟩
  | 115 => ⟨S16384x512, .f32⟩
  | 116 => ⟨S16384x512, .f32⟩
  | 117 => ⟨S16384x1, .f32⟩
  | 118 => ⟨S1x512x1024, .f32⟩
  | 119 => ⟨S512x1024, .f32⟩
  | 120 => ⟨S16384x1024, .f32⟩
  | 121 => ⟨S16384x1024, .f32⟩
  | 122 => ⟨S16384x1024, .f32⟩
  | 123 => ⟨S16384x1024, .f32⟩
  | 124 => ⟨S1x1024x512, .f32⟩
  | 125 => ⟨S1024x512, .f32⟩
  | 126 => ⟨S16384x512, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S16384x512, .f32⟩
  | 8 => ⟨S1x1024x512, .f32⟩
  | 9 => ⟨S1024x512, .f32⟩
  | 10 => ⟨S16384x512, .f32⟩
  | 11 => ⟨S16384x512, .f32⟩
  | 12 => ⟨S16384x1, .f32⟩
  | 13 => ⟨S1x512x1024, .f32⟩
  | 14 => ⟨S512x1024, .f32⟩
  | 15 => ⟨S16384x1024, .f32⟩
  | 16 => ⟨S16384x1024, .f32⟩
  | 17 => ⟨S16384x1024, .f32⟩
  | 18 => ⟨S16384x1024, .f32⟩
  | 19 => ⟨S1x1024x512, .f32⟩
  | 20 => ⟨S1024x512, .f32⟩
  | 21 => ⟨S16384x512, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S_, .f32⟩
  | 28 => ⟨S16384x512, .f32⟩
  | 29 => ⟨S16384x512, .f32⟩
  | 30 => ⟨S16384x512, .f32⟩
  | 31 => ⟨S1x1024x512, .f32⟩
  | 32 => ⟨S1024x512, .f32⟩
  | 33 => ⟨S16384x512, .f32⟩
  | 34 => ⟨S16384x512, .f32⟩
  | 35 => ⟨S16384x1, .f32⟩
  | 36 => ⟨S1x512x1024, .f32⟩
  | 37 => ⟨S512x1024, .f32⟩
  | 38 => ⟨S16384x1024, .f32⟩
  | 39 => ⟨S16384x1024, .f32⟩
  | 40 => ⟨S16384x1024, .f32⟩
  | 41 => ⟨S16384x1024, .f32⟩
  | 42 => ⟨S1x1024x512, .f32⟩
  | 43 => ⟨S1024x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S16384x512, .f32⟩
  | 54 => ⟨S1x1024x512, .f32⟩
  | 55 => ⟨S1024x512, .f32⟩
  | 56 => ⟨S16384x512, .f32⟩
  | 57 => ⟨S16384x512, .f32⟩
  | 58 => ⟨S16384x1, .f32⟩
  | 59 => ⟨S1x512x1024, .f32⟩
  | 60 => ⟨S512x1024, .f32⟩
  | 61 => ⟨S16384x1024, .f32⟩
  | 62 => ⟨S16384x1024, .f32⟩
  | 63 => ⟨S16384x1024, .f32⟩
  | 64 => ⟨S16384x1024, .f32⟩
  | 65 => ⟨S1x1024x512, .f32⟩
  | 66 => ⟨S1024x512, .f32⟩
  | 67 => ⟨S16384x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S_, .f32⟩
  | 74 => ⟨S16384x512, .f32⟩
  | 75 => ⟨S16384x512, .f32⟩
  | 76 => ⟨S16384x512, .f32⟩
  | 77 => ⟨S1x1024x512, .f32⟩
  | 78 => ⟨S1024x512, .f32⟩
  | 79 => ⟨S16384x512, .f32⟩
  | 80 => ⟨S16384x512, .f32⟩
  | 81 => ⟨S16384x1, .f32⟩
  | 82 => ⟨S1x512x1024, .f32⟩
  | 83 => ⟨S512x1024, .f32⟩
  | 84 => ⟨S16384x1024, .f32⟩
  | 85 => ⟨S16384x1024, .f32⟩
  | 86 => ⟨S16384x1024, .f32⟩
  | 87 => ⟨S16384x1024, .f32⟩
  | 88 => ⟨S1x1024x512, .f32⟩
  | 89 => ⟨S1024x512, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S1x1024x512, .f32⟩
  | 101 => ⟨S1024x512, .f32⟩
  | 102 => ⟨S16384x512, .f32⟩
  | 103 => ⟨S16384x512, .f32⟩
  | 104 => ⟨S16384x1, .f32⟩
  | 105 => ⟨S1x512x1024, .f32⟩
  | 106 => ⟨S512x1024, .f32⟩
  | 107 => ⟨S16384x1024, .f32⟩
  | 108 => ⟨S16384x1024, .f32⟩
  | 109 => ⟨S16384x1024, .f32⟩
  | 110 => ⟨S16384x1024, .f32⟩
  | 111 => ⟨S1x1024x512, .f32⟩
  | 112 => ⟨S1024x512, .f32⟩
  | 113 => ⟨S16384x512, .f32⟩
  | 114 => ⟨S16384x512, .f32⟩
  | 115 => ⟨S16384x512, .f32⟩
  | 116 => ⟨S_, .f32⟩
  | 117 => ⟨S16384x512, .f32⟩
  | 118 => ⟨S16384x512, .f32⟩
  | 119 => ⟨S_, .f32⟩
  | 120 => ⟨S16384x512, .f32⟩
  | 121 => ⟨S16384x512, .f32⟩
  | 122 => ⟨S16384x512, .f32⟩
  | 123 => ⟨S1x1024x512, .f32⟩
  | 124 => ⟨S1024x512, .f32⟩
  | 125 => ⟨S16384x512, .f32⟩
  | 126 => ⟨S16384x512, .f32⟩
  | 127 => ⟨S16384x1, .f32⟩
  | _ => ⟨S16384x1024, .f32⟩

abbrev hbmTy0_2 (i : Nat) : BufTy := match i % 128 with
  | 0 => ⟨S1x512x1024, .f32⟩
  | 1 => ⟨S512x1024, .f32⟩
  | 2 => ⟨S16384x1024, .f32⟩
  | 3 => ⟨S16384x1024, .f32⟩
  | 4 => ⟨S16384x1024, .f32⟩
  | 5 => ⟨S16384x1024, .f32⟩
  | 6 => ⟨S1x1024x512, .f32⟩
  | 7 => ⟨S1024x512, .f32⟩
  | 8 => ⟨S16384x512, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S1x1024x512, .f32⟩
  | 19 => ⟨S1024x512, .f32⟩
  | 20 => ⟨S16384x512, .f32⟩
  | 21 => ⟨S16384x512, .f32⟩
  | 22 => ⟨S16384x1, .f32⟩
  | 23 => ⟨S1x512x1024, .f32⟩
  | 24 => ⟨S512x1024, .f32⟩
  | 25 => ⟨S16384x1024, .f32⟩
  | 26 => ⟨S16384x1024, .f32⟩
  | 27 => ⟨S16384x1024, .f32⟩
  | 28 => ⟨S16384x1024, .f32⟩
  | 29 => ⟨S1x1024x512, .f32⟩
  | 30 => ⟨S1024x512, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S_, .f32⟩
  | 38 => ⟨S16384x512, .f32⟩
  | 39 => ⟨S16384x512, .f32⟩
  | 40 => ⟨S16384x512, .f32⟩
  | 41 => ⟨S1x1024x512, .f32⟩
  | 42 => ⟨S1024x512, .f32⟩
  | 43 => ⟨S16384x512, .f32⟩
  | 44 => ⟨S16384x512, .f32⟩
  | 45 => ⟨S16384x1, .f32⟩
  | 46 => ⟨S1x512x1024, .f32⟩
  | 47 => ⟨S512x1024, .f32⟩
  | 48 => ⟨S16384x1024, .f32⟩
  | 49 => ⟨S16384x1024, .f32⟩
  | 50 => ⟨S16384x1024, .f32⟩
  | 51 => ⟨S16384x1024, .f32⟩
  | 52 => ⟨S1x1024x512, .f32⟩
  | 53 => ⟨S1024x512, .f32⟩
  | 54 => ⟨S16384x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S_, .f32⟩
  | 61 => ⟨S16384x512, .f32⟩
  | 62 => ⟨S16384x512, .f32⟩
  | 63 => ⟨S16384x512, .f32⟩
  | 64 => ⟨S1x1024x512, .f32⟩
  | 65 => ⟨S1024x512, .f32⟩
  | 66 => ⟨S16384x512, .f32⟩
  | 67 => ⟨S16384x512, .f32⟩
  | 68 => ⟨S16384x1, .f32⟩
  | 69 => ⟨S1x512x1024, .f32⟩
  | 70 => ⟨S512x1024, .f32⟩
  | 71 => ⟨S16384x1024, .f32⟩
  | 72 => ⟨S16384x1024, .f32⟩
  | 73 => ⟨S16384x1024, .f32⟩
  | 74 => ⟨S16384x1024, .f32⟩
  | 75 => ⟨S1x1024x512, .f32⟩
  | 76 => ⟨S1024x512, .f32⟩
  | 77 => ⟨S16384x512, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S16384x512, .f32⟩
  | 87 => ⟨S1x1024x512, .f32⟩
  | 88 => ⟨S1024x512, .f32⟩
  | 89 => ⟨S16384x512, .f32⟩
  | 90 => ⟨S16384x512, .f32⟩
  | 91 => ⟨S16384x1, .f32⟩
  | 92 => ⟨S1x512x1024, .f32⟩
  | 93 => ⟨S512x1024, .f32⟩
  | 94 => ⟨S16384x1024, .f32⟩
  | 95 => ⟨S16384x1024, .f32⟩
  | 96 => ⟨S16384x1024, .f32⟩
  | 97 => ⟨S16384x1024, .f32⟩
  | 98 => ⟨S1x1024x512, .f32⟩
  | 99 => ⟨S1024x512, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S_, .f32⟩
  | 107 => ⟨S16384x512, .f32⟩
  | 108 => ⟨S16384x512, .f32⟩
  | 109 => ⟨S16384x512, .f32⟩
  | 110 => ⟨S1x1024x512, .f32⟩
  | 111 => ⟨S1024x512, .f32⟩
  | 112 => ⟨S16384x512, .f32⟩
  | 113 => ⟨S16384x512, .f32⟩
  | 114 => ⟨S16384x1, .f32⟩
  | 115 => ⟨S1x512x1024, .f32⟩
  | 116 => ⟨S512x1024, .f32⟩
  | 117 => ⟨S16384x1024, .f32⟩
  | 118 => ⟨S16384x1024, .f32⟩
  | 119 => ⟨S16384x1024, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S16384, .f32⟩
  | 127 => ⟨S16384x1, .f32⟩
  | _ => ⟨S16384x1024, .f32⟩

abbrev hbmTy0_3 (i : Nat) : BufTy := match i % 128 with
  | 0 => ⟨S_, .f32⟩
  | 1 => ⟨S16384x1, .f32⟩
  | 2 => ⟨S16384x1, .f32⟩
  | 3 => ⟨S16384x1024, .f32⟩
  | 4 => ⟨S16384x1024, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S16384x1024, .f32⟩
  | 13 => ⟨S16384x1024, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_call8_v0 : Ref sig .tc := ⟨.hbm, 196, rfl⟩
abbrev main_call8_v1 : Ref sig .tc := ⟨.hbm, 197, rfl⟩
abbrev main_call8_cst : Ref sig .tc := ⟨.hbm, 198, rfl⟩
abbrev main_call8_v2 : Ref sig .tc := ⟨.hbm, 199, rfl⟩
abbrev main_call8_v3 : Ref sig .tc := ⟨.hbm, 200, rfl⟩
abbrev main_call8_cst_0 : Ref sig .tc := ⟨.hbm, 201, rfl⟩
abbrev main_call8_v4 : Ref sig .tc := ⟨.hbm, 202, rfl⟩
abbrev main_call8_v5 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_call9_v0 : Ref sig .tc := ⟨.hbm, 219, rfl⟩
abbrev main_call9_v1 : Ref sig .tc := ⟨.hbm, 220, rfl⟩
abbrev main_call9_cst : Ref sig .tc := ⟨.hbm, 221, rfl⟩
abbrev main_call9_v2 : Ref sig .tc := ⟨.hbm, 222, rfl⟩
abbrev main_call9_v3 : Ref sig .tc := ⟨.hbm, 223, rfl⟩
abbrev main_call9_cst_0 : Ref sig .tc := ⟨.hbm, 224, rfl⟩
abbrev main_call9_v4 : Ref sig .tc := ⟨.hbm, 225, rfl⟩
abbrev main_call9_v5 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_call10_v0 : Ref sig .tc := ⟨.hbm, 242, rfl⟩
abbrev main_call10_v1 : Ref sig .tc := ⟨.hbm, 243, rfl⟩
abbrev main_call10_cst : Ref sig .tc := ⟨.hbm, 244, rfl⟩
abbrev main_call10_v2 : Ref sig .tc := ⟨.hbm, 245, rfl⟩
abbrev main_call10_v3 : Ref sig .tc := ⟨.hbm, 246, rfl⟩
abbrev main_call10_cst_0 : Ref sig .tc := ⟨.hbm, 247, rfl⟩
abbrev main_call10_v4 : Ref sig .tc := ⟨.hbm, 248, rfl⟩
abbrev main_call10_v5 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_call11_v0 : Ref sig .tc := ⟨.hbm, 265, rfl⟩
abbrev main_call11_v1 : Ref sig .tc := ⟨.hbm, 266, rfl⟩
abbrev main_call11_cst : Ref sig .tc := ⟨.hbm, 267, rfl⟩
abbrev main_call11_v2 : Ref sig .tc := ⟨.hbm, 268, rfl⟩
abbrev main_call11_v3 : Ref sig .tc := ⟨.hbm, 269, rfl⟩
abbrev main_call11_cst_0 : Ref sig .tc := ⟨.hbm, 270, rfl⟩
abbrev main_call11_v4 : Ref sig .tc := ⟨.hbm, 271, rfl⟩
abbrev main_call11_v5 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_call12_v0 : Ref sig .tc := ⟨.hbm, 288, rfl⟩
abbrev main_call12_v1 : Ref sig .tc := ⟨.hbm, 289, rfl⟩
abbrev main_call12_cst : Ref sig .tc := ⟨.hbm, 290, rfl⟩
abbrev main_call12_v2 : Ref sig .tc := ⟨.hbm, 291, rfl⟩
abbrev main_call12_v3 : Ref sig .tc := ⟨.hbm, 292, rfl⟩
abbrev main_call12_cst_0 : Ref sig .tc := ⟨.hbm, 293, rfl⟩
abbrev main_call12_v4 : Ref sig .tc := ⟨.hbm, 294, rfl⟩
abbrev main_call12_v5 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_call13_v0 : Ref sig .tc := ⟨.hbm, 311, rfl⟩
abbrev main_call13_v1 : Ref sig .tc := ⟨.hbm, 312, rfl⟩
abbrev main_call13_cst : Ref sig .tc := ⟨.hbm, 313, rfl⟩
abbrev main_call13_v2 : Ref sig .tc := ⟨.hbm, 314, rfl⟩
abbrev main_call13_v3 : Ref sig .tc := ⟨.hbm, 315, rfl⟩
abbrev main_call13_cst_0 : Ref sig .tc := ⟨.hbm, 316, rfl⟩
abbrev main_call13_v4 : Ref sig .tc := ⟨.hbm, 317, rfl⟩
abbrev main_call13_v5 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_call14_v0 : Ref sig .tc := ⟨.hbm, 334, rfl⟩
abbrev main_call14_v1 : Ref sig .tc := ⟨.hbm, 335, rfl⟩
abbrev main_call14_cst : Ref sig .tc := ⟨.hbm, 336, rfl⟩
abbrev main_call14_v2 : Ref sig .tc := ⟨.hbm, 337, rfl⟩
abbrev main_call14_v3 : Ref sig .tc := ⟨.hbm, 338, rfl⟩
abbrev main_call14_cst_0 : Ref sig .tc := ⟨.hbm, 339, rfl⟩
abbrev main_call14_v4 : Ref sig .tc := ⟨.hbm, 340, rfl⟩
abbrev main_call14_v5 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_v219 : Ref sig .tc := ⟨.hbm, 347, rfl⟩
abbrev main_v220 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_call15_v0 : Ref sig .tc := ⟨.hbm, 357, rfl⟩
abbrev main_call15_v1 : Ref sig .tc := ⟨.hbm, 358, rfl⟩
abbrev main_call15_cst : Ref sig .tc := ⟨.hbm, 359, rfl⟩
abbrev main_call15_v2 : Ref sig .tc := ⟨.hbm, 360, rfl⟩
abbrev main_call15_v3 : Ref sig .tc := ⟨.hbm, 361, rfl⟩
abbrev main_call15_cst_0 : Ref sig .tc := ⟨.hbm, 362, rfl⟩
abbrev main_call15_v4 : Ref sig .tc := ⟨.hbm, 363, rfl⟩
abbrev main_call15_v5 : Ref sig .tc := ⟨.hbm, 364, rfl⟩
abbrev main_v229 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_v235 : Ref sig .tc := ⟨.hbm, 371, rfl⟩
abbrev main_v236 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_cst_0 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_cst_1 : Ref sig .tc := ⟨.hbm, 381, rfl⟩
abbrev main_v244 : Ref sig .tc := ⟨.hbm, 382, rfl⟩
abbrev main_v245 : Ref sig .tc := ⟨.hbm, 383, rfl⟩
abbrev main_cst_2 : Ref sig .tc := ⟨.hbm, 384, rfl⟩
abbrev main_v246 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_3 : Ref sig .tc := ⟨.hbm, 390, rfl⟩
abbrev main_v251 : Ref sig .tc := ⟨.hbm, 391, rfl⟩
abbrev main_v252 : Ref sig .tc := ⟨.hbm, 392, rfl⟩
abbrev main_cst_4 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_cst_5 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_v265 : Ref sig .tc := ⟨.hbm, 407, rfl⟩
abbrev main_v266 : Ref sig .tc := ⟨.hbm, 408, rfl⟩
abbrev main_v267 : Ref sig .tc := ⟨.hbm, 409, rfl⟩

abbrev nD : Nat := 1
abbrev τ : Topo := Topo.v7x

variable {F : FTy → Type} [FloatOps F]
-- ==== Kernel2.lean ====
abbrev S16384x1024 : Shape := ⟨2, ![16384, 1024]⟩
abbrev S1024x2840 : Shape := ⟨2, ![1024, 2840]⟩
abbrev S1024x256 : Shape := ⟨2, ![1024, 256]⟩
abbrev S1024x512 : Shape := ⟨2, ![1024, 512]⟩
abbrev S1024x128 : Shape := ⟨2, ![1024, 128]⟩
abbrev S1024x24 : Shape := ⟨2, ![1024, 24]⟩
abbrev S_ : Shape := ⟨0, ![]⟩
abbrev S1024x104 : Shape := ⟨2, ![1024, 104]⟩
abbrev S1024x64 : Shape := ⟨2, ![1024, 64]⟩
abbrev S1024x2752 : Shape := ⟨2, ![1024, 2752]⟩
abbrev S1024x192 : Shape := ⟨2, ![1024, 192]⟩
abbrev S1024x2944 : Shape := ⟨2, ![1024, 2944]⟩
abbrev S256x1024 : Shape := ⟨2, ![256, 1024]⟩
abbrev S16384x2432 : Shape := ⟨2, ![16384, 2432]⟩
abbrev S2x2x8192x256 : Shape := ⟨4, ![2, 2, 8192, 256]⟩
abbrev S2x2x8192x128 : Shape := ⟨4, ![2, 2, 8192, 128]⟩
abbrev S2x2x16x80x512 : Shape := ⟨5, ![2, 2, 16, 80, 512]⟩
abbrev S2x2x64x80x128 : Shape := ⟨5, ![2, 2, 64, 80, 128]⟩
abbrev S512x1024 : Shape := ⟨2, ![512, 1024]⟩
abbrev S512x2432 : Shape := ⟨2, ![512, 2432]⟩
abbrev S1x2x512x256 : Shape := ⟨4, ![1, 2, 512, 256]⟩
abbrev S1x2x512x128 : Shape := ⟨4, ![1, 2, 512, 128]⟩
abbrev S1x2x1x80x512 : Shape := ⟨5, ![1, 2, 1, 80, 512]⟩
abbrev S1x2x4x80x128 : Shape := ⟨5, ![1, 2, 4, 80, 128]⟩
abbrev S512x2944 : Shape := ⟨2, ![512, 2944]⟩
abbrev S512x128 : Shape := ⟨2, ![512, 128]⟩
abbrev S1x1x512x128 : Shape := ⟨4, ![1, 1, 512, 128]⟩
abbrev S256x512 : Shape := ⟨2, ![256, 512]⟩
abbrev S16x512 : Shape := ⟨2, ![16, 512]⟩
abbrev S16x128 : Shape := ⟨2, ![16, 128]⟩
abbrev S64x512 : Shape := ⟨2, ![64, 512]⟩
abbrev S1x1x1x64x512 : Shape := ⟨5, ![1, 1, 1, 64, 512]⟩
abbrev S1x1x1x16x512 : Shape := ⟨5, ![1, 1, 1, 16, 512]⟩
abbrev S64x128 : Shape := ⟨2, ![64, 128]⟩
abbrev S1x1x1x64x128 : Shape := ⟨5, ![1, 1, 1, 64, 128]⟩
abbrev S1x1x1x16x128 : Shape := ⟨5, ![1, 1, 1, 16, 128]⟩

abbrev nBuf : Space → Nat
  | .hbm => 34
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x2840, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x24, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x104, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x2752, .f32⟩
  | .hbm, ⟨23, _⟩ => ⟨S1024x192, .f32⟩
  | .hbm, ⟨24, _⟩ => ⟨S1024x2944, .f32⟩
  | .hbm, ⟨25, _⟩ => ⟨S1024x256, .f32⟩
  | .hbm, ⟨26, _⟩ => ⟨S256x1024, .f32⟩
  | .hbm, ⟨27, _⟩ => ⟨S1024x2944, .bf16⟩
  | .hbm, ⟨28, _⟩ => ⟨S256x1024, .bf16⟩
  | .hbm, ⟨29, _⟩ => ⟨S16384x2432, .f32⟩
  | .hbm, ⟨30, _⟩ => ⟨S2x2x8192x256, .bf16⟩
  | .hbm, ⟨31, _⟩ => ⟨S2x2x8192x128, .bf16⟩
  | .hbm, ⟨32, _⟩ => ⟨S2x2x16x80x512, .bf16⟩
  | .hbm, ⟨33, _⟩ => ⟨S2x2x64x80x128, .bf16⟩
  | .local _ .vmem, ⟨0, _⟩ => ⟨S512x1024, .f32⟩
  | .local _ .vmem, ⟨1, _⟩ => ⟨S512x1024, .f32⟩
  | .local _ .vmem, ⟨2, _⟩ => ⟨S1024x2944, .bf16⟩
  | .local _ .vmem, ⟨3, _⟩ => ⟨S256x1024, .bf16⟩
  | .local _ .vmem, ⟨4, _⟩ => ⟨S512x2432, .f32⟩
  | .local _ .vmem, ⟨5, _⟩ => ⟨S512x2432, .f32⟩
  | .local _ .vmem, ⟨6, _⟩ => ⟨S1x2x512x256, .bf16⟩
  | .local _ .vmem, ⟨7, _⟩ => ⟨S1x2x512x256, .bf16⟩
  | .local _ .vmem, ⟨8, _⟩ => ⟨S1x2x512x128, .bf16⟩
  | .local _ .vmem, ⟨9, _⟩ => ⟨S1x2x512x128, .bf16⟩
  | .local _ .vmem, ⟨10, _⟩ => ⟨S1x2x1x80x512, .bf16⟩
  | .local _ .vmem, ⟨11, _⟩ => ⟨S1x2x1x80x512, .bf16⟩
  | .local _ .vmem, ⟨12, _⟩ => ⟨S1x2x4x80x128, .bf16⟩
  | .local _ .vmem, ⟨13, _⟩ => ⟨S1x2x4x80x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26_0 : Ref sig .tc := ⟨.hbm, 29, rfl⟩
abbrev main_v26_1 : Ref sig .tc := ⟨.hbm, 30, rfl⟩
abbrev main_v26_2 : Ref sig .tc := ⟨.hbm, 31, rfl⟩
abbrev main_v26_3 : Ref sig .tc := ⟨.hbm, 32, rfl⟩
abbrev main_v26_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x80x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4x80x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x1024 : Shape := ⟨2, ![16384, 1024]⟩
abbrev S1024x2840 : Shape := ⟨2, ![1024, 2840]⟩
abbrev S16384x2840 : Shape := ⟨2, ![16384, 2840]⟩
abbrev S16384x256 : Shape := ⟨2, ![16384, 256]⟩
abbrev S16384x512 : Shape := ⟨2, ![16384, 512]⟩
abbrev S16384x128 : Shape := ⟨2, ![16384, 128]⟩
abbrev S16384x24 : Shape := ⟨2, ![16384, 24]⟩
abbrev S_ : Shape := ⟨0, ![]⟩
abbrev S16384x104 : Shape := ⟨2, ![16384, 104]⟩
abbrev S16384x2432 : Shape := ⟨2, ![16384, 2432]⟩
abbrev S2x8192x2x64 : Shape := ⟨4, ![2, 8192, 2, 64]⟩
abbrev S2x2x8192x64 : Shape := ⟨4, ![2, 2, 8192, 64]⟩
abbrev S128x128 : Shape := ⟨2, ![128, 128]⟩
abbrev S128x1x128 : Shape := ⟨3, ![128, 1, 128]⟩
abbrev S2x2x128x64x128 : Shape := ⟨5, ![2, 2, 128, 64, 128]⟩
abbrev S2x2x8192x128 : Shape := ⟨4, ![2, 2, 8192, 128]⟩
abbrev S2x2x8192x256 : Shape := ⟨4, ![2, 2, 8192, 256]⟩
abbrev S2x16x512x2x64 : Shape := ⟨5, ![2, 16, 512, 2, 64]⟩
abbrev S2x2x16x64x512 : Shape := ⟨5, ![2, 2, 16, 64, 512]⟩
abbrev S2x2x16x1x512 : Shape := ⟨5, ![2, 2, 16, 1, 512]⟩
abbrev S2x2x16x15x512 : Shape := ⟨5, ![2, 2, 16, 15, 512]⟩
abbrev S2x2x16x80x512 : Shape := ⟨5, ![2, 2, 16, 80, 512]⟩
abbrev S2x64x128x2x64 : Shape := ⟨5, ![2, 64, 128, 2, 64]⟩
abbrev S2x2x64x64x128 : Shape := ⟨5, ![2, 2, 64, 64, 128]⟩
abbrev S2x2x64x1x128 : Shape := ⟨5, ![2, 2, 64, 1, 128]⟩
abbrev S2x2x64x15x128 : Shape := ⟨5, ![2, 2, 64, 15, 128]⟩
abbrev S2x2x64x80x128 : Shape := ⟨5, ![2, 2, 64, 80, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2840, .f32⟩
  | .hbm, ⟨2, _⟩ => ⟨S16384x2840, .f32⟩
  | .hbm, ⟨3, _⟩ => ⟨S16384x256, .f32⟩
  | .hbm, ⟨4, _⟩ => ⟨S16384x256, .f32⟩
  | .hbm, ⟨5, _⟩ => ⟨S16384x512, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S16384x24, .f32⟩
  | .hbm, ⟨13, _⟩ => ⟨S16384x256, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S_, .f32⟩
  | .hbm, ⟨18, _⟩ => ⟨S16384x104, .f32⟩
  | .hbm, ⟨19, _⟩ => ⟨S16384x2432, .f32⟩
  | .hbm, ⟨20, _⟩ => ⟨S2x8192x2x64, .f32⟩
  | .hbm, ⟨21, _⟩ => ⟨S2x2x8192x64, .f32⟩
  | .hbm, ⟨22, _⟩ => ⟨S2x8192x2x64, .f32⟩
  | .hbm, ⟨23, _⟩ => ⟨S2x2x8192x64, .f32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .f32⟩
  | .hbm, ⟨31, _⟩ => ⟨S128x1x128, .f32⟩
  | .hbm, ⟨32, _⟩ => ⟨S2x2x128x64x128, .f32⟩
  | .hbm, ⟨33, _⟩ => ⟨S2x2x8192x128, .f32⟩
  | .hbm, ⟨34, _⟩ => ⟨S2x2x8192x256, .f32⟩
  | .hbm, ⟨35, _⟩ => ⟨S2x2x8192x256, .bf16⟩
  | .hbm, ⟨36, _⟩ => ⟨S2x2x8192x128, .f32⟩
  | .hbm, ⟨37, _⟩ => ⟨S2x2x8192x128, .bf16⟩
  | .hbm, ⟨38, _⟩ => ⟨S2x16x512x2x64, .f32⟩
  | .hbm, ⟨39, _⟩ => ⟨S2x2x16x64x512, .f32⟩
  | .hbm, ⟨40, _⟩ => ⟨S_, .f32⟩
  | .hbm, ⟨41, _⟩ => ⟨S2x2x16x1x512, .f32⟩
  | .hbm, ⟨42, _⟩ => ⟨S_, .f32⟩
  | .hbm, ⟨43, _⟩ => ⟨S2x2x16x15x512, .f32⟩
  | .hbm, ⟨44, _⟩ => ⟨S2x2x16x80x512, .f32⟩
  | .hbm, ⟨45, _⟩ => ⟨S2x2x16x80x512, .bf16⟩
  | .hbm, ⟨46, _⟩ => ⟨S2x64x128x2x64, .f32⟩
  | .hbm, ⟨47, _⟩ => ⟨S2x2x64x64x128, .f32⟩
  | .hbm, ⟨48, _⟩ => ⟨S_, .f32⟩
  | .hbm, ⟨49, _⟩ => ⟨S2x2x64x1x128, .f32⟩
  | .hbm, ⟨50, _⟩ => ⟨S_, .f32⟩
  | .hbm, ⟨51, _⟩ => ⟨S2x2x64x15x128, .f32⟩
  | .hbm, ⟨52, _⟩ => ⟨S2x2x64x80x128, .f32⟩
  | .hbm, ⟨53, _⟩ => ⟨S2x2x64x80x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_c : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Kernel3.lean ====
abbrev S16384x256 : Shape := ⟨2, ![16384, 256]⟩
abbrev S16384x512 : Shape := ⟨2, ![16384, 512]⟩
abbrev S16384x2432 : Shape := ⟨2, ![16384, 2432]⟩
abbrev S16384x1024 : Shape := ⟨2, ![16384, 1024]⟩
abbrev S24 : Shape := ⟨1, ![24]⟩
abbrev S1024 : Shape := ⟨1, ![1024]⟩
abbrev S1024x1024 : Shape := ⟨2, ![1024, 1024]⟩
abbrev S1024x128 : Shape := ⟨2, ![1024, 128]⟩
abbrev S1x128 : Shape := ⟨2, ![1, 128]⟩
abbrev S3x128x512 : Shape := ⟨3, ![3, 128, 512]⟩
abbrev S512x512 : Shape := ⟨2, ![512, 512]⟩
abbrev S256x256 : Shape := ⟨2, ![256, 256]⟩
abbrev S_ : Shape := ⟨0, ![]⟩
abbrev S128 : Shape := ⟨1, ![128]⟩
abbrev S1x1024 : Shape := ⟨2, ![1, 1024]⟩
abbrev S16384x128 : Shape := ⟨2, ![16384, 128]⟩
abbrev S512x256 : Shape := ⟨2, ![512, 256]⟩
abbrev S512x128 : Shape := ⟨2, ![512, 128]⟩
abbrev S512x1024 : Shape := ⟨2, ![512, 1024]⟩
abbrev S1x128x512 : Shape := ⟨3, ![1, 128, 512]⟩
abbrev S128x512 : Shape := ⟨2, ![128, 512]⟩
abbrev S1x512 : Shape := ⟨2, ![1, 512]⟩
abbrev S1x256 : Shape := ⟨2, ![1, 256]⟩
abbrev S256x1024 : Shape := ⟨2, ![256, 1024]⟩
abbrev S512 : Shape := ⟨1, ![512]⟩
abbrev S512x1 : Shape := ⟨2, ![512, 1]⟩

abbrev nBuf : Space → Nat
  | .hbm => 34
  | .vmem => 31
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x2432, .f32⟩
  | .hbm, ⟨5, _⟩ => ⟨S16384x256, .f32⟩
  | .hbm, ⟨6, _⟩ => ⟨S16384x1024, .f32⟩
  | .hbm, ⟨7, _⟩ => ⟨S24, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x128, .f32⟩
  | .hbm, ⟨13, _⟩ => ⟨S1x128, .f32⟩
  | .hbm, ⟨14, _⟩ => ⟨S3x128x512, .f32⟩
  | .hbm, ⟨15, _⟩ => ⟨S512x512, .f32⟩
  | .hbm, ⟨16, _⟩ => ⟨S256x256, .f32⟩
  | .hbm, ⟨17, _⟩ => ⟨S3x128x512, .bf16⟩
  | .hbm, ⟨18, _⟩ => ⟨S512x512, .bf16⟩
  | .hbm, ⟨19, _⟩ => ⟨S256x256, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1024x128, .bf16⟩
  | .hbm, ⟨25, _⟩ => ⟨S1024x128, .f32⟩
  | .hbm, ⟨26, _⟩ => ⟨S1024x128, .f32⟩
  | .hbm, ⟨27, _⟩ => ⟨S1024x128, .bf16⟩
  | .hbm, ⟨28, _⟩ => ⟨S1x1024, .f32⟩
  | .hbm, ⟨29, _⟩ => ⟨S1024x1024, .bf16⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x128, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | .local _ .vmem, ⟨17, _⟩ => ⟨S3x128x512, .bf16⟩
  | .local _ .vmem, ⟨18, _⟩ => ⟨S512x512, .bf16⟩
  | .local _ .vmem, ⟨19, _⟩ => ⟨S256x256, .bf16⟩
  | .local _ .vmem, ⟨20, _⟩ => ⟨S1x1024, .f32⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S1024x128, .bf16⟩
  | .local _ .vmem, ⟨25, _⟩ => ⟨S1024x128, .bf16⟩
  | .local _ .vmem, ⟨26, _⟩ => ⟨S1x128, .f32⟩
  | .local _ .vmem, ⟨27, _⟩ => ⟨S512x1024, .f32⟩
  | .local _ .vmem, ⟨28, _⟩ => ⟨S512x1024, .f32⟩
  | .local _ .vmem, ⟨29, _⟩ => ⟨S512x128, .f32⟩
  | .local _ .vmem, ⟨30, _⟩ => ⟨S512x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_call0_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S16384x256 : Shape := ⟨2, ![16384, 256]⟩
abbrev S16384x512 : Shape := ⟨2, ![16384, 512]⟩
abbrev S16384x2432 : Shape := ⟨2, ![16384, 2432]⟩
abbrev S16384x1024 : Shape := ⟨2, ![16384, 1024]⟩
abbrev S24 : Shape := ⟨1, ![24]⟩
abbrev S1024 : Shape := ⟨1, ![1024]⟩
abbrev S1024x1024 : Shape := ⟨2, ![1024, 1024]⟩
abbrev S1024x128 : Shape := ⟨2, ![1024, 128]⟩
abbrev S1x128 : Shape := ⟨2, ![1, 128]⟩
abbrev S3x128x512 : Shape := ⟨3, ![3, 128, 512]⟩
abbrev S512x512 : Shape := ⟨2, ![512, 512]⟩
abbrev S256x256 : Shape := ⟨2, ![256, 256]⟩
abbrev S16384x24 : Shape := ⟨2, ![16384, 24]⟩
abbrev S1x24 : Shape := ⟨2, ![1, 24]⟩
abbrev S_ : Shape := ⟨0, ![]⟩
abbrev S16384x8x3 : Shape := ⟨3, ![16384, 8, 3]⟩
abbrev S16384x8x1 : Shape := ⟨3, ![16384, 8, 1]⟩
abbrev S16384x8x64 : Shape := ⟨3, ![16384, 8, 64]⟩
abbrev S512 : Shape := ⟨1, ![512]⟩
abbrev S16384x8 : Shape := ⟨2, ![16384, 8]⟩
abbrev S8x64 : Shape := ⟨2, ![8, 64]⟩
abbrev S1x8x64 : Shape := ⟨3, ![1, 8, 64]⟩
abbrev S16384x4x64 : Shape := ⟨3, ![16384, 4, 64]⟩
abbrev S256 : Shape := ⟨1, ![256]⟩
abbrev S16384x4 : Shape := ⟨2, ![16384, 4]⟩
abbrev S16384x4x1 : Shape := ⟨3, ![16384, 4, 1]⟩
abbrev S4x64 : Shape := ⟨2, ![4, 64]⟩
abbrev S1x4x64 : Shape := ⟨3, ![1, 4, 64]⟩
abbrev S16384 : Shape := ⟨1, ![16384]⟩
abbrev S16384x1 : Shape := ⟨2, ![16384, 1]⟩
abbrev S1x1024 : Shape := ⟨2, ![1, 1024]⟩

abbrev nBuf : Space → Nat
  | .hbm => 129
  | .vmem => 0
  | .smem => 0
  | _ => 0

abbrev hbmTy0_0 (i : Nat) : BufTy := match i % 128 with
  | 0 => ⟨S16384x256, .f32⟩
  | 1 => ⟨S16384x512, .f32⟩
  | 2 => ⟨S16384x512, .f32⟩
  | 3 => ⟨S16384x512, .f32⟩
  | 4 => ⟨S16384x2432, .f32⟩
  | 5 => ⟨S16384x256, .f32⟩
  | 6 => ⟨S16384x1024, .f32⟩
  | 7 => ⟨S24, .f32⟩
  | 8 => ⟨S1024, .f32⟩
  | 9 => ⟨S1024x1024, .f32⟩
  | 10 => ⟨S1024, .f32⟩
  | 11 => ⟨S1024, .f32⟩
  | 12 => ⟨S1024x128, .f32⟩
  | 13 => ⟨S1x128, .f32⟩
  | 14 => ⟨S3x128x512, .f32⟩
  | 15 => ⟨S512x512, .f32⟩
  | 16 => ⟨S256x256, .f32⟩
  | 17 => ⟨S16384x24, .f32⟩
  | 18 => ⟨S1x24, .f32⟩
  | 19 => ⟨S16384x24, .f32⟩
  | 20 => ⟨S16384x24, .f32⟩
  | 21 => ⟨S16384x24, .f32⟩
  | 22 => ⟨S16384x24, .f32⟩
  | 23 => ⟨S_, .f32⟩
  | 24 => ⟨S16384x24, .f32⟩
  | 25 => ⟨S16384x24, .f32⟩
  | 26 => ⟨S_, .f32⟩
  | 27 => ⟨S16384x24, .f32⟩
  | 28 => ⟨S16384x24, .f32⟩
  | 29 => ⟨S16384x8x3, .f32⟩
  | 30 => ⟨S16384x8x1, .f32⟩
  | 31 => ⟨S16384x8x64, .f32⟩
  | 32 => ⟨S16384x8x64, .f32⟩
  | 33 => ⟨S16384x8x64, .f32⟩
  | 34 => ⟨S16384x8x1, .f32⟩
  | 35 => ⟨S16384x8x64, .f32⟩
  | 36 => ⟨S16384x8x64, .f32⟩
  | 37 => ⟨S16384x8x64, .f32⟩
  | 38 => ⟨S16384x8x64, .f32⟩
  | 39 => ⟨S16384x8x1, .f32⟩
  | 40 => ⟨S16384x8x64, .f32⟩
  | 41 => ⟨S16384x8x64, .f32⟩
  | 42 => ⟨S16384x8x64, .f32⟩
  | 43 => ⟨S16384x8x64, .f32⟩
  | 44 => ⟨S512, .f32⟩
  | 45 => ⟨S16384x8x64, .f32⟩
  | 46 => ⟨S_, .f32⟩
  | 47 => ⟨S16384x8, .f32⟩
  | 48 => ⟨S16384x8x1, .f32⟩
  | 49 => ⟨S_, .f32⟩
  | 50 => ⟨S16384x8x1, .f32⟩
  | 51 => ⟨S16384x8x1, .f32⟩
  | 52 => ⟨S_, .f32⟩
  | 53 => ⟨S16384x8x1, .f32⟩
  | 54 => ⟨S16384x8x1, .f32⟩
  | 55 => ⟨S16384x8x1, .f32⟩
  | 56 => ⟨S16384x8x64, .f32⟩
  | 57 => ⟨S16384x8x64, .f32⟩
  | 58 => ⟨S8x64, .f32⟩
  | 59 => ⟨S1x8x64, .f32⟩
  | 60 => ⟨S16384x8x64, .f32⟩
  | 61 => ⟨S16384x8x64, .f32⟩
  | 62 => ⟨S16384x512, .f32⟩
  | 63 => ⟨S16384x4x64, .f32⟩
  | 64 => ⟨S256, .f32⟩
  | 65 => ⟨S16384x4x64, .f32⟩
  | 66 => ⟨S_, .f32⟩
  | 67 => ⟨S16384x4, .f32⟩
  | 68 => ⟨S16384x4x1, .f32⟩
  | 69 => ⟨S_, .f32⟩
  | 70 => ⟨S16384x4x1, .f32⟩
  | 71 => ⟨S16384x4x1, .f32⟩
  | 72 => ⟨S_, .f32⟩
  | 73 => ⟨S16384x4x1, .f32⟩
  | 74 => ⟨S16384x4x1, .f32⟩
  | 75 => ⟨S16384x4x1, .f32⟩
  | 76 => ⟨S16384x4x64, .f32⟩
  | 77 => ⟨S16384x4x64, .f32⟩
  | 78 => ⟨S4x64, .f32⟩
  | 79 => ⟨S1x4x64, .f32⟩
  | 80 => ⟨S16384x4x64, .f32⟩
  | 81 => ⟨S16384x4x64, .f32⟩
  | 82 => ⟨S16384x256, .f32⟩
  | 83 => ⟨S16384x256, .f32⟩
  | 84 => ⟨S16384x256, .f32⟩
  | 85 => ⟨S16384x256, .f32⟩
  | 86 => ⟨S_, .f32⟩
  | 87 => ⟨S16384x256, .f32⟩
  | 88 => ⟨S16384x256, .f32⟩
  | 89 => ⟨S_, .f32⟩
  | 90 => ⟨S16384x256, .f32⟩
  | 91 => ⟨S16384x256, .f32⟩
  | 92 => ⟨S16384x256, .f32⟩
  | 93 => ⟨S16384x256, .f32⟩
  | 94 => ⟨S_, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S_, .f32⟩
  | 101 => ⟨S16384, .f32⟩
  | 102 => ⟨S16384x1, .f32⟩
  | 103 => ⟨S_, .f32⟩
  | 104 => ⟨S16384x1, .f32⟩
  | 105 => ⟨S16384x1, .f32⟩
  | 106 => ⟨S16384x1024, .f32⟩
  | 107 => ⟨S16384x1024, .f32⟩
  | 108 => ⟨S16384x1024, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S16384x1024, .f32⟩
  | 116 => ⟨S16384x1024, .f32⟩
  | 117 => ⟨S_, .f32⟩
  | 118 => ⟨S16384x1, .f32⟩
  | 119 => ⟨S16384x1, .f32⟩
  | 120 => ⟨S16384x1, .f32⟩
  | 121 => ⟨S16384x1024, .f32⟩
  | 122 => ⟨S16384x1024, .f32⟩
  | 123 => ⟨S1x1024, .f32⟩
  | 124 => ⟨S16384x1024, .f32⟩
  | 125 => ⟨S16384x1024, .f32⟩
  | 126 => ⟨S1x1024, .f32⟩
  | 127 => ⟨S16384x1024, .f32⟩
  | _ => ⟨S16384x256, .f32⟩

abbrev hbmTy0_1 (i : Nat) : BufTy := match i % 128 with
  | 0 => ⟨S16384x1024, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_8 : Ref sig .tc := ⟨.hbm, 100, rfl⟩
abbrev main_v66 : Ref sig .tc := ⟨.hbm, 101, rfl⟩
abbrev main_v67 : Ref sig .tc := ⟨.hbm, 102, rfl⟩
abbrev main_cst_9 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== Proof.Words.lean ====
module

public import proofs.«01_k».proof.KernelIdeal
public import Idealize.ShloMosaic.Lib.Affine

@[expose] public section

namespace Cert.KernelIdeal.Words
open Idealize.ShloMosaic Idealize.ShloMosaic.TcCoe

/-- A loop of step one never overflows its counter, whatever the bounds. -/
theorem ok_one (lb ub : BitVec 32) : Scf.OK lb ub 1#32 := by
  have h1 : (1#32 : BitVec 32).toInt = 1 := by decide
  have hl := Affine.word_range lb
  have hu := Affine.word_range ub
  unfold Scf.OK Scf.trips
  rw [h1]
  simp only [Int.mul_one, Int.ediv_one]
  omega

theorem chk1 (v : BitVec 32) : k0_chk1 v := ⟨ok_one _ _, ok_one _ _⟩
theorem chk2 (v : BitVec 32) : k0_chk2 v := ⟨ok_one _ _, ok_one _ _⟩

end Cert.KernelIdeal.Words
-- ==== Proof.Step.lean ====
module

public import proofs.«01_k».proof.Proof.Words
public import proofs.«01_k».proof.Proof.Gen.KernelIdeal.Loops
public import Idealize.ShloMosaic.Lib.VecWindow
public import Idealize.ShloMosaic.Lib.Pipeline.Value

@[expose] public section

noncomputable section

namespace Cert.KernelIdeal.Hand
open Cert.KernelIdeal Cert.KernelIdeal.Gen
open Idealize.ShloMosaic Idealize.ShloMosaic.TcCoe

variable {F : FTy → Type} [FloatOps F]

/-- What the seven scratch buffers hold: the tile rounded, the running sum, the gates and the slots
    with one row per expert, the counts, and the two stacks of chosen rows. -/
structure St (F : FTy → Type) where
  xb : Vec F S1024x1024 .bf16
  acc : Vec F S1024x1024 .f32
  gt : Vec F S128x1024 .f32
  sl : Vec F S128x1024 .f32
  cn : Vec F S8x128 .f32
  P : Vec F S1280x1024 .bf16
  Y : Vec F S1280x1024 .bf16

/-- Row of expert `2·step` of a table with one row per expert; -/
abbrev row0 (i : grid0.Coords) (v : Vec F S128x1024 .f32) : Vec F S1x1024 .f32 :=
  View.ld (Val := Elt F) (e' := .f32) v (Rect.unit (s := S128x1024) (k0_off1 i 0#32) S1x1024.size (k0_off1_inb i 0))
/-- and of expert `2·step + 1`. -/
abbrev row1 (i : grid0.Coords) (v : Vec F S128x1024 .f32) : Vec F S1x1024 .f32 :=
  View.ld (Val := Elt F) (e' := .f32) v (Rect.unit (s := S128x1024) (k0_off1 i 1#32) S1x1024.size (k0_off1_inb i 1))
/-- The first row of the counts. -/
abbrev cnt0 (v : Vec F S8x128 .f32) : Vec F S1x128 .f32 :=
  View.ld (Val := Elt F) (e' := .f32) v (Rect.unit (s := S8x128) ![0, 0] S1x128.size inb_S8x128_S1x128_0_0)
/-- The two experts' weights in a block of two. -/
abbrev up0 (v : Vec F S2x1024x512 .bf16) : Vec F S1x1024x512 .bf16 :=
  View.ld (Val := Elt F) (e' := .bf16) v (Rect.unit (s := S2x1024x512) ![0, 0, 0] S1x1024x512.size inb_S2x1024x512_S1x1024x512_0_0_0)
abbrev up1 (v : Vec F S2x1024x512 .bf16) : Vec F S1x1024x512 .bf16 :=
  View.ld (Val := Elt F) (e' := .bf16) v (Rect.unit (s := S2x1024x512) ![1, 0, 0] S1x1024x512.size inb_S2x1024x512_S1x1024x512_1_0_0)
abbrev dn0 (v : Vec F S2x512x1024 .bf16) : Vec F S1x512x1024 .bf16 :=
  View.ld (Val := Elt F) (e' := .bf16) v (Rect.unit (s := S2x512x1024) ![0, 0, 0] S1x512x1024.size inb_S2x512x1024_S1x512x1024_0_0_0)
abbrev dn1 (v : Vec F S2x512x1024 .bf16) : Vec F S1x512x1024 .bf16 :=
  View.ld (Val := Elt F) (e' := .bf16) v (Rect.unit (s := S2x512x1024) ![1, 0, 0] S1x512x1024.size inb_S2x512x1024_S1x512x1024_1_0_0)

/-- The number of used rows of the step's first expert, as a word; -/
abbrev word0 (i : grid0.Coords) (cn : Vec F S8x128 .f32) : BitVec 32 := Scalar.fptosi 32 (k0_pay29 i (cnt0 cn))
/-- and of its second. -/
abbrev word1 (i : grid0.Coords) (cn : Vec F S8x128 .f32) : BitVec 32 :=
  Scalar.fptosi 32 (k0_pay37 (BitVec.ofNat 32 (i 1).val) (iota .tc S1x128 32 [1] iota_S1x128_d1_w32) (cnt0 cn))

/-- The running sum after `k` trips of the first expert's loops over its further chunks. -/
def loop1 (g s : Vec F S1x1024 .f32) (n : BitVec 32) (xb : Vec F S1024x1024 .bf16) (wg wu : Vec F S1x1024x512 .bf16) (wd : Vec F S1x512x1024 .bf16)
    (A : Vec F S1024x1024 .f32) : ℕ → Vec F S1024x1024 .f32
  | 0 => A
  | k + 1 => if h : k < (k0_t1_loop n).trips then
      k0_pay43 (k0_pay11 s n 1#32 1#32 ⟨k, h⟩) (k0_pay12 g s n 1#32 1#32 ⟨k, h⟩) (k0_pay13 s n 1#32 1#32 ⟨k, h⟩ xb wg wu) wd (loop1 g s n xb wg wu wd A k)
    else loop1 g s n xb wg wu wd A k
def loop2 (g s : Vec F S1x1024 .f32) (n w : BitVec 32) (xb : Vec F S1024x1024 .bf16) (wg wu : Vec F S1x1024x512 .bf16) (wd : Vec F S1x512x1024 .bf16)
    (A : Vec F S1024x1024 .f32) : ℕ → Vec F S1024x1024 .f32
  | 0 => A
  | k + 1 => if h : k < (k0_t2_loop n).trips then
      k0_pay44 (k0_pay15 s n w 1#32 ⟨k, h⟩) (k0_pay16 g s n w 1#32 ⟨k, h⟩) (k0_pay17 s n w 1#32 ⟨k, h⟩ xb wg wu) wd (loop2 g s n w xb wg wu wd A k)
    else loop2 g s n w xb wg wu wd A k
/-- The same of the second expert's. -/
def loop3 (g s : Vec F S1x1024 .f32) (n : BitVec 32) (xb : Vec F S1024x1024 .bf16) (wg wu : Vec F S1x1024x512 .bf16) (wd : Vec F S1x512x1024 .bf16)
    (A : Vec F S1024x1024 .f32) : ℕ → Vec F S1024x1024 .f32
  | 0 => A
  | k + 1 => if h : k < (k0_t3_loop n).trips then
      k0_pay1 (k0_pay19 s n 1#32 1#32 ⟨k, h⟩) (k0_pay20 g s n 1#32 1#32 ⟨k, h⟩) (k0_pay21 s n 1#32 1#32 ⟨k, h⟩ xb wg wu) wd (loop3 g s n xb wg wu wd A k)
    else loop3 g s n xb wg wu wd A k
def loop4 (g s : Vec F S1x1024 .f32) (n w : BitVec 32) (xb : Vec F S1024x1024 .bf16) (wg wu : Vec F S1x1024x512 .bf16) (wd : Vec F S1x512x1024 .bf16)
    (A : Vec F S1024x1024 .f32) : ℕ → Vec F S1024x1024 .f32
  | 0 => A
  | k + 1 => if h : k < (k0_t4_loop n).trips then
      k0_pay2 (k0_pay23 s n w 1#32 ⟨k, h⟩) (k0_pay24 g s n w 1#32 ⟨k, h⟩) (k0_pay25 s n w 1#32 ⟨k, h⟩ xb wg wu) wd (loop4 g s n w xb wg wu wd A k)
    else loop4 g s n w xb wg wu wd A k

/-- The start of a tile. -/
def initSt (x : Vec F S1024x1024 .f32) (g : Vec F S1024x128 .f32) (st : St F) : St F :=
  { st with xb := k0_pay5 x, acc := k0_pay6, sl := k0_pay26 (k0_pay9 g), gt := k0_pay27 k0_pay8 g g, cn := k0_pay28 (k0_pay7 g) }

/-- The first chunk of each of the two experts goes to the stacks; -/
def slabP (i : grid0.Coords) (st : St F) : Vec F S1280x1024 .bf16 :=
  VecWindow.put (VecWindow.put st.P (k0_off2 i 0#32) S160x1024.size (k0_pay35 (k0_pay30 (row0 i st.sl)) k0_pay31 k0_pay32))
    (k0_off2 i 1#32) S160x1024.size (k0_pay41 (k0_pay39 (row1 i st.sl)))
def slabY (i : grid0.Coords) (wg wu : Vec F S2x1024x512 .bf16) (wd : Vec F S2x512x1024 .bf16) (st : St F) : Vec F S1280x1024 .bf16 :=
  VecWindow.put (VecWindow.put st.Y (k0_off2 i 0#32) S160x1024.size
      (k0_pay36 (k0_pay34 (row0 i st.gt) (k0_pay30 (row0 i st.sl)) k0_pay31 k0_pay32 st.xb (up0 wg) (up0 wu) (dn0 wd))))
    (k0_off2 i 1#32) S160x1024.size
      (k0_pay42 (k0_pay38 (row1 i st.sl)) (k0_pay39 (row1 i st.sl)) (Scalar.ofBits .f32 0x00000000#32) (k0_pay40 (row1 i st.gt)) st.xb (up1 wg) (up1 wu) (dn1 wd))
/-- the further chunks to the running sum. -/
def loops (i : grid0.Coords) (wg wu : Vec F S2x1024x512 .bf16) (wd : Vec F S2x512x1024 .bf16) (st : St F) : Vec F S1024x1024 .f32 :=
  let n0 := word0 i st.cn
  let n1 := word1 i st.cn
  let a1 := loop1 (row0 i st.gt) (row0 i st.sl) n0 st.xb (up0 wg) (up0 wu) (dn0 wd) st.acc (k0_t1_loop n0).trips
  let a2 := loop2 (row0 i st.gt) (row0 i st.sl) n0 (k0_t1_loop n0).ub st.xb (up0 wg) (up0 wu) (dn0 wd) a1 (k0_t2_loop n0).trips
  let a3 := loop3 (row1 i st.gt) (row1 i st.sl) n1 st.xb (up1 wg) (up1 wu) (dn1 wd) a2 (k0_t3_loop n1).trips
  loop4 (row1 i st.gt) (row1 i st.sl) n1 (k0_t3_loop n1).ub st.xb (up1 wg) (up1 wu) (dn1 wd) a3 (k0_t4_loop n1).trips

def mainSt (i : grid0.Coords) (wg wu : Vec F S2x1024x512 .bf16) (wd : Vec F S2x512x1024 .bf16) (st : St F) : St F :=
  { st with acc := loops i wg wu wd st, P := slabP i st, Y := slabY i wg wu wd st }

/-- The stacked chunks are added every fourth step. -/
def stackSt (st : St F) : St F := { st with acc := k0_pay3 st.acc st.P st.Y }

/-- One grid point. -/
def stepSt (i : grid0.Coords) (x : Vec F S1024x1024 .f32) (g : Vec F S1024x128 .f32) (wg wu : Vec F S2x1024x512 .bf16) (wd : Vec F S2x512x1024 .bf16)
    (st : St F) : St F :=
  let st₁ := mainSt i wg wu wd (if (i 1).val = 0 then initSt x g st else st)
  if (i 1).val % 4 = 3 then stackSt st₁ else st₁

/-! ## The loops' pieces, read -/

section Read
variable {c : Dev nD} {bd : Option Variants.none.V} {i : grid0.Coords}
variable {arg2 : Memref sig .tc .vmem S1024x1024 .f32} {harg2 : arg2.IsWhole} {arg3 : Memref sig .tc .vmem S1024x128 .f32} {harg3 : arg3.IsWhole} {arg4 : Memref sig .tc .vmem S2x1024x512 .bf16} {harg4 : arg4.IsWhole} {arg5 : Memref sig .tc .vmem S2x1024x512 .bf16} {harg5 : arg5.IsWhole} {arg6 : Memref sig .tc .vmem S2x512x1024 .bf16} {harg6 : arg6.IsWhole} {arg7 : Memref sig .tc .vmem S1x1024 .f32} {harg7 : arg7.IsWhole} {arg8 : Memref sig .tc .vmem S1x1024 .f32} {harg8 : arg8.IsWhole} {arg9 : Memref sig .tc .vmem S1024x1024 .f32} {harg9 : arg9.IsWhole} {arg10 : Memref sig .tc .vmem S1024x1024 .bf16} {harg10 : arg10.IsWhole} {arg11 : Memref sig .tc .vmem S1024x1024 .f32} {harg11 : arg11.IsWhole} {arg12 : Memref sig .tc .vmem S128x1024 .f32} {harg12 : arg12.IsWhole} {arg13 : Memref sig .tc .vmem S128x1024 .f32} {harg13 : arg13.IsWhole} {arg14 : Memref sig .tc .vmem S8x128 .f32} {harg14 : arg14.IsWhole} {arg15 : Memref sig .tc .vmem S1280x1024 .bf16} {harg15 : arg15.IsWhole} {arg16 : Memref sig .tc .vmem S1280x1024 .bf16} {harg16 : arg16.IsWhole}
theorem whole_S1024x1024 {Val : EltTy → Type} {e : EltTy} (v : View sig .tc .vmem S1024x1024 e) (f : v.ty.Contents Val) (inb : ∀ a, (![0, 0] : Fin 2 → ℕ) a + S1024x1024.size a ≤ S1024x1024.size a) :
    v.readAt Val (Rect.unit (s := S1024x1024) ![0, 0] ![1024, 1024] inb).toLoadRect f = v.read Val f := View.readAt_full v f inb
theorem whole_S1024x128 {Val : EltTy → Type} {e : EltTy} (v : View sig .tc .vmem S1024x128 e) (f : v.ty.Contents Val) (inb : ∀ a, (![0, 0] : Fin 2 → ℕ) a + S1024x128.size a ≤ S1024x128.size a) :
    v.readAt Val (Rect.unit (s := S1024x128) ![0, 0] ![1024, 128] inb).toLoadRect f = v.read Val f := View.readAt_full v f inb
theorem whole_S1x1024 {Val : EltTy → Type} {e : EltTy} (v : View sig .tc .vmem S1x1024 e) (f : v.ty.Contents Val) (inb : ∀ a, (![0, 0] : Fin 2 → ℕ) a + S1x1024.size a ≤ S1x1024.size a) :
    v.readAt Val (Rect.unit (s := S1x1024) ![0, 0] ![1, 1024] inb).toLoadRect f = v.read Val f := View.readAt_full v f inb
theorem whole_S128x1024 {Val : EltTy → Type} {e : EltTy} (v : View sig .tc .vmem S128x1024 e) (f : v.ty.Contents Val) (inb : ∀ a, (![0, 0] : Fin 2 → ℕ) a + S128x1024.size a ≤ S128x1024.size a) :
    v.readAt Val (Rect.unit (s := S128x1024) ![0, 0] ![128, 1024] inb).toLoadRect f = v.read Val f := View.readAt_full v f inb
theorem whole_S8x128 {Val : EltTy → Type} {e : EltTy} (v : View sig .tc .vmem S8x128 e) (f : v.ty.Contents Val) (inb : ∀ a, (![0, 0] : Fin 2 → ℕ) a + S8x128.size a ≤ S8x128.size a) :
    v.readAt Val (Rect.unit (s := S8x128) ![0, 0] ![8, 128] inb).toLoadRect f = v.read Val f := View.readAt_full v f inb
theorem whole_S1280x1024 {Val : EltTy → Type} {e : EltTy} (v : View sig .tc .vmem S1280x1024 e) (f : v.ty.Contents Val) (inb : ∀ a, (![0, 0] : Fin 2 → ℕ) a + S1280x1024.size a ≤ S1280x1024.size a) :
    v.readAt Val (Rect.unit (s := S1280x1024) ![0, 0] ![1280, 1024] inb).toLoadRect f = v.read Val f := View.readAt_full v f inb
theorem hz2 : (![0, 0] : Fin 2 → Nat) = fun _ => 0 := funext fun a => by fin_cases a <;> rfl

theorem read_pb1 (g s : Vec F S1x1024 .f32) (n : BitVec 32) (hw : k0_chk1 n) (v96 : BitVec 32) (v151 : FVec F S160x1024 .bf16) (X4 : arg4.view.ty.Contents (Elt F)) (X5 : arg5.view.ty.Contents (Elt F))
    (X6 : arg6.view.ty.Contents (Elt F)) (X10 : arg10.view.ty.Contents (Elt F)) (G : arg11.view.ty.Contents (Elt F)) (k : ℕ) (hk : k ≤ (k0_t1_loop n).trips) :
    arg11.view.read (Elt F) (arg11.view.writes (Elt F) G (pb_k0_t1 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 X4 X5 X6 X10 G k))
      = loop1 g s n (arg10.view.read (Elt F) X10) (up0 (arg4.view.read (Elt F) X4)) (up0 (arg5.view.read (Elt F) X5)) (dn0 (arg6.view.read (Elt F) X6))
          (arg11.view.read (Elt F) G) k := by
  induction k with
  | zero => rfl
  | succ k ih =>
    rw [show pb_k0_t1 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 X4 X5 X6 X10 G (k + 1) = _ from pb_k0_t1_succ Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 X4 X5 X6 X10 G ⟨k, hk⟩, View.writes_append]
    unfold loop1
    rw [dif_pos (show k < (k0_t1_loop n).trips from hk), ← ih (Nat.le_of_succ_le hk)]
    unfold tripL_k0_t1 trip_k0_t1
    dsimp only
    rw [View.read_writes_full]
    sl_unfold_words
    simp only [whole_S1024x1024]
    simp only [View.readAt_eq_ld]

theorem read_pb2 (g s : Vec F S1x1024 .f32) (n w : BitVec 32) (hw : k0_chk1 n) (v96 : BitVec 32) (v151 : FVec F S160x1024 .bf16) (X4 : arg4.view.ty.Contents (Elt F)) (X5 : arg5.view.ty.Contents (Elt F))
    (X6 : arg6.view.ty.Contents (Elt F)) (X10 : arg10.view.ty.Contents (Elt F)) (G : arg11.view.ty.Contents (Elt F)) (k : ℕ) (hk : k ≤ (k0_t2_loop n).trips) :
    arg11.view.read (Elt F) (arg11.view.writes (Elt F) G (pb_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 w X4 X5 X6 X10 G k))
      = loop2 g s n w (arg10.view.read (Elt F) X10) (up0 (arg4.view.read (Elt F) X4)) (up0 (arg5.view.read (Elt F) X5)) (dn0 (arg6.view.read (Elt F) X6))
          (arg11.view.read (Elt F) G) k := by
  induction k with
  | zero => rfl
  | succ k ih =>
    rw [show pb_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 w X4 X5 X6 X10 G (k + 1) = _ from pb_k0_t2_succ Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 w X4 X5 X6 X10 G ⟨k, hk⟩, View.writes_append]
    unfold loop2
    rw [dif_pos (show k < (k0_t2_loop n).trips from hk), ← ih (Nat.le_of_succ_le hk)]
    unfold tripL_k0_t2 trip_k0_t2
    dsimp only
    rw [View.read_writes_full]
    sl_unfold_words
    simp only [whole_S1024x1024]
    simp only [View.readAt_eq_ld]

theorem read_pb3 (g s : Vec F S1x1024 .f32) (n : BitVec 32) (hw : k0_chk2 n) (X4 : arg4.view.ty.Contents (Elt F)) (X5 : arg5.view.ty.Contents (Elt F))
    (X6 : arg6.view.ty.Contents (Elt F)) (X10 : arg10.view.ty.Contents (Elt F)) (G : arg11.view.ty.Contents (Elt F)) (k : ℕ) (hk : k ≤ (k0_t3_loop n).trips) :
    arg11.view.read (Elt F) (arg11.view.writes (Elt F) G (pb_k0_t3 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw X4 X5 X6 X10 G k))
      = loop3 g s n (arg10.view.read (Elt F) X10) (up1 (arg4.view.read (Elt F) X4)) (up1 (arg5.view.read (Elt F) X5)) (dn1 (arg6.view.read (Elt F) X6))
          (arg11.view.read (Elt F) G) k := by
  induction k with
  | zero => rfl
  | succ k ih =>
    rw [show pb_k0_t3 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw X4 X5 X6 X10 G (k + 1) = _ from pb_k0_t3_succ Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw X4 X5 X6 X10 G ⟨k, hk⟩, View.writes_append]
    unfold loop3
    rw [dif_pos (show k < (k0_t3_loop n).trips from hk), ← ih (Nat.le_of_succ_le hk)]
    unfold tripL_k0_t3 trip_k0_t3
    dsimp only
    rw [View.read_writes_full]
    sl_unfold_words
    simp only [whole_S1024x1024]
    simp only [View.readAt_eq_ld]

theorem read_pb4 (g s : Vec F S1x1024 .f32) (n w : BitVec 32) (hw : k0_chk2 n) (X4 : arg4.view.ty.Contents (Elt F)) (X5 : arg5.view.ty.Contents (Elt F))
    (X6 : arg6.view.ty.Contents (Elt F)) (X10 : arg10.view.ty.Contents (Elt F)) (G : arg11.view.ty.Contents (Elt F)) (k : ℕ) (hk : k ≤ (k0_t4_loop n).trips) :
    arg11.view.read (Elt F) (arg11.view.writes (Elt F) G (pb_k0_t4 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw w X4 X5 X6 X10 G k))
      = loop4 g s n w (arg10.view.read (Elt F) X10) (up1 (arg4.view.read (Elt F) X4)) (up1 (arg5.view.read (Elt F) X5)) (dn1 (arg6.view.read (Elt F) X6))
          (arg11.view.read (Elt F) G) k := by
  induction k with
  | zero => rfl
  | succ k ih =>
    rw [show pb_k0_t4 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw w X4 X5 X6 X10 G (k + 1) = _ from pb_k0_t4_succ Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw w X4 X5 X6 X10 G ⟨k, hk⟩, View.writes_append]
    unfold loop4
    rw [dif_pos (show k < (k0_t4_loop n).trips from hk), ← ih (Nat.le_of_succ_le hk)]
    unfold tripL_k0_t4 trip_k0_t4
    dsimp only
    rw [View.read_writes_full]
    sl_unfold_words
    simp only [whole_S1024x1024]
    simp only [View.readAt_eq_ld]

theorem readF1 (g s : Vec F S1x1024 .f32) (n : BitVec 32) (hw : k0_chk1 n) (v96 : BitVec 32) (v151 : FVec F S160x1024 .bf16) (X4 : arg4.view.ty.Contents (Elt F)) (X5 : arg5.view.ty.Contents (Elt F))
    (X6 : arg6.view.ty.Contents (Elt F)) (X10 : arg10.view.ty.Contents (Elt F)) (f : arg11.view.ty.Contents (Elt F)) :
    arg11.view.read (Elt F) (arg11.view.writes (Elt F) f (pb_k0_t1 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 X4 X5 X6 X10 f (k0_t1_loop n).trips))
      = loop1 g s n (arg10.view.read (Elt F) X10) (up0 (arg4.view.read (Elt F) X4)) (up0 (arg5.view.read (Elt F) X5)) (dn0 (arg6.view.read (Elt F) X6))
          (arg11.view.read (Elt F) f) (k0_t1_loop n).trips := by
  exact read_pb1 g s n hw v96 v151 X4 X5 X6 X10 _ _ le_rfl

theorem readA1 (g s : Vec F S1x1024 .f32) (n : BitVec 32) (hw : k0_chk1 n) (v96 : BitVec 32) (v151 : FVec F S160x1024 .bf16) (X4 : arg4.view.ty.Contents (Elt F)) (X5 : arg5.view.ty.Contents (Elt F))
    (X6 : arg6.view.ty.Contents (Elt F)) (X10 : arg10.view.ty.Contents (Elt F)) (f : arg11.view.ty.Contents (Elt F)) (L : List (View.Piece (Elt F) S1024x1024 .f32)) :
    arg11.view.read (Elt F) (arg11.view.writes (Elt F) f (pb_k0_t1 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 X4 X5 X6 X10 (arg11.view.writes (Elt F) f L) (k0_t1_loop n).trips ++ L))
      = loop1 g s n (arg10.view.read (Elt F) X10) (up0 (arg4.view.read (Elt F) X4)) (up0 (arg5.view.read (Elt F) X5)) (dn0 (arg6.view.read (Elt F) X6))
          (arg11.view.read (Elt F) (arg11.view.writes (Elt F) f L)) (k0_t1_loop n).trips := by
  rw [View.writes_append]; exact read_pb1 g s n hw v96 v151 X4 X5 X6 X10 _ _ le_rfl

theorem readA2 (g s : Vec F S1x1024 .f32) (n w : BitVec 32) (hw : k0_chk1 n) (v96 : BitVec 32) (v151 : FVec F S160x1024 .bf16) (X4 : arg4.view.ty.Contents (Elt F)) (X5 : arg5.view.ty.Contents (Elt F))
    (X6 : arg6.view.ty.Contents (Elt F)) (X10 : arg10.view.ty.Contents (Elt F)) (f : arg11.view.ty.Contents (Elt F)) (L : List (View.Piece (Elt F) S1024x1024 .f32)) :
    arg11.view.read (Elt F) (arg11.view.writes (Elt F) f (pb_k0_t2 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw v96 v151 w X4 X5 X6 X10 (arg11.view.writes (Elt F) f L) (k0_t2_loop n).trips ++ L))
      = loop2 g s n w (arg10.view.read (Elt F) X10) (up0 (arg4.view.read (Elt F) X4)) (up0 (arg5.view.read (Elt F) X5)) (dn0 (arg6.view.read (Elt F) X6))
          (arg11.view.read (Elt F) (arg11.view.writes (Elt F) f L)) (k0_t2_loop n).trips := by
  rw [View.writes_append]; exact read_pb2 g s n w hw v96 v151 X4 X5 X6 X10 _ _ le_rfl

theorem readA3 (g s : Vec F S1x1024 .f32) (n : BitVec 32) (hw : k0_chk2 n) (X4 : arg4.view.ty.Contents (Elt F)) (X5 : arg5.view.ty.Contents (Elt F))
    (X6 : arg6.view.ty.Contents (Elt F)) (X10 : arg10.view.ty.Contents (Elt F)) (f : arg11.view.ty.Contents (Elt F)) (L : List (View.Piece (Elt F) S1024x1024 .f32)) :
    arg11.view.read (Elt F) (arg11.view.writes (Elt F) f (pb_k0_t3 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw X4 X5 X6 X10 (arg11.view.writes (Elt F) f L) (k0_t3_loop n).trips ++ L))
      = loop3 g s n (arg10.view.read (Elt F) X10) (up1 (arg4.view.read (Elt F) X4)) (up1 (arg5.view.read (Elt F) X5)) (dn1 (arg6.view.read (Elt F) X6))
          (arg11.view.read (Elt F) (arg11.view.writes (Elt F) f L)) (k0_t3_loop n).trips := by
  rw [View.writes_append]; exact read_pb3 g s n hw X4 X5 X6 X10 _ _ le_rfl

theorem readA4 (g s : Vec F S1x1024 .f32) (n w : BitVec 32) (hw : k0_chk2 n) (X4 : arg4.view.ty.Contents (Elt F)) (X5 : arg5.view.ty.Contents (Elt F))
    (X6 : arg6.view.ty.Contents (Elt F)) (X10 : arg10.view.ty.Contents (Elt F)) (f : arg11.view.ty.Contents (Elt F)) (L : List (View.Piece (Elt F) S1024x1024 .f32)) :
    arg11.view.read (Elt F) (arg11.view.writes (Elt F) f (pb_k0_t4 (F := F) Variants.none c bd i arg2 harg2 arg3 harg3 arg4 harg4 arg5 harg5 arg6 harg6 arg7 harg7 arg8 harg8 arg9 harg9 arg10 harg10 arg11 harg11 arg12 harg12 arg13 harg13 arg14 harg14 arg15 harg15 arg16 harg16 g s n hw w X4 X5 X6 X10 (arg11.view.writes (Elt F) f L) (k0_t4_loop n).trips ++ L))
      = loop4 g s n w (arg10.view.read (Elt F) X10) (up1 (arg4.view.read (Elt F) X4)) (up1 (arg5.view.read (Elt F) X5)) (dn1 (arg6.view.read (Elt F) X6))
          (arg11.view.read (Elt F) (arg11.view.writes (Elt F) f L)) (k0_t4_loop n).trips := by
  rw [View.writes_append]; exact read_pb4 g s n w hw X4 X5 X6 X10 _ _ le_rfl

end Read

end Cert.KernelIdeal.Hand
-- ==== Proof.Track.lean ====
module

public import proofs.«01_k».proof.Proof.Step

@[expose] public section

noncomputable section

namespace Cert.KernelIdeal.Hand
open Cert.KernelIdeal Cert.KernelIdeal.Gen
open Idealize.ShloMosaic Idealize.ShloMosaic.TcCoe

variable {F : FTy → Type} [FloatOps F]

/-- The five buffers written at a tile's start agree. -/
def Same (a b : St F) : Prop := a.xb = b.xb ∧ a.acc = b.acc ∧ a.gt = b.gt ∧ a.sl = b.sl ∧ a.cn = b.cn
/-- The stacks agree in their first `n` rows. -/
def Upto (n : ℕ) (a b : St F) : Prop := ∀ y : S1280x1024.Idx, (y 0).val < n → a.P y = b.P y ∧ a.Y y = b.Y y

/-- What the run knows of the scratch before point `t`: a tile's first point finds nothing it reads, and every
    fourth the stacks empty. -/
def Agree (t : ℕ) (a b : St F) : Prop := (t % 8 ≠ 0 → Same a b) ∧ Upto (320 * (t % 4)) a b

theorem put_congr (v v' : Vec F S1280x1024 .bf16) (o : Fin 2 → ℕ) (w w' : Vec F S160x1024 .bf16) (hw : w = w') (y : S1280x1024.Idx)
    (h : (¬ ∀ a, o a ≤ (y a).val ∧ (y a).val < o a + S160x1024.size a) → v y = v' y) :
    VecWindow.put v o S160x1024.size w y = VecWindow.put v' o S160x1024.size w' y := by
  subst hw
  unfold VecWindow.put
  by_cases c : ∀ a, o a ≤ (y a).val ∧ (y a).val < o a + S160x1024.size a
  · rw [dif_pos c, dif_pos c]
  · rw [dif_neg c, dif_neg c]; exact h c

/-- The rows outside the slab put at `k0_off2 i r`. -/
theorem out_slab (i : grid0.Coords) (r : Fin 2) (y : S1280x1024.Idx)
    (h : ¬ ∀ a, k0_off2 i (BitVec.ofNat 32 r.val) a ≤ (y a).val ∧ (y a).val < k0_off2 i (BitVec.ofNat 32 r.val) a + S160x1024.size a) :
    (y 0).val < 160 * ((2 * (i 1).val + r.val) % 8) ∨ 160 * ((2 * (i 1).val + r.val) % 8) + 160 ≤ (y 0).val := by
  rw [k0_off2_eq] at h
  by_contra hc
  push Not at hc
  apply h
  intro a
  match a with
  | 0 => exact ⟨hc.1, hc.2⟩
  | 1 => exact ⟨Nat.zero_le _, (show (y 1).val < 0 + 1024 from by have h1 : (y 1).val < 1024 := (y 1).isLt; omega)⟩

theorem main_same (i : grid0.Coords) (wg wu : Vec F S2x1024x512 .bf16) (wd : Vec F S2x512x1024 .bf16) {a b : St F} (h : Same a b) :
    Same (mainSt i wg wu wd a) (mainSt i wg wu wd b) := by
  obtain ⟨h1, h2, h3, h4, h5⟩ := h
  refine ⟨h1, ?_, h3, h4, h5⟩
  unfold mainSt loops; dsimp only
  rw [h1, h2, h3, h4, h5]

theorem main_upto (i : grid0.Coords) (wg wu : Vec F S2x1024x512 .bf16) (wd : Vec F S2x512x1024 .bf16) {a b : St F} (h : Same a b)
    (hu : Upto (320 * ((i 1).val % 4)) a b) : Upto (320 * ((i 1).val % 4) + 320) (mainSt i wg wu wd a) (mainSt i wg wu wd b) := by
  obtain ⟨h1, h2, h3, h4, h5⟩ := h
  intro y hy
  have key : (¬ ∀ d, k0_off2 i 1#32 d ≤ (y d).val ∧ (y d).val < k0_off2 i 1#32 d + S160x1024.size d) →
      (¬ ∀ d, k0_off2 i 0#32 d ≤ (y d).val ∧ (y d).val < k0_off2 i 0#32 d + S160x1024.size d) → a.P y = b.P y ∧ a.Y y = b.Y y := by
    intro n1 n0
    have e1 := out_slab i 1 y n1
    have e0 := out_slab i 0 y n0
    refine hu y ?_
    simp only [Fin.val_zero, Fin.val_one] at e0 e1
    omega
  constructor
  · show slabP i a y = slabP i b y
    unfold slabP
    exact put_congr _ _ _ _ _ (by rw [h4]) y fun n1 => put_congr _ _ _ _ _ (by rw [h4]) y fun n0 => (key n1 n0).1
  · show slabY i wg wu wd a y = slabY i wg wu wd b y
    unfold slabY
    exact put_congr _ _ _ _ _ (by rw [h1, h3, h4]) y fun n1 => put_congr _ _ _ _ _ (by rw [h1, h3, h4]) y fun n0 => (key n1 n0).2

/-- One point keeps the five buffers, -/
theorem step_same {t : ℕ} (i : grid0.Coords) (hi : (i 1).val = t % 8) (x : Vec F S1024x1024 .f32) (g : Vec F S1024x128 .f32) (wg wu : Vec F S2x1024x512 .bf16)
    (wd : Vec F S2x512x1024 .bf16) {a b : St F} (h : Agree t a b) :
    Same (stepSt i x g wg wu wd a) (stepSt i x g wg wu wd b) ∧ Upto (320 * ((i 1).val % 4) + 320) (stepSt i x g wg wu wd a) (stepSt i x g wg wu wd b) := by
  have h0 : Same (if (i 1).val = 0 then initSt x g a else a) (if (i 1).val = 0 then initSt x g b else b) := by
    by_cases c : (i 1).val = 0
    · rw [if_pos c, if_pos c]; exact ⟨rfl, rfl, rfl, rfl, rfl⟩
    · rw [if_neg c, if_neg c]; exact h.1 (hi ▸ c)
  have hu : Upto (320 * ((i 1).val % 4)) (if (i 1).val = 0 then initSt x g a else a) (if (i 1).val = 0 then initSt x g b else b) := by
    have h2 := h.2
    rw [show t % 4 = (i 1).val % 4 by omega] at h2
    by_cases c : (i 1).val = 0
    · rw [if_pos c, if_pos c]; exact h2
    · rw [if_neg c, if_neg c]; exact h2
  have hs := main_same i wg wu wd h0
  have hv := main_upto i wg wu wd h0 hu
  unfold stepSt; dsimp only
  by_cases c : (i 1).val % 4 = 3
  · rw [if_pos c, if_pos c]
    refine ⟨⟨hs.1, ?_, hs.2.2⟩, hv⟩
    rw [c] at hv
    unfold stackSt; dsimp only
    rw [hs.2.1, show (mainSt i wg wu wd (if (i 1).val = 0 then initSt x g a else a)).P = (mainSt i wg wu wd (if (i 1).val = 0 then initSt x g b else b)).P from
        funext fun y => (hv y (y 0).isLt).1,
      show (mainSt i wg wu wd (if (i 1).val = 0 then initSt x g a else a)).Y = (mainSt i wg wu wd (if (i 1).val = 0 then initSt x g b else b)).Y from
        funext fun y => (hv y (y 0).isLt).2]
  · rw [if_neg c, if_neg c]; exact ⟨hs, hv⟩

/-- and what the next point relies on. -/
theorem step_agree {t : ℕ} (i : grid0.Coords) (hi : (i 1).val = t % 8) (x : Vec F S1024x1024 .f32) (g : Vec F S1024x128 .f32) (wg wu : Vec F S2x1024x512 .bf16)
    (wd : Vec F S2x512x1024 .bf16) {a b : St F} (h : Agree t a b) : Agree (t + 1) (stepSt i x g wg wu wd a) (stepSt i x g wg wu wd b) := by
  obtain ⟨h1, h2⟩ := step_same i hi x g wg wu wd h
  refine ⟨fun _ => h1, fun y hy => h2 y ?_⟩
  omega

theorem agree_zero (a b : St F) : Agree 0 a b := ⟨fun h => absurd rfl h, fun y hy => absurd hy (by omega)⟩

end Cert.KernelIdeal.Hand

end
-- ==== Proof.BodyA.lean ====
module

public import proofs.«01_k».proof.Proof.Step
public import proofs.«01_k».proof.Proof.Gen.KernelIdeal.Loops
public import proofs.«01_k».proof.Proof.Gen.KernelIdeal.Frame
public import Idealize.ShloMosaic.Lib.Tactic

@[expose] public section

set_option maxHeartbeats 4000000

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A whole-buffer store read back, -/
theorem stored_S1024x1024 {Val : EltTy → Type} {e : EltTy} (v : View sig .tc .vmem S1024x1024 e) (f : v.ty.Contents Val) (inb : ∀ a, (![0, 0] : Fin 2 → ℕ) a + S1024x1024.size a ≤ S1024x1024.size a)
    (w : S1024x1024.Idx → Val e) (L : List (View.Piece Val S1024x1024 e)) :
    v.read Val (v.writes Val f (⟨Rect.unit (s := S1024x1024) ![0, 0] ![1024, 1024] inb, w⟩ :: L)) = w := View.read_writes_full v f inb w L
/-- and loaded whole. -/
theorem cov_S1024x1024 {Val : EltTy → Type} [∀ e, Nonempty (Val e)] {e : EltTy} (v : View sig .tc .vmem S1024x1024 e) (inb inb' : ∀ a, (![0, 0] : Fin 2 → ℕ) a + S1024x1024.size a ≤ S1024x1024.size a)
    (w : S1024x1024.Idx → Val e) (L : List (View.Piece Val S1024x1024 e)) :
    v.readCov (⟨Rect.unit (s := S1024x1024) ![0, 0] ![1024, 1024] inb, w⟩ :: L) (Rect.unit (s := S1024x1024) ![0, 0] ![1024, 1024] inb').toLoadRect = w :=
  (View.readAt_full v _ inb').trans (View.read_writes_full v _ inb w L)

/-- A whole-buffer store read back, -/
theorem stored_S128x1024 {Val : EltTy → Type} {e : EltTy} (v : View sig .tc .vmem S128x1024 e) (f : v.ty.Contents Val) (inb : ∀ a, (![0, 0] : Fin 2 → ℕ) a + S128x1024.size a ≤ S128x1024.size a)
    (w : S128x1024.Idx → Val e) (L : List (View.Piece Val S128x1024 e)) :
    v.read Val (v.writes Val f (⟨Rect.unit (s := S128x1024) ![0, 0] ![128, 1024] inb, w⟩ :: L)) = w := View.read_writes_full v f inb w L
/-- and loaded whole. -/
theorem cov_S128x1024 {Val : EltTy → Type} [∀ e, Nonempty (Val e)] {e : EltTy} (v : View sig .tc .vmem S128x1024 e) (inb inb' : ∀ a, (![0, 0] : Fin 2 → ℕ) a + S128x1024.size a ≤ S128x1024.size a)
    (w : S128x1024.Idx → Val e) (L : List (View.Piece Val S128x1024 e)) :
    v.readCov (⟨Rect.unit (s := S128x1024) ![0, 0] ![128, 1024] inb, w⟩ :: L) (Rect.unit (s := S128x1024) ![0, 0] ![128, 1024] inb').toLoadRect = w :=
  (View.readAt_full v _ inb').trans (View.read_writes_full v _ inb w L)

/-- A whole-buffer store read back, -/
theorem stored_S8x128 {Val : EltTy → Type} {e : EltTy} (v : View sig .tc .vmem S8x128 e) (f : v.ty.Contents Val) (inb : ∀ a, (![0, 0] : Fin 2 → ℕ) a + S8x128.size a ≤ S8x128.size a)
    (w : S8x128.Idx → Val e) (L : List (View.Piece Val S8x128 e)) :
    v.read Val (v.writes Val f (⟨Rect.unit (s := S8x128) ![0, 0] ![8, 128] inb, w⟩ :: L)) = w := View.read_writes_full v f inb w L
/-- and loaded whole. -/
theorem cov_S8x128 {Val : EltTy → Type} [∀ e, Nonempty (Val e)] {e : EltTy} (v : View sig .tc .vmem S8x128 e) (inb inb' : ∀ a, (![0, 0] : Fin 2 → ℕ) a + S8x128.size a ≤ S8x128.size a)
    (w : S8x128.Idx → Val e) (L : List (View.Piece Val S8x128 e)) :
    v.readCov (⟨Rect.unit (s := S8x128) ![0, 0] ![8, 128] inb, w⟩ :: L) (Rect.unit (s := S8x128) ![0, 0] ![8, 128] inb').toLoadRect = w :=
  (View.readAt_full v _ inb').trans (View.read_writes_full v _ inb w L)

/-- The first row of the counts after their store. -/
theorem cov_row {Val : EltTy → Type} [∀ e, Nonempty (Val e)] {e : EltTy} (v : View sig .tc .vmem S8x128 e) (inb : ∀ a, (![0, 0] : Fin 2 → ℕ) a + S8x128.size a ≤ S8x128.size a)
    (inb' : ∀ a, (![0, 0] : Fin 2 → ℕ) a + S1x128.size a ≤ S8x128.size a) (w : S8x128.Idx → Val e) (L : List (View.Piece Val S8x128 e)) :
    v.readCov (⟨Rect.unit (s := S8x128) ![0, 0] ![8, 128] inb, w⟩ :: L) (Rect.unit (s := S8x128) ![0, 0] ![1, 128] inb').toLoadRect
      = View.ld (Val := Val) (e' := e) w (Rect.unit (s := S8x128) ![0, 0] ![1, 128] inb') :=
  congrArg (fun X => View.ld (Val := Val) (e' := e) X (Rect.unit (s := S8x128) ![0, 0] ![1, 128] inb')) (View.read_writes_full v _ inb w L)

theorem runA (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S2x1024x512 .bf16) (harg4 : arg4.IsWhole) (arg5 : Memref sig .tc .vmem S2x1024x512 .bf16) (harg5 : arg5.IsWhole) (arg6 : Memref sig .tc .vmem S2x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S8x128 .f32) (harg14 : arg14.IsWhole) (arg15 : Memref sig .tc .vmem S1280x1024 .bf16) (harg15 : arg15.IsWhole) (arg16 : Memref sig .tc .vmem S1280x1024 .bf16) (harg16 : arg16.IsWhole)
    (x : Vec F S1024x1024 .f32) (g : Vec F S1024x128 .f32) (wg wu : Vec F S2x1024x512 .bf16) (wd : Vec F S2x512x1024 .bf16) (lg lb : Vec F S1x1024 .f32) (o : Vec F S1024x1024 .f32) (st : St F)
    (h1 : (Scalar.cmpi .ne (Scalar.extui (Scalar.cmpi .eq (BitVec.ofNat 32 (i 1).val) 0#32) : BitVec 32) 0#32 = 1#1))
    (h2 : ¬ (Scalar.cmpi .ne (Scalar.extui (Scalar.cmpi .eq (Scalar.remsi (BitVec.ofNat 32 (i 1).val) 4#32) 3#32) : BitVec 32) 0#32 = 1#1))
    (h3 : ¬ (k0_cond3 i = 1#1)) :
    (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare st.xb ∗ owns (c : Thread nD τ) arg11 fullShare st.acc ∗ owns (c : Thread nD τ) arg12 fullShare st.gt ∗ owns (c : Thread nD τ) arg13 fullShare st.sl ∗ owns (c : Thread nD τ) arg14 fullShare st.cn ∗ owns (c : Thread nD τ) arg15 fullShare st.P ∗ owns (c : Thread nD τ) arg16 fullShare st.Y) : sProp 𝕄)
      ⊢ wp frame (wpE (defs₀ (F := F)) Variants.none c none) Set.univ (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare (mainSt i wg wu wd (initSt x g st)).xb ∗ owns (c : Thread nD τ) arg11 fullShare (mainSt i wg wu wd (initSt x g st)).acc ∗ owns (c : Thread nD τ) arg12 fullShare (mainSt i wg wu wd (initSt x g st)).gt ∗ owns (c : Thread nD τ) arg13 fullShare (mainSt i wg wu wd (initSt x g st)).sl ∗ owns (c : Thread nD τ) arg14 fullShare (mainSt i wg wu wd (initSt x g st)).cn ∗ owns (c : Thread nD τ) arg15 fullShare (mainSt i wg wu wd (initSt x g st)).P ∗ owns (c : Thread nD τ) arg16 fullShare (mainSt i wg wu wd (initSt x g st)).Y)) := by
  simp only [cc0_moe_ln_eq_skeleton]; unfold cc0_moe_ln_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have hc1 := Words.chk1
  have hc2 := Words.chk2
  sl_exec (disch := first | sl_exact h1 | sl_exact h2 | sl_exact h3 | exact hc1 _ | exact hc2 _)
  sl_step
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; sl_unfold_words; rw [View.read_writes_full]; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H11]
  · iexists _; isplitr; swap; · iexact H11
    ipureintro; refine (readA4 _ _ _ _ _ _ _ _ _ _ _).trans ?_; refine (congrArg (fun A => loop4 _ _ _ _ _ _ _ _ A _) (readA3 _ _ _ _ _ _ _ _ _ _)).trans ?_; refine (congrArg (fun A => loop4 _ _ _ _ _ _ _ _ (loop3 _ _ _ _ _ _ _ A _) _) (readA2 _ _ _ _ _ _ _ _ _ _ _ _ _)).trans ?_; refine (congrArg (fun A => loop4 _ _ _ _ _ _ _ _ (loop3 _ _ _ _ _ _ _ (loop2 _ _ _ _ _ _ _ _ A _) _) _) (readA1 _ _ _ _ _ _ _ _ _ _ _ _)).trans ?_; sl_unfold_words; simp only [whole_S1024x1024, whole_S1024x128, whole_S1x1024, whole_S128x1024, whole_S8x128, whole_S1280x1024]; simp only [View.readAt_eq_ld, cov_row, stored_S1024x1024, stored_S128x1024, stored_S8x128, cov_S1024x1024, cov_S128x1024, cov_S8x128, e2, e3, e4, e5, e6, e7, e8, e9, e10, e11, e12, e13, e14, e15, e16]; rfl
  isplitl [H12]
  · iexists _; isplitr; swap; · iexact H12
    ipureintro; sl_unfold_words; rw [View.read_writes_full]; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H13]
  · iexists _; isplitr; swap; · iexact H13
    ipureintro; sl_unfold_words; rw [View.read_writes_full]; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H14]
  · iexists _; isplitr; swap; · iexact H14
    ipureintro; sl_unfold_words; rw [View.read_writes_full]; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H15]
  · iexists _; isplitr; swap; · iexact H15
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, cov_row, stored_S1024x1024, stored_S128x1024, stored_S8x128, cov_S1024x1024, cov_S128x1024, cov_S8x128, e2, e3, e4, e5, e6, e7, e8, e9, e10, e11, e12, e13, e14, e15, e16]; rfl
  · iexists _; isplitr; swap; · iexact H16
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, cov_row, stored_S1024x1024, stored_S128x1024, stored_S8x128, cov_S1024x1024, cov_S128x1024, cov_S8x128, e2, e3, e4, e5, e6, e7, e8, e9, e10, e11, e12, e13, e14, e15, e16]; rfl

end Cert.KernelIdeal.Hand
-- ==== Proof.BodyB.lean ====
module

public import proofs.«01_k».proof.Proof.Step
public import proofs.«01_k».proof.Proof.Gen.KernelIdeal.Loops
public import proofs.«01_k».proof.Proof.Gen.KernelIdeal.Frame
public import Idealize.ShloMosaic.Lib.Tactic

@[expose] public section

set_option maxHeartbeats 4000000

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem runB (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S2x1024x512 .bf16) (harg4 : arg4.IsWhole) (arg5 : Memref sig .tc .vmem S2x1024x512 .bf16) (harg5 : arg5.IsWhole) (arg6 : Memref sig .tc .vmem S2x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S8x128 .f32) (harg14 : arg14.IsWhole) (arg15 : Memref sig .tc .vmem S1280x1024 .bf16) (harg15 : arg15.IsWhole) (arg16 : Memref sig .tc .vmem S1280x1024 .bf16) (harg16 : arg16.IsWhole)
    (x : Vec F S1024x1024 .f32) (g : Vec F S1024x128 .f32) (wg wu : Vec F S2x1024x512 .bf16) (wd : Vec F S2x512x1024 .bf16) (lg lb : Vec F S1x1024 .f32) (o : Vec F S1024x1024 .f32) (st : St F)
    (h1 : ¬ (Scalar.cmpi .ne (Scalar.extui (Scalar.cmpi .eq (BitVec.ofNat 32 (i 1).val) 0#32) : BitVec 32) 0#32 = 1#1))
    (h2 : ¬ (Scalar.cmpi .ne (Scalar.extui (Scalar.cmpi .eq (Scalar.remsi (BitVec.ofNat 32 (i 1).val) 4#32) 3#32) : BitVec 32) 0#32 = 1#1))
    (h3 : ¬ (k0_cond3 i = 1#1)) :
    (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare st.xb ∗ owns (c : Thread nD τ) arg11 fullShare st.acc ∗ owns (c : Thread nD τ) arg12 fullShare st.gt ∗ owns (c : Thread nD τ) arg13 fullShare st.sl ∗ owns (c : Thread nD τ) arg14 fullShare st.cn ∗ owns (c : Thread nD τ) arg15 fullShare st.P ∗ owns (c : Thread nD τ) arg16 fullShare st.Y) : sProp 𝕄)
      ⊢ wp frame (wpE (defs₀ (F := F)) Variants.none c none) Set.univ (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare (mainSt i wg wu wd st).xb ∗ owns (c : Thread nD τ) arg11 fullShare (mainSt i wg wu wd st).acc ∗ owns (c : Thread nD τ) arg12 fullShare (mainSt i wg wu wd st).gt ∗ owns (c : Thread nD τ) arg13 fullShare (mainSt i wg wu wd st).sl ∗ owns (c : Thread nD τ) arg14 fullShare (mainSt i wg wu wd st).cn ∗ owns (c : Thread nD τ) arg15 fullShare (mainSt i wg wu wd st).P ∗ owns (c : Thread nD τ) arg16 fullShare (mainSt i wg wu wd st).Y)) := by
  simp only [cc0_moe_ln_eq_skeleton]; unfold cc0_moe_ln_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have hc1 := Words.chk1
  have hc2 := Words.chk2
  sl_exec (disch := first | sl_exact h1 | sl_exact h2 | sl_exact h3 | exact hc1 _ | exact hc2 _)
  sl_step
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; refine (readA4 _ _ _ _ _ _ _ _ _ _ _).trans ?_; refine (congrArg (fun A => loop4 _ _ _ _ _ _ _ _ A _) (readA3 _ _ _ _ _ _ _ _ _ _)).trans ?_; refine (congrArg (fun A => loop4 _ _ _ _ _ _ _ _ (loop3 _ _ _ _ _ _ _ A _) _) (readA2 _ _ _ _ _ _ _ _ _ _ _ _ _)).trans ?_; refine (congrArg (fun A => loop4 _ _ _ _ _ _ _ _ (loop3 _ _ _ _ _ _ _ (loop2 _ _ _ _ _ _ _ _ A _) _) _) (readF1 _ _ _ _ _ _ _ _ _ _ _)).trans ?_; sl_unfold_words; simp only [View.readAt_eq_ld, e2, e3, e4, e5, e6, e7, e8, e9, e10, e11, e12, e13, e14, e15, e16]; rfl
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  · iexists _; isplitr; swap; · iexact H16
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl

end Cert.KernelIdeal.Hand
-- ==== Proof.BodyC.lean ====
module

public import proofs.«01_k».proof.Proof.Step
public import proofs.«01_k».proof.Proof.Gen.KernelIdeal.Loops
public import proofs.«01_k».proof.Proof.Gen.KernelIdeal.Frame
public import Idealize.ShloMosaic.Lib.Tactic

@[expose] public section

set_option maxHeartbeats 4000000

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem runC (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S2x1024x512 .bf16) (harg4 : arg4.IsWhole) (arg5 : Memref sig .tc .vmem S2x1024x512 .bf16) (harg5 : arg5.IsWhole) (arg6 : Memref sig .tc .vmem S2x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S8x128 .f32) (harg14 : arg14.IsWhole) (arg15 : Memref sig .tc .vmem S1280x1024 .bf16) (harg15 : arg15.IsWhole) (arg16 : Memref sig .tc .vmem S1280x1024 .bf16) (harg16 : arg16.IsWhole)
    (x : Vec F S1024x1024 .f32) (g : Vec F S1024x128 .f32) (wg wu : Vec F S2x1024x512 .bf16) (wd : Vec F S2x512x1024 .bf16) (lg lb : Vec F S1x1024 .f32) (o : Vec F S1024x1024 .f32) (st : St F)
    (h1 : ¬ (Scalar.cmpi .ne (Scalar.extui (Scalar.cmpi .eq (BitVec.ofNat 32 (i 1).val) 0#32) : BitVec 32) 0#32 = 1#1))
    (h2 : (Scalar.cmpi .ne (Scalar.extui (Scalar.cmpi .eq (Scalar.remsi (BitVec.ofNat 32 (i 1).val) 4#32) 3#32) : BitVec 32) 0#32 = 1#1))
    (h3 : ¬ (k0_cond3 i = 1#1)) :
    (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare st.xb ∗ owns (c : Thread nD τ) arg11 fullShare st.acc ∗ owns (c : Thread nD τ) arg12 fullShare st.gt ∗ owns (c : Thread nD τ) arg13 fullShare st.sl ∗ owns (c : Thread nD τ) arg14 fullShare st.cn ∗ owns (c : Thread nD τ) arg15 fullShare st.P ∗ owns (c : Thread nD τ) arg16 fullShare st.Y) : sProp 𝕄)
      ⊢ wp frame (wpE (defs₀ (F := F)) Variants.none c none) Set.univ (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare (stackSt (mainSt i wg wu wd st)).xb ∗ owns (c : Thread nD τ) arg11 fullShare (stackSt (mainSt i wg wu wd st)).acc ∗ owns (c : Thread nD τ) arg12 fullShare (stackSt (mainSt i wg wu wd st)).gt ∗ owns (c : Thread nD τ) arg13 fullShare (stackSt (mainSt i wg wu wd st)).sl ∗ owns (c : Thread nD τ) arg14 fullShare (stackSt (mainSt i wg wu wd st)).cn ∗ owns (c : Thread nD τ) arg15 fullShare (stackSt (mainSt i wg wu wd st)).P ∗ owns (c : Thread nD τ) arg16 fullShare (stackSt (mainSt i wg wu wd st)).Y)) := by
  simp only [cc0_moe_ln_eq_skeleton]; unfold cc0_moe_ln_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have hc1 := Words.chk1
  have hc2 := Words.chk2
  sl_exec (disch := first | sl_exact h1 | sl_exact h2 | sl_exact h3 | exact hc1 _ | exact hc2 _)
  sl_step
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H11]
  · iexists _; isplitr; swap; · iexact H11
    ipureintro; refine (View.read_writes_full _ _ _ _ _).trans ?_
    refine (congr (congr (congrArg (k0_pay3 (F := F)) ?_) ?_) ?_)
    · refine (whole_S1024x1024 _ _ _).trans ?_; refine (readA4 _ _ _ _ _ _ _ _ _ _ _).trans ?_; refine (congrArg (fun A => loop4 _ _ _ _ _ _ _ _ A _) (readA3 _ _ _ _ _ _ _ _ _ _)).trans ?_; refine (congrArg (fun A => loop4 _ _ _ _ _ _ _ _ (loop3 _ _ _ _ _ _ _ A _) _) (readA2 _ _ _ _ _ _ _ _ _ _ _ _ _)).trans ?_; refine (congrArg (fun A => loop4 _ _ _ _ _ _ _ _ (loop3 _ _ _ _ _ _ _ (loop2 _ _ _ _ _ _ _ _ A _) _) _) (readF1 _ _ _ _ _ _ _ _ _ _ _)).trans ?_; sl_unfold_words; simp only [View.readAt_eq_ld, e2, e3, e4, e5, e6, e7, e8, e9, e10, e11, e12, e13, e14, e15, e16]; rfl
    · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
    · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  · iexists _; isplitr; swap; · iexact H16
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl

end Cert.KernelIdeal.Hand
-- ==== Proof.BodyD.lean ====
module

public import proofs.«01_k».proof.Proof.Step
public import proofs.«01_k».proof.Proof.Gen.KernelIdeal.Loops
public import proofs.«01_k».proof.Proof.Gen.KernelIdeal.Frame
public import Idealize.ShloMosaic.Lib.Tactic

@[expose] public section

set_option maxHeartbeats 4000000

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem runD (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S2x1024x512 .bf16) (harg4 : arg4.IsWhole) (arg5 : Memref sig .tc .vmem S2x1024x512 .bf16) (harg5 : arg5.IsWhole) (arg6 : Memref sig .tc .vmem S2x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S8x128 .f32) (harg14 : arg14.IsWhole) (arg15 : Memref sig .tc .vmem S1280x1024 .bf16) (harg15 : arg15.IsWhole) (arg16 : Memref sig .tc .vmem S1280x1024 .bf16) (harg16 : arg16.IsWhole)
    (x : Vec F S1024x1024 .f32) (g : Vec F S1024x128 .f32) (wg wu : Vec F S2x1024x512 .bf16) (wd : Vec F S2x512x1024 .bf16) (lg lb : Vec F S1x1024 .f32) (o : Vec F S1024x1024 .f32) (st : St F)
    (h1 : ¬ (Scalar.cmpi .ne (Scalar.extui (Scalar.cmpi .eq (BitVec.ofNat 32 (i 1).val) 0#32) : BitVec 32) 0#32 = 1#1))
    (h2 : (Scalar.cmpi .ne (Scalar.extui (Scalar.cmpi .eq (Scalar.remsi (BitVec.ofNat 32 (i 1).val) 4#32) 3#32) : BitVec 32) 0#32 = 1#1))
    (h3 : (k0_cond3 i = 1#1)) :
    (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare st.xb ∗ owns (c : Thread nD τ) arg11 fullShare st.acc ∗ owns (c : Thread nD τ) arg12 fullShare st.gt ∗ owns (c : Thread nD τ) arg13 fullShare st.sl ∗ owns (c : Thread nD τ) arg14 fullShare st.cn ∗ owns (c : Thread nD τ) arg15 fullShare st.P ∗ owns (c : Thread nD τ) arg16 fullShare st.Y) : sProp 𝕄)
      ⊢ wp frame (wpE (defs₀ (F := F)) Variants.none c none) Set.univ (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare (k0_pay4 x (stackSt (mainSt i wg wu wd st)).acc lg lb) ∗ owns (c : Thread nD τ) arg10 fullShare (stackSt (mainSt i wg wu wd st)).xb ∗ owns (c : Thread nD τ) arg11 fullShare (stackSt (mainSt i wg wu wd st)).acc ∗ owns (c : Thread nD τ) arg12 fullShare (stackSt (mainSt i wg wu wd st)).gt ∗ owns (c : Thread nD τ) arg13 fullShare (stackSt (mainSt i wg wu wd st)).sl ∗ owns (c : Thread nD τ) arg14 fullShare (stackSt (mainSt i wg wu wd st)).cn ∗ owns (c : Thread nD τ) arg15 fullShare (stackSt (mainSt i wg wu wd st)).P ∗ owns (c : Thread nD τ) arg16 fullShare (stackSt (mainSt i wg wu wd st)).Y)) := by
  simp only [cc0_moe_ln_eq_skeleton]; unfold cc0_moe_ln_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩
  have hc1 := Words.chk1
  have hc2 := Words.chk2
  sl_exec (disch := first | sl_exact h1 | sl_exact h2 | sl_exact h3 | exact hc1 _ | exact hc2 _)
  sl_step
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; refine (View.read_writes_full _ _ _ _ _).trans ?_
    refine (congr (congr (congr (congrArg (k0_pay4 (F := F)) ?_) ?_) ?_) ?_)
    · refine (whole_S1024x1024 _ _ _).trans e2
    · refine (whole_S1024x1024 _ _ _).trans ?_; refine (View.read_writes_full _ _ _ _ _).trans ?_
      refine (congr (congr (congrArg (k0_pay3 (F := F)) ?_) ?_) ?_)
      · refine (whole_S1024x1024 _ _ _).trans ?_; refine (readA4 _ _ _ _ _ _ _ _ _ _ _).trans ?_; refine (congrArg (fun A => loop4 _ _ _ _ _ _ _ _ A _) (readA3 _ _ _ _ _ _ _ _ _ _)).trans ?_; refine (congrArg (fun A => loop4 _ _ _ _ _ _ _ _ (loop3 _ _ _ _ _ _ _ A _) _) (readA2 _ _ _ _ _ _ _ _ _ _ _ _ _)).trans ?_; refine (congrArg (fun A => loop4 _ _ _ _ _ _ _ _ (loop3 _ _ _ _ _ _ _ (loop2 _ _ _ _ _ _ _ _ A _) _) _) (readF1 _ _ _ _ _ _ _ _ _ _ _)).trans ?_; sl_unfold_words; simp only [View.readAt_eq_ld, e2, e3, e4, e5, e6, e7, e8, e9, e10, e11, e12, e13, e14, e15, e16]; rfl
      · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
      · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
    · refine (whole_S1x1024 _ _ _).trans e7
    · refine (whole_S1x1024 _ _ _).trans e8
  isplitl [H10]
  · iexists _; isplitr; swap; · iexact H10
    ipureintro; exact e10
  isplitl [H11]
  · iexists _; isplitr; swap; · iexact H11
    ipureintro; refine (View.read_writes_full _ _ _ _ _).trans ?_
    refine (congr (congr (congrArg (k0_pay3 (F := F)) ?_) ?_) ?_)
    · refine (whole_S1024x1024 _ _ _).trans ?_; refine (readA4 _ _ _ _ _ _ _ _ _ _ _).trans ?_; refine (congrArg (fun A => loop4 _ _ _ _ _ _ _ _ A _) (readA3 _ _ _ _ _ _ _ _ _ _)).trans ?_; refine (congrArg (fun A => loop4 _ _ _ _ _ _ _ _ (loop3 _ _ _ _ _ _ _ A _) _) (readA2 _ _ _ _ _ _ _ _ _ _ _ _ _)).trans ?_; refine (congrArg (fun A => loop4 _ _ _ _ _ _ _ _ (loop3 _ _ _ _ _ _ _ (loop2 _ _ _ _ _ _ _ _ A _) _) _) (readF1 _ _ _ _ _ _ _ _ _ _ _)).trans ?_; sl_unfold_words; simp only [View.readAt_eq_ld, e2, e3, e4, e5, e6, e7, e8, e9, e10, e11, e12, e13, e14, e15, e16]; rfl
    · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
    · refine (whole_S1280x1024 _ _ _).trans ?_; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl
  · iexists _; isplitr; swap; · iexact H16
    ipureintro; rw [View.read_writes_cons_put _ _ _ _ _ rfl, View.read_writes_cons_put _ _ _ _ _ rfl, View.writes_nil]; sl_unfold_words; simp only [whole_S1024x1024, whole_S1024x128, whole_S1x1024, whole_S128x1024, whole_S8x128, whole_S1280x1024]; simp only [View.readAt_eq_ld, e2, e3, e4, e5, e6, e7, e8, e9, e10, e11, e12, e13, e14, e15, e16]; rfl

end Cert.KernelIdeal.Hand
-- ==== Proof.Run.lean ====
module

public import proofs.«01_k».proof.Proof.Track
public import proofs.«01_k».proof.Proof.BodyA
public import proofs.«01_k».proof.Proof.BodyB
public import proofs.«01_k».proof.Proof.BodyC
public import proofs.«01_k».proof.Proof.BodyD
public import proofs.«01_k».proof.Proof.Gen.KernelIdeal.Loops
public import proofs.«01_k».proof.Proof.Gen.KernelIdeal.Frame
public import Idealize.ShloMosaic.Lib.Pipeline.Frame
public import Idealize.ShloMosaic.Lib.Tactic

@[expose] public section

set_option maxHeartbeats 4000000

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open Idealize.ShloMosaic.Rounds
open Idealize.ShloMosaic.Pipeline (Dat Cfg Window BodyObligation)
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- What the output's buffer holds after a point: the tile's result at its last point, else what it held. -/
def outOf (i : grid0.Coords) (x : Vec F S1024x1024 .f32) (lg lb : Vec F S1x1024 .f32) (st : St F) (o : Vec F S1024x1024 .f32) : Vec F S1024x1024 .f32 :=
  if (i 1).val = 7 then k0_pay4 x st.acc lg lb else o

theorem cond1_iff (s : ℕ) (hs : s < 8) : (Scalar.cmpi .ne (Scalar.extui (Scalar.cmpi .eq (BitVec.ofNat 32 s) 0#32) : BitVec 32) 0#32 = 1#1) ↔ s = 0 := by
  revert s; decide
theorem cond2_iff (s : ℕ) (hs : s < 8) : (Scalar.cmpi .ne (Scalar.extui (Scalar.cmpi .eq (Scalar.remsi (BitVec.ofNat 32 s) 4#32) 3#32) : BitVec 32) 0#32 = 1#1) ↔ s % 4 = 3 := by
  revert s; decide
theorem cond3_iff (i : grid0.Coords) : (k0_cond3 i = 1#1) ↔ (i 1).val = 7 := by
  have h : ∀ s : Fin 8, (Scalar.cmpi .ne (Scalar.extui (Scalar.cmpi .eq (BitVec.ofNat 32 s.val) 7#32) : BitVec 32) 0#32 = 1#1) ↔ s.val = 7 := by decide
  exact h (i 1)

/-- One grid point, run. -/
theorem run_step (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S2x1024x512 .bf16) (harg4 : arg4.IsWhole) (arg5 : Memref sig .tc .vmem S2x1024x512 .bf16) (harg5 : arg5.IsWhole) (arg6 : Memref sig .tc .vmem S2x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .bf16) (harg10 : arg10.IsWhole) (arg11 : Memref sig .tc .vmem S1024x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S8x128 .f32) (harg14 : arg14.IsWhole) (arg15 : Memref sig .tc .vmem S1280x1024 .bf16) (harg15 : arg15.IsWhole) (arg16 : Memref sig .tc .vmem S1280x1024 .bf16) (harg16 : arg16.IsWhole)
    (x : Vec F S1024x1024 .f32) (g : Vec F S1024x128 .f32) (wg wu : Vec F S2x1024x512 .bf16) (wd : Vec F S2x512x1024 .bf16) (lg lb : Vec F S1x1024 .f32) (o : Vec F S1024x1024 .f32) (st : St F) :
    (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare o ∗ owns (c : Thread nD τ) arg10 fullShare st.xb ∗ owns (c : Thread nD τ) arg11 fullShare st.acc ∗ owns (c : Thread nD τ) arg12 fullShare st.gt ∗ owns (c : Thread nD τ) arg13 fullShare st.sl ∗ owns (c : Thread nD τ) arg14 fullShare st.cn ∗ owns (c : Thread nD τ) arg15 fullShare st.P ∗ owns (c : Thread nD τ) arg16 fullShare st.Y) : sProp 𝕄)
      ⊢ wp frame (wpE (defs₀ (F := F)) Variants.none c none) Set.univ (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16) (fun _ =>
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare lg ∗ owns (c : Thread nD τ) arg8 fullShare lb ∗ owns (c : Thread nD τ) arg9 fullShare (outOf i x lg lb (stepSt i x g wg wu wd st) o) ∗ owns (c : Thread nD τ) arg10 fullShare (stepSt i x g wg wu wd st).xb ∗ owns (c : Thread nD τ) arg11 fullShare (stepSt i x g wg wu wd st).acc ∗ owns (c : Thread nD τ) arg12 fullShare (stepSt i x g wg wu wd st).gt ∗ owns (c : Thread nD τ) arg13 fullShare (stepSt i x g wg wu wd st).sl ∗ owns (c : Thread nD τ) arg14 fullShare (stepSt i x g wg wu wd st).cn ∗ owns (c : Thread nD τ) arg15 fullShare (stepSt i x g wg wu wd st).P ∗ owns (c : Thread nD τ) arg16 fullShare (stepSt i x g wg wu wd st).Y)) := by
  have hlt : (i 1).val < 8 := (i 1).isLt
  have e1 := cond1_iff (i 1).val hlt
  have e2 := cond2_iff (i 1).val hlt
  have e3 := cond3_iff i
  by_cases h0 : (i 1).val = 0
  · have n2 : ¬ (i 1).val % 4 = 3 := by omega
    have n3 : ¬ (i 1).val = 7 := by omega
    have hst : stepSt i x g wg wu wd st = mainSt i wg wu wd (initSt x g st) := by unfold stepSt; rw [if_pos h0, if_neg n2]
    rw [hst, outOf, if_neg n3]
    exact runA c i arg2 harg2 arg3 harg3 arg4 harg4 arg5 harg5 arg6 harg6 arg7 harg7 arg8 harg8 arg9 harg9 arg10 harg10 arg11 harg11 arg12 harg12 arg13 harg13 arg14 harg14 arg15 harg15 arg16 harg16 x g wg wu wd lg lb o st (e1.mpr h0) (fun h => n2 (e2.mp h)) (fun h => n3 (e3.mp h))
  · by_cases h7 : (i 1).val = 7
    · have p2 : (i 1).val % 4 = 3 := by omega
      have hst : stepSt i x g wg wu wd st = stackSt (mainSt i wg wu wd st) := by unfold stepSt; rw [if_neg h0, if_pos p2]
      rw [hst, outOf, if_pos h7]
      exact runD c i arg2 harg2 arg3 harg3 arg4 harg4 arg5 harg5 arg6 harg6 arg7 harg7 arg8 harg8 arg9 harg9 arg10 harg10 arg11 harg11 arg12 harg12 arg13 harg13 arg14 harg14 arg15 harg15 arg16 harg16 x g wg wu wd lg lb o st (fun h => h0 (e1.mp h)) (e2.mpr p2) (e3.mpr h7)
    · by_cases p2 : (i 1).val % 4 = 3
      · have hst : stepSt i x g wg wu wd st = stackSt (mainSt i wg wu wd st) := by unfold stepSt; rw [if_neg h0, if_pos p2]
        rw [hst, outOf, if_neg h7]
        exact runC c i arg2 harg2 arg3 harg3 arg4 harg4 arg5 harg5 arg6 harg6 arg7 harg7 arg8 harg8 arg9 harg9 arg10 harg10 arg11 harg11 arg12 harg12 arg13 harg13 arg14 harg14 arg15 harg15 arg16 harg16 x g wg wu wd lg lb o st (fun h => h0 (e1.mp h)) (e2.mpr p2) (fun h => h7 (e3.mp h))
      · have hst : stepSt i x g wg wu wd st = mainSt i wg wu wd st := by unfold stepSt; rw [if_neg h0, if_neg p2]
        rw [hst, outOf, if_neg h7]
        exact runB c i arg2 harg2 arg3 harg3 arg4 harg4 arg5 harg5 arg6 harg6 arg7 harg7 arg8 harg8 arg9 harg9 arg10 harg10 arg11 harg11 arg12 harg12 arg13 harg13 arg14 harg14 arg15 harg15 arg16 harg16 x g wg wu wd lg lb o st (fun h => h0 (e1.mp h)) (fun h => p2 (e2.mp h)) (fun h => h7 (e3.mp h))

/-! ## The data of the pipeline -/

variable (m : (ℓ : Loc nD τ sig) → Buf (Elt F) ℓ) (ρ : Dev nD → PrngReg)

/-- Input window 0's block at a point. -/
abbrev bx (c : Dev nD) (t : Fin cfg0.N) : Vec F S1024x1024 .f32 := iblk m c 0 t
/-- Input window 1's block at a point. -/
abbrev bg (c : Dev nD) (t : Fin cfg0.N) : Vec F S1024x128 .f32 := iblk m c 1 t
/-- Input window 2's block at a point. -/
abbrev bwg (c : Dev nD) (t : Fin cfg0.N) : Vec F S2x1024x512 .bf16 := iblk m c 2 t
/-- Input window 3's block at a point. -/
abbrev bwu (c : Dev nD) (t : Fin cfg0.N) : Vec F S2x1024x512 .bf16 := iblk m c 3 t
/-- Input window 4's block at a point. -/
abbrev bwd (c : Dev nD) (t : Fin cfg0.N) : Vec F S2x512x1024 .bf16 := iblk m c 4 t
/-- Input window 5's block at a point. -/
abbrev blg (c : Dev nD) (t : Fin cfg0.N) : Vec F S1x1024 .f32 := iblk m c 5 t
/-- Input window 6's block at a point. -/
abbrev blb (c : Dev nD) (t : Fin cfg0.N) : Vec F S1x1024 .f32 := iblk m c 6 t

/-- The scratch before point `t`, from zeros on. -/
def stAt (c : Dev nD) : ℕ → St F
  | 0 => ⟨fun _ => FloatOps.ofBits .bf16 0, fun _ => FloatOps.ofBits .f32 0, fun _ => FloatOps.ofBits .f32 0, fun _ => FloatOps.ofBits .f32 0, fun _ => FloatOps.ofBits .f32 0, fun _ => FloatOps.ofBits .bf16 0, fun _ => FloatOps.ofBits .bf16 0⟩
  | t + 1 => if h : t < cfg0.N then
      stepSt (grid0.coords ⟨t, h⟩) (bx m c ⟨t, h⟩) (bg m c ⟨t, h⟩) (bwg m c ⟨t, h⟩) (bwu m c ⟨t, h⟩) (bwd m c ⟨t, h⟩) (stAt c t)
    else stAt c t

theorem stAt_succ (c : Dev nD) (t : Fin cfg0.N) : stAt m c (t.val + 1)
    = stepSt (grid0.coords t) (bx m c t) (bg m c t) (bwg m c t) (bwu m c t) (bwd m c t) (stAt m c t.val) := by
  rw [stAt, dif_pos t.isLt]

theorem coords_step : ∀ t : Fin grid0.N, (grid0.coords t 1).val = t.val % 8 := by decide

/-- What a tile's last point writes. -/
def outAt (c : Dev nD) (t : Fin cfg0.N) : Vec F S1024x1024 .f32 := k0_pay4 (bx m c t) (stAt m c (t.val + 1)).acc (blg m c t) (blb m c t)

/-- The invariant between points: the scratch at a state that agrees with `stAt`. -/
def phi (c : Dev nD) (t : ℕ) : sProp 𝕄 :=
  iprop(∃ st : St F, ⌜Agree t st (stAt m c t)⌝ ∗ (owns (c : Thread nD τ) (Memref.whole cc0_scratch0) fullShare st.xb ∗ owns (c : Thread nD τ) (Memref.whole cc0_scratch1) fullShare st.acc ∗ owns (c : Thread nD τ) (Memref.whole cc0_scratch2) fullShare st.gt ∗ owns (c : Thread nD τ) (Memref.whole cc0_scratch3) fullShare st.sl ∗ owns (c : Thread nD τ) (Memref.whole cc0_scratch4) fullShare st.cn ∗ owns (c : Thread nD τ) (Memref.whole cc0_scratch5) fullShare st.P ∗ owns (c : Thread nD τ) (Memref.whole cc0_scratch6) fullShare st.Y) ∗ ∃ r, prngReg c r)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => outAt m c t
    | ⟨_ + 8, h⟩ => absurd h (Nat.not_lt.2 (Nat.le_add_left _ _))
  Φ t := phi m c t.val
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ (dats m 0 c).leavesExact 7 t)

/-- The output's buffer after a point, in the two cases. -/
theorem leaves7 (c : Dev nD) (t : Fin cfg0.N) (st : St F) (hst : st.acc = (stAt m c (t.val + 1)).acc) (d) :
    (owns (c : Thread nD τ) (st0_7 t) fullShare (outOf (grid0.coords t) (bx m c t) (blg m c t) (blb m c t) st ((dats m 0 c).before 7 t d)) : sProp 𝕄)
      ⊢ (dats m 0 c).leavesExact 7 t := by
  have e3 := cond3_iff (grid0.coords t)
  by_cases h7 : (grid0.coords t 1).val = 7
  · have hi : cfg0.idle 7 (cfg0.grid.coords t) = false := by
      show (!(k0_cond3 (grid0.coords t) == 1#1)) = false
      rw [e3.mpr h7]; rfl
    unfold Dat.leavesExact outOf
    rw [hi, if_pos h7, hst]
    exact .rfl
  · have hi : cfg0.idle 7 (cfg0.grid.coords t) = true := by
      show (!(k0_cond3 (grid0.coords t) == 1#1)) = true
      rw [beq_false_of_ne (fun h => h7 (e3.mp h))]; rfl
    have hf : (cfg0.win 7).flush t = false := by
      rw [Bool.eq_false_iff]
      intro h
      have := (flush0_7 t).mp h
      rw [coords_step] at h7; omega
    rw [Dat.leavesExact_idle _ _ _ hi hf]
    unfold outOf
    rw [if_neg h7]
    iintro H
    iexists _; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = phi m c t.val from rfl, show (dats m 0 c).Φ t.succ = phi m c (t.val + 1) from rfl]
  simp only [before_0, before_1, before_2, before_3, before_4, before_5, before_6]
  unfold phi
  iintro ⟨⟨%st, %hag, ⟨S0, S1, S2, S3, S4, S5, S6⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩⟩
  iapply (wp_wand_r frame _ Set.univ)
  isplitl [S0 S1 S2 S3 S4 S5 S6 W0 W1 W2 W3 W4 W5 W6 W7]
  · iapply (run_step (F := F) c (grid0.coords t) _ _ _ _ _ _ _ _ _ _ _ _ _ _ _ _ _ _ _ _ _ _ _ _ _ _ _ _ _ _ (bx m c t) (bg m c t) (bwg m c t) (bwu m c t) (bwd m c t) (blg m c t) (blb m c t) ((dats m 0 c).before 7 t d7) st)
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [S0]; · iexact S0
    isplitl [S1]; · iexact S1
    isplitl [S2]; · iexact S2
    isplitl [S3]; · iexact S3
    isplitl [S4]; · iexact S4
    isplitl [S5]; · iexact S5
    iexact S6
  iintro %_ ⟨W0, W1, W2, W3, W4, W5, W6, W7, S0, S1, S2, S3, S4, S5, S6⟩
  have hs := step_same (grid0.coords t) (coords_step t) (bx m c t) (bg m c t) (bwg m c t) (bwu m c t) (bwd m c t) hag
  have hn := step_agree (grid0.coords t) (coords_step t) (bx m c t) (bg m c t) (bwg m c t) (bwu m c t) (bwd m c t) hag
  rw [← stAt_succ m c t] at hs hn
  isplitl [S0 S1 S2 S3 S4 S5 S6 Hg]
  · iexists _
    isplitr; · ipureintro; exact hn
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iapply (leaves7 m c t _ hs.1.2.1 d7)
  iexact W7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : (Pipeline.ΦA spec0 c : sProp 𝕄) ⊢ (dats (F := F) m 0 c).Φ 0 := by
  show _ ⊢ phi m c 0
  unfold Pipeline.ΦA phi
  rw [scopedRest0_eq]
  iintro ⟨⟨⟨%f0, S0⟩, ⟨%f1, S1⟩, ⟨%f2, S2⟩, ⟨%f3, S3⟩, ⟨%f4, S4⟩, ⟨%f5, S5⟩, ⟨%f6, S6⟩⟩, Hg⟩
  iexists ⟨f0, f1, f2, f3, f4, f5, f6⟩
  isplitr; · ipureintro; exact agree_zero _ _
  isplitl [S0 S1 S2 S3 S4 S5 S6]
  · simp only [owns_whole]
    isplitl [S0]; · iexact S0
    isplitl [S1]; · iexact S1
    isplitl [S2]; · iexact S2
    isplitl [S3]; · iexact S3
    isplitl [S4]; · iexact S4
    isplitl [S5]; · iexact S5
    iexact S6
  iexact Hg

theorem phi_out (c : Dev nD) (t : Fin (cfg0.N + 1)) : (dats (F := F) m 0 c).Φ t ⊢ (Pipeline.ΦA spec0 c : sProp 𝕄) := by
  show phi m c t.val ⊢ _
  unfold Pipeline.ΦA phi
  rw [scopedRest0_eq]
  simp only [owns_whole]
  iintro ⟨%st, -, ⟨S0, S1, S2, S3, S4, S5, S6⟩, Hg⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hg

set_option backward.isDefEq.respectTransparency.types false in
/-- At any float values and from any memory with zero counters the program ends with its arrays at what the points
    write and every counter at zero. -/
theorem run_main :
    θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := phi_in m) (hout := fun c => phi_out m c _)

end Cert.KernelIdeal.Hand
-- ==== Proof.Frames.lean ====
module

public import proofs.«01_k».proof.Defs
public import proofs.«01_k».proof.Proof.Gen.Kernel
public import proofs.«01_k».proof.Proof.Run
public import proofs.«01_k».proof.Proof.Gen.ReferenceIdeal.Run

@[expose] public section

set_option maxHeartbeats 4000000

noncomputable section

namespace Cert.Proof
open Idealize.ShloMosaic Idealize.ShloMosaic.TcCoe Idealize.SL.Sem
open Cert.KernelIdeal Cert.KernelIdeal.Gen Cert.KernelIdeal.Hand

/-- A run that leaves each array at what its points write leaves every argument as it was launched. -/
theorem args_kept {F : FTy → Type} [FloatOps F] (m : (ℓ : Loc nD τ sig) → Buf (Elt F) ℓ)
    {r : PUnit × _} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have rest (b) (hb) (hs) := (h c).2 b (Pipeline.mem_restRefs_of b hb hs)
  ⟨((h c).1 0).trans (((dats m 0 c).arrAt_in 0 rfl _).trans ((A_eq m c 0).trans (V_main_arg0 m c))),
    (rest main_arg1 (by decide) (by decide)).trans (V_main_arg1 m c),
    (rest main_arg2 (by decide) (by decide)).trans (V_main_arg2 m c),
    (rest main_arg3 (by decide) (by decide)).trans (V_main_arg3 m c),
    (rest main_arg4 (by decide) (by decide)).trans (V_main_arg4 m c),
    (rest main_arg5 (by decide) (by decide)).trans (V_main_arg5 m c),
    (rest main_arg6 (by decide) (by decide)).trans (V_main_arg6 m c)⟩

section
variable {F : FTy → Type} [FloatOps F]

/-- The two printed programs have one text: their bodies are the same. -/
theorem body_same : Cert.Kernel.cc0_moe_ln (F := F) = Cert.KernelIdeal.cc0_moe_ln (F := F) := rfl

/-- So are the tables of the labels they call. -/
theorem labels_same : Cert.Kernel.defs₀ (F := F) = Cert.KernelIdeal.defs₀ (F := F) := by
  refine congrArg Defs.onTc (funext fun l => funext fun p => ?_)
  match l, p with
  | 0, (t, s) => exact rfl
  | ⟨_ + 1, h⟩, _ => exact absurd h (Nat.not_lt.2 (Nat.le_add_left _ _))

theorem defs_same : Cert.Kernel.defs (F := F) = Cert.KernelIdeal.defs (F := F) :=
  congrArg (Pipeline.defs (Cert.KernelIdeal.pcfgs (F := F))) labels_same

theorem main_same : onTc (τ := τ) (Cert.Kernel.main (F := F)) = onTc (τ := τ) (Cert.KernelIdeal.main (F := F)) :=
  congrArg (fun p => onTc (τ := τ) p) (rfl : Cert.Kernel.main (F := F) = Cert.KernelIdeal.main (F := F))

end

/-- The printed program, at words. -/
theorem frame_kernel : Cert.quiescent_Kernel := fun m ρ _ => by
  have h := (θ_run Cert.KernelIdeal.defs _ _).mono
    (fun r (h : Pipeline.FramePost cfgs (dats m) 0 (V m) r ∧ r.2.sem = fun _ => 0) =>
      (⟨args_kept m h.1, h.2⟩ : (∀ c : Dev nD, _) ∧ r.2.sem = fun _ => 0)) (run_main (F := Bits) m ρ)
  rw [← defs_same, ← main_same] at h
  exact h

/-- The same program over the extended reals. -/
theorem frame_ideal : Cert.quiescent_KernelIdeal := fun m ρ _ =>
  (θ_run Cert.KernelIdeal.defs _ _).mono (fun _ h => ⟨args_kept m h.1, h.2⟩) (run_main (F := Ideal) m ρ)

/-- The reference over the extended reals. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Chunk.lean ====
module

public import proofs.«01_k».proof.Proof.Step
public import Idealize.ShloMosaic.Lib.Pointwise
public import Idealize.ShloMosaic.PureOps.Ideal

@[expose] public section

set_option maxHeartbeats 400000

noncomputable section

namespace Cert.KernelIdeal.Value
open Cert.KernelIdeal Cert.KernelIdeal.Gen Cert.KernelIdeal.Hand
open Idealize.ShloMosaic

/-- Row `r` of the tokens against column `d` of a weight. -/
def up (xb : Vec Ideal S1024x1024 .bf16) (w : Vec Ideal S1x1024x512 .bf16) (r : Fin 1024) (d : Fin 512) : EReal :=
  ∑ k, xb (ix2 r k) * w (ix3 0 k d)

/-- What an expert makes of row `r`, at column `j`. -/
def expert (xb : Vec Ideal S1024x1024 .bf16) (wg wu : Vec Ideal S1x1024x512 .bf16) (wd : Vec Ideal S1x512x1024 .bf16)
    (r j : Fin 1024) : EReal :=
  ∑ d, (up xb wg r d * Ideal.div 1 (1 + Ideal.exp (0 - up xb wg r d)) * up xb wu r d) * wd (ix3 0 d j)

/-- The chosen rows of a mask, as zeros and ones; -/
abbrev pick (h : IVec S160x1024 1) : Vec Ideal S160x1024 .bf16 := k0_pay33 (F := Ideal) h k0_pay31 k0_pay32
/-- and what the expert makes of the chosen rows, scaled by their gates. -/
abbrev made (h : IVec S160x1024 1) (g : Vec Ideal S1x1024 .f32) (xb : Vec Ideal S1024x1024 .bf16) (wg wu : Vec Ideal S1x1024x512 .bf16)
    (wd : Vec Ideal S1x512x1024 .bf16) : Vec Ideal S160x1024 .bf16 := k0_pay34 (F := Ideal) g h k0_pay31 k0_pay32 xb wg wu wd

theorem pick_apply (h : IVec S160x1024 1) (q : Fin 160) (r : Fin 1024) : pick h (ix2 q r) = Scalar.select (h (ix2 q r)) (1 : EReal) 0 := by
  pointwise [k0_pay33, k0_pay31, k0_pay32]

/-- A sum over the rows of a mask with a single row. -/
theorem sum_single (h : IVec S160x1024 1) (q : Fin 160) (r : Fin 1024) (hr : h (ix2 q r) = 1#1)
    (one : ∀ r', h (ix2 q r') = 1#1 → r' = r) (f : Fin 1024 → EReal) :
    ∑ x, Scalar.select (h (ix2 q x)) (f x) 0 = f r := by
  rw [Finset.sum_eq_single r]
  · simp [Scalar.select, hr]
  · intro b _ hb
    have : h (ix2 q b) ≠ 1#1 := fun e => hb (one b e)
    simp [Scalar.select, this]
  · simp

/-- Where the mask chooses row `r` at `q`, row `q` of the products is the expert's row `r` times its gate. -/
theorem made_apply (h : IVec S160x1024 1) (g : Vec Ideal S1x1024 .f32) (xb : Vec Ideal S1024x1024 .bf16) (wg wu : Vec Ideal S1x1024x512 .bf16)
    (wd : Vec Ideal S1x512x1024 .bf16) (q : Fin 160) (r j : Fin 1024) (hr : h (ix2 q r) = 1#1)
    (one : ∀ r', h (ix2 q r') = 1#1 → r' = r) :
    made h g xb wg wu wd (ix2 q j) = expert xb wg wu wd r j * g (ix2 0 r) := by
  pointwise [k0_pay34, k0_pay33, k0_pay31, k0_pay32]
  rw [sum_single h q r hr one]
  simp only [sum_single h q r hr one (fun x => xb (ix2 x _))]
  rfl

/-- What a chunk adds to row `r`. -/
theorem chunk_sum (h : IVec S160x1024 1) (g : Vec Ideal S1x1024 .f32) (xb : Vec Ideal S1024x1024 .bf16) (wg wu : Vec Ideal S1x1024x512 .bf16)
    (wd : Vec Ideal S1x512x1024 .bf16) (one : ∀ q r r', h (ix2 q r) = 1#1 → h (ix2 q r') = 1#1 → r' = r) (r j : Fin 1024) :
    ∑ q : Fin 160, pick h (ix2 q r) * made h g xb wg wu wd (ix2 q j)
      = ∑ q : Fin 160, if h (ix2 q r) = 1#1 then expert xb wg wu wd r j * g (ix2 0 r) else 0 := by
  refine Finset.sum_congr rfl fun q _ => ?_
  rw [pick_apply]
  by_cases hr : h (ix2 q r) = 1#1
  · rw [made_apply h g xb wg wu wd q r j hr fun r' e => one q r r' hr e, if_pos hr, hr]
    exact one_mul (_ : EReal)
  · rw [if_neg hr]
    exact (congrArg (· * _) (show Scalar.select (h (ix2 q r)) (1 : EReal) 0 = 0 from if_neg hr)).trans (zero_mul (_ : EReal))

/-- A mask that marks the rows whose slot is one of the 160 from `o` on. -/
def Marks (h : IVec S160x1024 1) (s : Vec Ideal S1x1024 .f32) (o : ℕ) : Prop :=
  ∀ q r, h (ix2 q r) = 1#1 ↔ s (ix2 0 r) = ((o + q.val : ℕ) : EReal)

/-- The slots of a table: used rows are numbered from zero, the others have none. -/
structure Slots (s : Vec Ideal S1x1024 .f32) (u : Fin 1024 → Prop) (b : Fin 1024 → ℕ) : Prop where
  used : ∀ r, u r → s (ix2 0 r) = ((b r : ℕ) : EReal)
  free : ∀ r, ¬ u r → s (ix2 0 r) = -1
  inj : ∀ r r', u r → u r' → b r = b r' → r' = r

theorem nat_ne_neg (n : ℕ) : (-1 : EReal) ≠ (n : EReal) := by
  have h : (0 : EReal) ≤ (n : EReal) := by exact_mod_cast Nat.zero_le n
  intro e
  rw [← e] at h
  exact absurd h (by norm_num)

variable {h : IVec S160x1024 1} {s : Vec Ideal S1x1024 .f32} {o : ℕ} {u : Fin 1024 → Prop} {b : Fin 1024 → ℕ}

theorem Slots.marked (hs : Slots s u b) (hm : Marks h s o) (q : Fin 160) (r : Fin 1024) :
    h (ix2 q r) = 1#1 ↔ u r ∧ b r = o + q.val := by
  rw [hm q r]
  by_cases hu : u r
  · rw [hs.used r hu]
    constructor
    · intro e; exact ⟨hu, by exact_mod_cast e⟩
    · intro e; rw [e.2]
  · rw [hs.free r hu]
    exact ⟨fun e => absurd e (nat_ne_neg _), fun e => absurd e.1 hu⟩

open Classical in
/-- A chunk adds to a used row what the expert makes of it, if the row's slot is the chunk's. -/
theorem chunk_adds (hs : Slots s u b) (hm : Marks h s o) (g : Vec Ideal S1x1024 .f32) (xb : Vec Ideal S1024x1024 .bf16)
    (wg wu : Vec Ideal S1x1024x512 .bf16) (wd : Vec Ideal S1x512x1024 .bf16) (r j : Fin 1024) :
    ∑ q : Fin 160, pick h (ix2 q r) * made h g xb wg wu wd (ix2 q j)
      = if u r ∧ o ≤ b r ∧ b r < o + 160 then expert xb wg wu wd r j * g (ix2 0 r) else 0 := by
  rw [chunk_sum h g xb wg wu wd (fun q r r' e e' => by
    rw [hs.marked hm] at e e'
    exact hs.inj r r' e.1 e'.1 (e.2.trans e'.2.symm))]
  simp only [hs.marked hm]
  by_cases hc : u r ∧ o ≤ b r ∧ b r < o + 160
  · rw [if_pos hc, Finset.sum_eq_single (⟨b r - o, by omega⟩ : Fin 160)]
    · rw [if_pos ⟨hc.1, by show b r = o + (b r - o); omega⟩]
    · intro q _ hq
      rw [if_neg]
      intro e
      exact hq (Fin.ext (by show q.val = b r - o; omega))
    · simp
  · rw [if_neg hc]
    refine Finset.sum_eq_zero fun q _ => if_neg fun e => hc ⟨e.1, ?_⟩
    have := q.isLt
    omega

end Cert.KernelIdeal.Value

end
-- ==== Proof.Far.lean ====
module

public import proofs.«01_k».proof.Proof.Chunk

@[expose] public section

set_option maxHeartbeats 400000

noncomputable section

namespace Cert.KernelIdeal.Value
open Cert.KernelIdeal Cert.KernelIdeal.Gen Cert.KernelIdeal.Hand
open Idealize.ShloMosaic

/-! ## Words -/

/-- For at most 1024 used rows: the further chunks cover the rows, there are at most six of them, and the
    second loop is empty. -/
theorem trips_of (n : Fin 1025) : n.val ≤ 160 * ((k0_t1_loop (BitVec.ofNat 32 n.val)).trips + 1)
    ∧ (k0_t1_loop (BitVec.ofNat 32 n.val)).trips ≤ 6 ∧ (k0_t2_loop (BitVec.ofNat 32 n.val)).trips = 0 := by
  revert n
  decide +kernel

theorem first_row : ∀ k : Fin 7, (Scalar.muli (Scf.iv 1#32 1#32 k.val) 160#32).toInt = 160 * ((k.val : ℤ) + 1) := by
  decide +kernel

theorem toInt_small (n : ℕ) (hn : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem ofBool_one (p : Prop) [Decidable p] : BitVec.ofBool (decide p) = 1#1 ↔ p := by
  by_cases h : p <;> simp [h]

theorem real_nat (n : ℕ) : (((n : ℤ) : ℝ) : EReal) = (n : EReal) := by
  rw [Int.cast_natCast]; rfl

/-! ## The masks -/

theorem marks_first (s : Vec Ideal S1x1024 .f32) : Marks (k0_pay30 s) s 0 := by
  intro q r
  have hq := q.isLt
  pointwise [k0_pay30]
  refine (ofBool_one _).trans ?_
  show _ = (((Scalar.muli 0#32 160#32).toInt : ℝ) : EReal) + (((BitVec.ofNat 32 q.val).toInt : ℝ) : EReal) ↔ _
  rw [show (Scalar.muli 0#32 160#32).toInt = 0 by decide, toInt_small q.val (by omega), ← EReal.coe_add, ← Int.cast_add, Int.zero_add, real_nat]

theorem marks_next (s : Vec Ideal S1x1024 .f32) (n : BitVec 32) (k : Fin (k0_t1_loop n).trips) (hk : k.val < 7) :
    Marks (k0_pay10 s n 1#32 1#32 k) s (160 * (k.val + 1)) := by
  intro q r
  have hq := q.isLt
  pointwise [k0_pay10]
  refine (ofBool_one _).trans ?_
  show _ = ((_ : ℝ) : EReal) + (((BitVec.ofNat 32 q.val).toInt : ℝ) : EReal) ↔ _
  rw [first_row ⟨k.val, hk⟩, toInt_small q.val (by omega), ← EReal.coe_add, ← Int.cast_add,
    show (160 * ((k.val : ℤ) + 1) + (q.val : ℤ)) = ((160 * (k.val + 1) + q.val : ℕ) : ℤ) by push_cast; ring, real_nat]

/-! ## The loops -/

section
variable (g s : Vec Ideal S1x1024 .f32) (n : BitVec 32) (xb : Vec Ideal S1024x1024 .bf16)
  (wg wu : Vec Ideal S1x1024x512 .bf16) (wd : Vec Ideal S1x512x1024 .bf16) (A : Vec Ideal S1024x1024 .f32)

/-- One trip adds its chunk. -/
theorem trip_apply (k : Fin (k0_t1_loop n).trips) (r j : Fin 1024) :
    k0_pay43 (F := Ideal) (k0_pay11 s n 1#32 1#32 k) (k0_pay12 g s n 1#32 1#32 k) (k0_pay13 s n 1#32 1#32 k xb wg wu) wd A (ix2 r j)
      = A (ix2 r j) + ∑ q : Fin 160, pick (k0_pay10 s n 1#32 1#32 k) (ix2 q r) * made (k0_pay10 s n 1#32 1#32 k) g xb wg wu wd (ix2 q j) := by
  pointwise [k0_pay43, k0_pay11, k0_pay12, k0_pay13, k0_pay34, k0_pay33, k0_pay31, k0_pay32]

variable {u : Fin 1024 → Prop} {b : Fin 1024 → ℕ}

open Classical in
theorem loop1_apply (hs : Slots s u b) (r j : Fin 1024) (k : ℕ) (hk : k ≤ (k0_t1_loop n).trips) (h6 : (k0_t1_loop n).trips ≤ 6) :
    loop1 g s n xb wg wu wd A k (ix2 r j)
      = A (ix2 r j) + if u r ∧ 160 ≤ b r ∧ b r < 160 * (k + 1) then expert xb wg wu wd r j * g (ix2 0 r) else 0 := by
  induction k with
  | zero =>
    rw [if_neg (by omega)]
    exact (add_zero (_ : EReal)).symm
  | succ k ih =>
    unfold loop1
    rw [dif_pos (show k < (k0_t1_loop n).trips from hk), trip_apply,
      chunk_adds hs (marks_next s n ⟨k, hk⟩ (by show k < 7; omega)), ih (Nat.le_of_succ_le hk)]
    refine (add_assoc (_ : EReal) _ _).trans (congrArg (A (ix2 r j) + ·) ?_)
    by_cases h1 : u r ∧ 160 ≤ b r ∧ b r < 160 * (k + 1)
    · rw [if_pos h1, if_neg (by show ¬ (_ ∧ 160 * (k + 1) ≤ _ ∧ _); omega), if_pos ⟨h1.1, h1.2.1, by omega⟩]
      exact add_zero (_ : EReal)
    · rw [if_neg h1]
      refine (zero_add (_ : EReal)).trans ?_
      refine if_congr (and_congr_right fun hu => ?_) rfl rfl
      have h2 : ¬ (160 ≤ b r ∧ b r < 160 * (k + 1)) := fun e => h1 ⟨hu, e⟩
      show 160 * (k + 1) ≤ b r ∧ b r < 160 * (k + 1) + 160 ↔ _
      omega

theorem loop3_eq (k : ℕ) : loop3 g s n xb wg wu wd A k = loop1 g s n xb wg wu wd A k := by
  induction k with
  | zero => rfl
  | succ k ih => unfold loop3 loop1; rw [ih]; rfl

/-- The further chunks of a step's first expert; -/
def far0 : Vec Ideal S1024x1024 .f32 :=
  loop2 g s n (k0_t1_loop n).ub xb wg wu wd (loop1 g s n xb wg wu wd A (k0_t1_loop n).trips) (k0_t2_loop n).trips
/-- and of its second. -/
def far1 : Vec Ideal S1024x1024 .f32 :=
  loop4 g s n (k0_t3_loop n).ub xb wg wu wd (loop3 g s n xb wg wu wd A (k0_t3_loop n).trips) (k0_t4_loop n).trips

open Classical in
/-- The further chunks add to a used row past the first 160 what the expert makes of it. -/
theorem far0_apply (hs : Slots s u b) (c : ℕ) (hc : c ≤ 1024) (hn : n = BitVec.ofNat 32 c) (hb : ∀ r, u r → b r < c) (r j : Fin 1024) :
    far0 g s n xb wg wu wd A (ix2 r j)
      = A (ix2 r j) + if u r ∧ 160 ≤ b r then expert xb wg wu wd r j * g (ix2 0 r) else 0 := by
  obtain ⟨h1, h2, h3⟩ := trips_of ⟨c, by omega⟩
  dsimp only at h1 h2 h3
  rw [← hn] at h1 h2 h3
  unfold far0
  rw [h3]
  show loop1 g s n xb wg wu wd A (k0_t1_loop n).trips (ix2 r j) = _
  rw [loop1_apply g s n xb wg wu wd A hs r j _ le_rfl h2]
  refine congrArg (A (ix2 r j) + ·) (if_congr (and_congr_right fun hu => ?_) rfl rfl)
  have := hb r hu
  omega

theorem far1_eq (h4 : (k0_t2_loop n).trips = 0) : far1 g s n xb wg wu wd A = far0 g s n xb wg wu wd A := by
  unfold far1 far0
  rw [h4, loop3_eq]
  rfl

end

end Cert.KernelIdeal.Value

end
-- ==== Proof.Tables.lean ====
module

public import proofs.«01_k».proof.Proof.Far

@[expose] public section

set_option maxHeartbeats 400000

noncomputable section

namespace Cert.KernelIdeal.Value
open Cert.KernelIdeal Cert.KernelIdeal.Gen Cert.KernelIdeal.Hand
open Idealize.ShloMosaic

/-- Two small numbers are equal as words exactly when they are equal; -/
theorem word_eq (a b : ℕ) (ha : a < 2 ^ 31) (hb : b < 2 ^ 31) : IntOp.cmpi .eq (BitVec.ofNat 32 a) (BitVec.ofNat 32 b) = 1#1 ↔ a = b := by
  refine (ofBool_one (BitVec.ofNat 32 a = BitVec.ofNat 32 b)).trans ⟨fun e => ?_, fun e => by rw [e]⟩
  have := congrArg BitVec.toInt e
  rw [toInt_small a ha, toInt_small b hb] at this
  exact_mod_cast this
/-- and the same of their order. -/
theorem word_lt (a b : ℕ) (ha : a < 2 ^ 31) (hb : b < 2 ^ 31) : IntOp.cmpi .slt (BitVec.ofNat 32 a) (BitVec.ofNat 32 b) = 1#1 ↔ a < b := by
  refine (ofBool_one ((BitVec.ofNat 32 a).toInt < (BitVec.ofNat 32 b).toInt)).trans ?_
  rw [toInt_small a ha, toInt_small b hb]
  exact Int.ofNat_lt

/-- A sum that selects one entry is that entry. -/
theorem sum_pick {n : ℕ} (hn : n < 2 ^ 31) (l : Fin n) (f : Fin n → EReal) :
    ∑ x : Fin n, Scalar.select (IntOp.cmpi .eq (BitVec.ofNat 32 l.val) (BitVec.ofNat 32 x.val)) (f x) 0 = f l := by
  have hl := l.isLt
  rw [Finset.sum_eq_single l]
  · exact if_pos ((word_eq _ _ (by omega) (by omega)).2 rfl)
  · intro x _ hx
    have := x.isLt
    exact if_neg fun e => hx (Fin.ext ((word_eq _ _ (by omega) (by omega)).1 e).symm)
  · simp

theorem sum_pick' {n : ℕ} (hn : n < 2 ^ 31) (l : Fin n) (f : Fin n → EReal) :
    ∑ x : Fin n, Scalar.select (IntOp.cmpi .eq (BitVec.ofNat 32 x.val) (BitVec.ofNat 32 l.val)) (f x) 0 = f l := by
  refine Eq.trans (Finset.sum_congr rfl fun x _ => ?_) (sum_pick hn l f)
  have hl := l.isLt
  have hx := x.isLt
  exact if_congr ((word_eq _ _ (by omega) (by omega)).trans (eq_comm.trans (word_eq _ _ (by omega) (by omega)).symm)) rfl rfl

/-- Adding up ones counts. -/
theorem sum_ones {n : ℕ} (p : Fin n → Prop) [DecidablePred p] :
    (∑ x : Fin n, if p x then (1 : EReal) else 0) = (((Finset.univ.filter p).card : ℕ) : EReal) := by
  rw [Finset.sum_ite, Finset.sum_const_zero, add_zero, Finset.sum_const, nsmul_one]

/-- A finite number's two remainders are zero. -/
theorem split_real (a : EReal) (h0 : 0 ≤ a) (h1 : a < ⊤) : a + (a - a) + (a - a - (a - a)) = a := by
  have e : a - a = 0 := EReal.sub_self h1.ne (ne_of_gt (lt_of_lt_of_le (by exact EReal.bot_lt_zero) h0))
  rw [e, sub_zero, add_zero, add_zero]

section
variable (g : Vec Ideal S1024x128 .f32)

/-- The table of gates is the gates, turned. -/
theorem gates_apply (l : Fin 128) (r : Fin 1024) (h0 : 0 ≤ g (ix2 r l)) (h1 : g (ix2 r l) < ⊤) :
    k0_pay27 (F := Ideal) k0_pay8 g g (ix2 l r) = g (ix2 r l) := by
  pointwise [k0_pay27, k0_pay8]
  rw [sum_pick (by decide) l fun x => g (ix2 r x), sum_pick (by decide) l fun x => g (ix2 r x) - g (ix2 r x),
    sum_pick (by decide) l fun x => g (ix2 r x) - g (ix2 r x) - (g (ix2 r x) - g (ix2 r x))]
  exact split_real _ h0 h1

/-- The rows an expert uses before row `r`. -/
def before (l : Fin 128) (r : Fin 1024) : ℕ := (Finset.univ.filter fun x : Fin 1024 => 0 < g (ix2 x l) ∧ x < r).card
/-- The rows an expert uses. -/
def count (l : Fin 128) : ℕ := (Finset.univ.filter fun x : Fin 1024 => 0 < g (ix2 x l)).card

/-- Row `l` of a table. -/
def rowOf (v : Vec Ideal S128x1024 .f32) (l : Fin 128) : Vec Ideal S1x1024 .f32 := fun y => v (ix2 l (y 1))

theorem slots_row (l : Fin 128) : Slots (rowOf (k0_pay26 (F := Ideal) (k0_pay9 g)) l) (fun r => 0 < g (ix2 r l)) (before g l) := by
  have key : ∀ r, k0_pay26 (F := Ideal) (k0_pay9 g) (ix2 l r) = if 0 < g (ix2 r l) then ((before g l r : ℕ) : EReal) else -1 := by
    intro r
    pointwise [k0_pay26, k0_pay9, k0_pay8, k0_pay7]
    have e : ∀ r : Fin 1024, (∑ x : Fin 128, Scalar.select (IntOp.cmpi .eq (BitVec.ofNat 32 l.val) (BitVec.ofNat 32 x.val))
        (if 0 < g (ix2 r x) then (1 : EReal) else 0) 0) = if 0 < g (ix2 r l) then 1 else 0 :=
      fun r => sum_pick (by decide) l fun x => if 0 < g (ix2 r x) then (1 : EReal) else 0
    simp only [e]
    by_cases hr : 0 < g (ix2 r l)
    · rw [if_pos hr, if_pos hr, if_pos zero_lt_one]
      refine Eq.trans (Finset.sum_congr rfl fun x _ => ?_) (sum_ones fun x : Fin 1024 => 0 < g (ix2 x l) ∧ x < r)
      have hx := x.isLt
      have hr := r.isLt
      refine (if_congr (word_lt _ _ (by omega) (by omega)) rfl rfl).trans ?_
      by_cases h1 : 0 < g (ix2 x l) <;> by_cases h2 : x.val < r.val <;> simp [h1, h2, Fin.lt_def]
    · rw [if_neg hr, if_neg hr, if_neg (lt_irrefl _)]
      have e1 : Ideal.ofBits .f32 0xBF800000#32 = ((-(1 : ℝ)) : EReal) := by
        simp [Ideal.ofBits, Ideal.ieee, -EReal.coe_mul, -EReal.coe_neg]
        norm_num
      exact e1
  refine ⟨fun r hr => (key r).trans (if_pos hr), fun r hr => (key r).trans (if_neg hr), ?_⟩
  have lt : ∀ r r' : Fin 1024, 0 < g (ix2 r l) → r < r' → before g l r < before g l r' := by
    intro r r' hr hlt
    refine Finset.card_lt_card ⟨fun x hx => ?_, fun e => ?_⟩
    · simp only [Finset.mem_filter, Finset.mem_univ, true_and] at hx ⊢
      exact ⟨hx.1, hx.2.trans hlt⟩
    · have := e (Finset.mem_filter.2 ⟨Finset.mem_univ r, hr, hlt⟩)
      exact absurd (Finset.mem_filter.1 this).2.2 (lt_irrefl r)
  intro r r' hr hr' e
  rcases lt_trichotomy r r' with h | h | h
  · exact absurd e (lt r r' hr h).ne
  · exact h.symm
  · exact absurd e (lt r' r hr' h).ne'

theorem before_lt (l : Fin 128) (r : Fin 1024) (hr : 0 < g (ix2 r l)) : before g l r < count g l := by
  refine Finset.card_lt_card ⟨fun x hx => ?_, fun e => ?_⟩
  · simp only [Finset.mem_filter, Finset.mem_univ, true_and] at hx ⊢
    exact hx.1
  · have := e (Finset.mem_filter.2 ⟨Finset.mem_univ r, hr⟩)
    exact absurd (Finset.mem_filter.1 this).2.2 (lt_irrefl r)

theorem count_le (l : Fin 128) : count g l ≤ 1024 :=
  (Finset.card_le_univ _).trans (by rw [Fintype.card_fin])

theorem counts_apply (q : Fin 8) (l : Fin 128) : k0_pay28 (F := Ideal) (k0_pay7 g) (ix2 q l) = ((count g l : ℕ) : EReal) := by
  pointwise [k0_pay28, k0_pay7]
  exact sum_ones fun x : Fin 1024 => 0 < g (ix2 x l)

end

/-- The lane of a step's expert. -/
def lane (e : ℕ) : Fin 128 := ⟨(e + 4) % 128, Nat.mod_lt _ (by decide)⟩

theorem row0_eq (i : grid0.Coords) (v : Vec Ideal S128x1024 .f32) : row0 i v = rowOf v (lane (2 * (i 1).val)) := by
  funext y
  have h0 : (y 0).val < 1 := (y 0).isLt
  have h1 : (i 1).val < 8 := (i 1).isLt
  refine congrArg v (funext fun a => Fin.ext ?_)
  have e := congrFun (k0_off1_eq i 0) a
  show k0_off1 i _ a + 1 * (y a).val = _
  fin_cases a
  · refine (congrArg (· + 1 * (y 0).val) e).trans ?_
    show 2 * (i 1).val + 0 + 4 + 1 * (y 0).val = (2 * (i 1).val + 4) % 128
    omega
  · refine (congrArg (· + 1 * (y 1).val) e).trans ?_
    show 0 + 1 * (y 1).val = (y 1).val
    omega

theorem row1_eq (i : grid0.Coords) (v : Vec Ideal S128x1024 .f32) : row1 i v = rowOf v (lane (2 * (i 1).val + 1)) := by
  funext y
  have h0 : (y 0).val < 1 := (y 0).isLt
  have h1 : (i 1).val < 8 := (i 1).isLt
  refine congrArg v (funext fun a => Fin.ext ?_)
  have e := congrFun (k0_off1_eq i 1) a
  show k0_off1 i _ a + 1 * (y a).val = _
  fin_cases a
  · refine (congrArg (· + 1 * (y 0).val) e).trans ?_
    show 2 * (i 1).val + 1 + 4 + 1 * (y 0).val = (2 * (i 1).val + 1 + 4) % 128
    omega
  · refine (congrArg (· + 1 * (y 1).val) e).trans ?_
    show 0 + 1 * (y 1).val = (y 1).val
    omega

theorem step_words : ∀ s : Fin 8,
    Scalar.addi (Scalar.addi (Scalar.muli (BitVec.ofNat 32 s.val) 2#32) 0#32) 4#32 = BitVec.ofNat 32 (lane (2 * s.val)).val
    ∧ Scalar.addi (Scalar.addi (Scalar.muli (BitVec.ofNat 32 s.val) 2#32) 1#32) 4#32 = BitVec.ofNat 32 (lane (2 * s.val + 1)).val := by
  decide

/-- A count as a word. -/
theorem word_nat (n : ℕ) (hn : n ≤ 1024) : Ideal.fptosi 32 ((n : ℕ) : EReal) = BitVec.ofNat 32 n := by
  have h : ((n : ℕ) : EReal) = ((n : ℝ) : EReal) := rfl
  rw [Ideal.fptosi, h, Ideal.toIntClamped_coe, if_pos (Nat.cast_nonneg n), Int.floor_natCast, min_eq_right (by norm_num; omega),
    max_eq_right (by norm_num)]
  exact BitVec.ofInt_natCast 32 n

theorem first_row_counts (cn : Vec Ideal S8x128 .f32) (l : Fin 128) : cnt0 cn (ix2 0 l) = cn (ix2 0 l) := by
  refine congrArg cn (funext fun a => Fin.ext ?_)
  fin_cases a
  · rfl
  · show 0 + 1 * l.val = l.val
    omega

theorem word0_eq (i : grid0.Coords) (cn : Vec Ideal S8x128 .f32) (n : ℕ) (hn : n ≤ 1024)
    (h : cn (ix2 0 (lane (2 * (i 1).val))) = ((n : ℕ) : EReal)) : word0 i cn = BitVec.ofNat 32 n := by
  have : k0_pay29 i (cnt0 cn) = ((n : ℕ) : EReal) := by
    pointwise [k0_pay29]
    rw [(step_words (i 1)).1]
    refine (Fin.sum_univ_one _).trans ((sum_pick' (by decide) (lane (2 * (i 1).val)) fun x => cnt0 cn (ix2 0 x)).trans ?_)
    exact (first_row_counts cn _).trans h
  exact (congrArg (Ideal.fptosi 32) this).trans (word_nat n hn)

theorem word1_eq (i : grid0.Coords) (cn : Vec Ideal S8x128 .f32) (n : ℕ) (hn : n ≤ 1024)
    (h : cn (ix2 0 (lane (2 * (i 1).val + 1))) = ((n : ℕ) : EReal)) : word1 i cn = BitVec.ofNat 32 n := by
  have : k0_pay37 (BitVec.ofNat 32 (i 1).val) (iota .tc S1x128 32 [1] iota_S1x128_d1_w32) (cnt0 cn) = ((n : ℕ) : EReal) := by
    pointwise [k0_pay37]
    rw [(step_words (i 1)).2]
    refine (Fin.sum_univ_one _).trans ((sum_pick' (by decide) (lane (2 * (i 1).val + 1)) fun x => cnt0 cn (ix2 0 x)).trans ?_)
    exact (first_row_counts cn _).trans h
  exact (congrArg (Ideal.fptosi 32) this).trans (word_nat n hn)

end Cert.KernelIdeal.Value

end
-- ==== Proof.Tile.lean ====
module

public import proofs.«01_k».proof.Proof.Tables

@[expose] public section

set_option maxHeartbeats 400000

noncomputable section

namespace Cert.KernelIdeal.Value
open Cert.KernelIdeal Cert.KernelIdeal.Gen Cert.KernelIdeal.Hand
open Idealize.ShloMosaic

/-! ## The stacks -/

/-- Row `q` of expert `e`'s block of a stack. -/
def blk (e : ℕ) (q : Fin 160) : Fin 1280 := ⟨160 * (e % 8) + q.val, by have := q.isLt; omega⟩

/-- Putting one expert's block leaves the others. -/
theorem put_block (x : Vec Ideal S1280x1024 .bf16) (off : Fin S1280x1024.rank → ℕ) (e : ℕ) (hoff : off = ![160 * (e % 8), 0])
    (w : Vec Ideal S160x1024 .bf16) (e' : ℕ) (q : Fin 160) (r : Fin 1024) :
    VecWindow.put x off S160x1024.size w (ix2 (blk e' q) r) = if e' % 8 = e % 8 then w (ix2 q r) else x (ix2 (blk e' q) r) := by
  subst hoff
  have hq := q.isLt
  have hr := r.isLt
  unfold VecWindow.put
  by_cases he : e' % 8 = e % 8
  · rw [if_pos he, dif_pos (fun a => by
      fin_cases a
      · show 160 * (e % 8) ≤ 160 * (e' % 8) + q.val ∧ 160 * (e' % 8) + q.val < 160 * (e % 8) + 160
        omega
      · show 0 ≤ r.val ∧ r.val < 0 + 1024
        omega)]
    refine congrArg w (funext fun a => Fin.ext ?_)
    fin_cases a
    · show 160 * (e' % 8) + q.val - 160 * (e % 8) = q.val
      omega
    · show r.val - 0 = r.val
      omega
  · rw [if_neg he, dif_neg]
    intro h
    have h0 : 160 * (e % 8) ≤ 160 * (e' % 8) + q.val ∧ 160 * (e' % 8) + q.val < 160 * (e % 8) + 160 := h 0
    omega

/-- The rows of a stack, block by block. -/
theorem sum_blocks (f : Fin 1280 → EReal) : ∑ k : Fin 1280, f k = ∑ b : Fin 8, ∑ q : Fin 160, f (blk b.val q) := by
  rw [← (finProdFinEquiv (m := 8) (n := 160)).sum_comp f, Fintype.sum_prod_type]
  refine Finset.sum_congr rfl fun b _ => Finset.sum_congr rfl fun q _ => congrArg f (Fin.ext ?_)
  have := b.isLt
  show q.val + 160 * b.val = 160 * (b.val % 8) + q.val
  omega

/-! ## The pieces as one expert's -/

theorem first_pick (h : IVec S160x1024 1) (q : Fin 160) (r : Fin 1024) :
    k0_pay35 (F := Ideal) h k0_pay31 k0_pay32 (ix2 q r) = pick h (ix2 q r) := by
  pointwise [k0_pay35, k0_pay33, k0_pay31, k0_pay32]

theorem second_pick (s : Vec Ideal S1x1024 .f32) (q : Fin 160) (r : Fin 1024) :
    k0_pay41 (F := Ideal) (k0_pay39 s) (ix2 q r) = pick (k0_pay30 s) (ix2 q r) := by
  pointwise [k0_pay41, k0_pay39, k0_pay38, k0_pay33, k0_pay31, k0_pay32, k0_pay30]

section
variable (s g : Vec Ideal S1x1024 .f32) (xb : Vec Ideal S1024x1024 .bf16) (wg wu : Vec Ideal S1x1024x512 .bf16) (wd : Vec Ideal S1x512x1024 .bf16)

theorem first_made (h : IVec S160x1024 1) (q : Fin 160) (j : Fin 1024) :
    k0_pay36 (F := Ideal) (k0_pay34 g h k0_pay31 k0_pay32 xb wg wu wd) (ix2 q j) = made h g xb wg wu wd (ix2 q j) := by
  pointwise [k0_pay36, k0_pay34, k0_pay31, k0_pay32]

theorem second_made (q : Fin 160) (j : Fin 1024) :
    k0_pay42 (F := Ideal) (k0_pay38 s) (k0_pay39 s) (Scalar.ofBits .f32 0x00000000#32) (k0_pay40 g) xb wg wu wd (ix2 q j)
      = made (k0_pay30 s) g xb wg wu wd (ix2 q j) := by
  pointwise [k0_pay42, k0_pay39, k0_pay38, k0_pay40, k0_pay34, k0_pay33, k0_pay31, k0_pay32, k0_pay30]

end

/-! ## One tile -/

section
variable (x : Vec Ideal S1024x1024 .f32) (g : Vec Ideal S1024x128 .f32) (wg wu : ℕ → Vec Ideal S2x1024x512 .bf16) (wd : ℕ → Vec Ideal S2x512x1024 .bf16)

/-- Expert `e`'s weights among the steps' blocks of two. -/
def upE (w : ℕ → Vec Ideal S2x1024x512 .bf16) (e : ℕ) : Vec Ideal S1x1024x512 .bf16 := if e % 2 = 0 then up0 (w (e / 2)) else up1 (w (e / 2))
def dnE (w : ℕ → Vec Ideal S2x512x1024 .bf16) (e : ℕ) : Vec Ideal S1x512x1024 .bf16 := if e % 2 = 0 then dn0 (w (e / 2)) else dn1 (w (e / 2))

/-- Expert `e`'s gates; -/
def gateE (e : ℕ) : Vec Ideal S1x1024 .f32 := rowOf (k0_pay27 (F := Ideal) k0_pay8 g g) (lane e)
/-- its slots; -/
def slotE (e : ℕ) : Vec Ideal S1x1024 .f32 := rowOf (k0_pay26 (F := Ideal) (k0_pay9 g)) (lane e)
/-- the gated row it makes of row `r`; -/
def giveE (e : ℕ) (r j : Fin 1024) : EReal := expert (k0_pay5 x) (upE wg e) (upE wu e) (dnE wd e) r j * gateE g e (ix2 0 r)

open Classical in
/-- that row when it is among the first 160 the expert uses; -/
def near (e : ℕ) (r j : Fin 1024) : EReal :=
  if 0 < g (ix2 r (lane e)) ∧ before g (lane e) r < 160 then giveE x g wg wu wd e r j else 0
open Classical in
/-- and when it is a further one. -/
def far (e : ℕ) (r j : Fin 1024) : EReal :=
  if 0 < g (ix2 r (lane e)) ∧ 160 ≤ before g (lane e) r then giveE x g wg wu wd e r j else 0

/-- After `m` experts' further rows and `k` experts' first rows are summed, the stacks hold the first
    rows of those between. -/
structure Holds (m k : ℕ) (st : St Ideal) : Prop where
  xb : st.xb = k0_pay5 x
  gt : st.gt = k0_pay27 k0_pay8 g g
  sl : st.sl = k0_pay26 (k0_pay9 g)
  cn : st.cn = k0_pay28 (k0_pay7 g)
  acc : ∀ r j, st.acc (ix2 r j) = ∑ e ∈ Finset.range m, far x g wg wu wd e r j + ∑ e ∈ Finset.range k, near x g wg wu wd e r j
  P : ∀ e, k ≤ e → e < m → ∀ q r, st.P (ix2 (blk e q) r) = pick (k0_pay30 (slotE g e)) (ix2 q r)
  Y : ∀ e, k ≤ e → e < m → ∀ q j, st.Y (ix2 (blk e q) j)
    = made (k0_pay30 (slotE g e)) (gateE g e) (k0_pay5 x) (upE wg e) (upE wu e) (dnE wd e) (ix2 q j)

theorem same_if {p q : Prop} {i : Decidable p} {i' : Decidable q} (h : p ↔ q) (a : EReal) : @ite _ p i a 0 = @ite _ q i' a 0 := by
  by_cases hp : p
  · rw [if_pos hp, if_pos (h.1 hp)]
  · rw [if_neg hp, if_neg fun hq => hp (h.2 hq)]

theorem holds_init (st : St Ideal) : Holds x g wg wu wd 0 0 (initSt x g st) := by
  refine ⟨rfl, rfl, rfl, rfl, fun r j => ?_, fun e _ h => absurd h (by omega), fun e _ h => absurd h (by omega)⟩
  show k0_pay6 (F := Ideal) (ix2 r j) = _
  pointwise [k0_pay6]
  simp

theorem holds_main (s k : ℕ) (i : grid0.Coords) (hi : (i 1).val = s) (hk : 2 * s + 2 ≤ k + 8) (st : St Ideal)
    (H : Holds x g wg wu wd (2 * s) k st) : Holds x g wg wu wd (2 * s + 2) k (mainSt i (wg s) (wu s) (wd s) st) := by
  have er : ∀ v, row0 i v = rowOf v (lane (2 * s)) := fun v => hi ▸ row0_eq i v
  have er' : ∀ v, row1 i v = rowOf v (lane (2 * s + 1)) := fun v => hi ▸ row1_eq i v
  have u0 : ∀ w, upE w (2 * s) = up0 (w s) := fun w => by
    unfold upE; rw [if_pos (by omega), show 2 * s / 2 = s by omega]
  have u1 : ∀ w, upE w (2 * s + 1) = up1 (w s) := fun w => by
    unfold upE; rw [if_neg (by omega), show (2 * s + 1) / 2 = s by omega]
  have d0 : ∀ w, dnE w (2 * s) = dn0 (w s) := fun w => by
    unfold dnE; rw [if_pos (by omega), show 2 * s / 2 = s by omega]
  have d1 : ∀ w, dnE w (2 * s + 1) = dn1 (w s) := fun w => by
    unfold dnE; rw [if_neg (by omega), show (2 * s + 1) / 2 = s by omega]
  have o0 : k0_off2 i 0#32 = ![160 * ((2 * s) % 8), 0] := hi ▸ k0_off2_eq i 0
  have o1 : k0_off2 i 1#32 = ![160 * ((2 * s + 1) % 8), 0] := hi ▸ k0_off2_eq i 1
  refine ⟨H.xb, H.gt, H.sl, H.cn, fun r j => ?_, fun e h1 h2 q r => ?_, fun e h1 h2 q j => ?_⟩
  · have e0 : word0 i st.cn = BitVec.ofNat 32 (count g (lane (2 * s))) :=
      word0_eq i st.cn _ (count_le g _) (by rw [H.cn, hi]; exact counts_apply g 0 _)
    have e1 : word1 i st.cn = BitVec.ofNat 32 (count g (lane (2 * s + 1))) :=
      word1_eq i st.cn _ (count_le g _) (by rw [H.cn, hi]; exact counts_apply g 0 _)
    show far1 (row1 i st.gt) (row1 i st.sl) (word1 i st.cn) st.xb (up1 (wg s)) (up1 (wu s)) (dn1 (wd s))
      (far0 (row0 i st.gt) (row0 i st.sl) (word0 i st.cn) st.xb (up0 (wg s)) (up0 (wu s)) (dn0 (wd s)) st.acc) (ix2 r j) = _
    rw [far1_eq _ _ _ _ _ _ _ _ (by rw [e1]; exact (trips_of ⟨count g (lane (2 * s + 1)), by have := count_le g (lane (2 * s + 1)); omega⟩).2.2), e0, e1, er, er, er', er', H.gt, H.sl, H.xb,
      far0_apply _ _ _ _ _ _ _ _ (slots_row g (lane (2 * s + 1))) _ (count_le g _) rfl (before_lt g _),
      far0_apply _ _ _ _ _ _ _ _ (slots_row g (lane (2 * s))) _ (count_le g _) rfl (before_lt g _), H.acc,
      Finset.sum_range_succ, Finset.sum_range_succ, ← u0, ← u0, ← u1, ← u1, ← d0, ← d1]
    refine (congrArg₂ (· + ·) (congrArg₂ (· + ·) rfl (?_ : _ = far x g wg wu wd (2 * s) r j)) (?_ : _ = far x g wg wu wd (2 * s + 1) r j)).trans ?_
    · exact same_if Iff.rfl _
    · exact same_if Iff.rfl _
    · show ((_ + _ : EReal) + _) + _ = _
      abel
  · show slabP i st (ix2 (blk e q) r) = _
    unfold slabP
    rw [put_block _ _ _ o1, put_block _ _ _ o0, second_pick, first_pick, er, er', H.sl]
    by_cases c1 : e = 2 * s + 1
    · subst c1
      exact if_pos rfl
    · rw [if_neg (by omega)]
      by_cases c0 : e = 2 * s
      · subst c0
        exact if_pos rfl
      · rw [if_neg (by omega)]
        exact H.P e h1 (by omega) q r
  · show slabY i (wg s) (wu s) (wd s) st (ix2 (blk e q) j) = _
    unfold slabY
    rw [put_block _ _ _ o1, put_block _ _ _ o0, second_made, first_made, er, er, er', er', H.sl, H.gt, H.xb]
    by_cases c1 : e = 2 * s + 1
    · subst c1
      rw [u1, u1, d1]
      exact if_pos rfl
    · rw [if_neg (by omega)]
      by_cases c0 : e = 2 * s
      · subst c0
        rw [u0, u0, d0]
        exact if_pos rfl
      · rw [if_neg (by omega)]
        exact H.Y e h1 (by omega) q j

theorem holds_stack (k : ℕ) (hk : k % 8 = 0) (st : St Ideal) (H : Holds x g wg wu wd (k + 8) k st) :
    Holds x g wg wu wd (k + 8) (k + 8) (stackSt st) := by
  refine ⟨H.xb, H.gt, H.sl, H.cn, fun r j => ?_, fun e _ h => absurd h (by omega), fun e _ h => absurd h (by omega)⟩
  have key : k0_pay3 (F := Ideal) st.acc st.P st.Y (ix2 r j)
      = st.acc (ix2 r j) + ∑ n : Fin 1280, st.P (ix2 n r) * st.Y (ix2 n j) := by
    pointwise [k0_pay3]
  show k0_pay3 (F := Ideal) st.acc st.P st.Y (ix2 r j) = _
  rw [key, sum_blocks, H.acc, Finset.sum_range_add (fun e => near x g wg wu wd e r j) k 8,
    Finset.sum_range (n := 8) fun e => near x g wg wu wd (k + e) r j]
  refine (add_assoc (_ : EReal) _ _).trans (congrArg (fun z : EReal => _ + z) (congrArg (fun z : EReal => _ + z) (Finset.sum_congr rfl fun b _ => ?_)))
  have hb := b.isLt
  have e : ∀ q, blk b.val q = blk (k + b.val) q := fun q => Fin.ext (by
    show 160 * (b.val % 8) + q.val = 160 * ((k + b.val) % 8) + q.val
    rw [show (k + b.val) % 8 = b.val % 8 by omega])
  rw [Finset.sum_congr rfl fun q _ => show st.P (ix2 (blk b.val q) r) * st.Y (ix2 (blk b.val q) j) = _ by
    rw [e, H.P (k + b.val) (by omega) (by omega), H.Y (k + b.val) (by omega) (by omega)]]
  refine (chunk_adds (slots_row g (lane (k + b.val))) (marks_first _) _ _ _ _ _ r j).trans ?_
  refine same_if (and_congr_right fun _ => ?_) _
  omega

theorem holds_step (s : ℕ) (hs : s < 8) (i : grid0.Coords) (hi : (i 1).val = s) (x' : Vec Ideal S1024x1024 .f32) (g' : Vec Ideal S1024x128 .f32)
    (hx : s = 0 → x' = x) (hg : s = 0 → g' = g) (st : St Ideal) (H : 0 < s → Holds x g wg wu wd (2 * s) (8 * (s / 4)) st) :
    Holds x g wg wu wd (2 * (s + 1)) (8 * ((s + 1) / 4)) (stepSt i x' g' (wg s) (wu s) (wd s) st) := by
  have h1 : Holds x g wg wu wd (2 * s + 2) (8 * (s / 4)) (mainSt i (wg s) (wu s) (wd s) (if (i 1).val = 0 then initSt x' g' st else st)) := by
    refine holds_main x g wg wu wd s _ i hi (by omega) _ ?_
    rw [hi]
    by_cases h0 : s = 0
    · rw [if_pos h0, hx h0, hg h0, h0]
      exact holds_init x g wg wu wd st
    · rw [if_neg h0]
      exact H (by omega)
  unfold stepSt
  dsimp only
  rw [hi] at h1 ⊢
  by_cases h3 : s % 4 = 3
  · rw [if_pos h3, show 2 * (s + 1) = 8 * (s / 4) + 8 by omega, show 8 * ((s + 1) / 4) = 8 * (s / 4) + 8 by omega]
    rw [show 2 * s + 2 = 8 * (s / 4) + 8 by omega] at h1
    exact holds_stack x g wg wu wd _ (by omega) _ h1
  · rw [if_neg h3, show 8 * ((s + 1) / 4) = 8 * (s / 4) by omega]
    exact h1

/-- The near and the further rows together are all an expert uses, and an unused row's gate is zero. -/
theorem near_far (e : ℕ) (r j : Fin 1024) (h0 : 0 ≤ g (ix2 r (lane e))) (h1 : g (ix2 r (lane e)) < ⊤) :
    far x g wg wu wd e r j + near x g wg wu wd e r j
      = expert (k0_pay5 x) (upE wg e) (upE wu e) (dnE wd e) r j * g (ix2 r (lane e)) := by
  have eg : gateE g e (ix2 0 r) = g (ix2 r (lane e)) := gates_apply g (lane e) r h0 h1
  unfold far near giveE
  rw [eg]
  by_cases hu : 0 < g (ix2 r (lane e))
  · by_cases hb : before g (lane e) r < 160
    · rw [if_neg (by omega), if_pos ⟨hu, hb⟩]
      exact zero_add (_ : EReal)
    · rw [if_pos ⟨hu, by omega⟩, if_neg (fun h => hb h.2)]
      exact add_zero (_ : EReal)
  · rw [if_neg (fun h => hu h.1), if_neg (fun h => hu h.1), show g (ix2 r (lane e)) = 0 from le_antisymm (not_lt.1 hu) h0]
    exact (add_zero (0 : EReal)).trans (mul_zero (_ : EReal)).symm

/-- A tile's sum: every expert's rows, gated. -/
theorem tile_sum (st : St Ideal) (H : Holds x g wg wu wd 16 16 st) (r j : Fin 1024)
    (h : ∀ e < 16, 0 ≤ g (ix2 r (lane e)) ∧ g (ix2 r (lane e)) < ⊤) :
    st.acc (ix2 r j) = ∑ e ∈ Finset.range 16, expert (k0_pay5 x) (upE wg e) (upE wu e) (dnE wd e) r j * g (ix2 r (lane e)) := by
  rw [H.acc, ← Finset.sum_add_distrib]
  refine Finset.sum_congr rfl fun e he => ?_
  have := h e (Finset.mem_range.1 he)
  exact near_far x g wg wu wd e r j this.1 this.2

end

end Cert.KernelIdeal.Value

end
-- ==== Proof.Whole.lean ====
module

public import proofs.«01_k».proof.Proof.Tile
public import proofs.«01_k».proof.Proof.Run
public import Idealize.ShloMosaic.Lib.StableHlo.ReadAt
public import Idealize.ShloMosaic.Lib.Pipeline.Value

@[expose] public section

set_option maxHeartbeats 400000

noncomputable section

namespace Cert.KernelIdeal.Value
open Cert.KernelIdeal Cert.KernelIdeal.Gen Cert.KernelIdeal.Hand
open Idealize.ShloMosaic Idealize.ShloMosaic.TcCoe

/-! ## The layer, of its arrays -/

section
variable (X : Vec Ideal S16384x1024 .f32) (G : Vec Ideal S16384x16 .f32) (WG WU : Vec Ideal S16x1024x512 .f32) (WD : Vec Ideal S16x512x1024 .f32)
  (LG LB : Vec Ideal S1024 .f32)

/-- Row `n` against expert `e`'s column `d`; -/
def proj (W : Vec Ideal S16x1024x512 .f32) (e : Fin 16) (n : Fin 16384) (d : Fin 512) : EReal := ∑ k : Fin 1024, X (ix2 n k) * W (ix3 e k d)
/-- what expert `e` makes of row `n`; -/
def feed (e : Fin 16) (n : Fin 16384) (j : Fin 1024) : EReal :=
  ∑ d : Fin 512, (proj X WG e n d * Ideal.div 1 (1 + Ideal.exp (0 - proj X WG e n d)) * proj X WU e n d) * WD (ix3 e d j)
/-- the gated sum over the experts, beside the scaled row. -/
def mixed (n : Fin 16384) (j : Fin 1024) : EReal :=
  Ideal.ofBits .f32 1068827891#32 * X (ix2 n j) + ∑ e : Fin 16, feed X WG WU WD e n j * G (ix2 n e)

/-- A row's layer norm. -/
def lnorm (z g b : Fin 1024 → EReal) (j : Fin 1024) : EReal :=
  (z j - Ideal.div (∑ k, z k) (Ideal.ofBits .f32 1149239296#32))
    * Ideal.rsqrt (Ideal.div (∑ k, (z k - Ideal.div (∑ k, z k) (Ideal.ofBits .f32 1149239296#32)) * (z k - Ideal.div (∑ k, z k) (Ideal.ofBits .f32 1149239296#32)))
        (Ideal.ofBits .f32 1149239296#32) + Ideal.ofBits .f32 925353388#32) * g j + b j

theorem lnorm_congr {z z' g g' b b' : Fin 1024 → EReal} (hz : ∀ k, z k = z' k) (hg : ∀ k, g k = g' k) (hb : ∀ k, b k = b' k) (j : Fin 1024) :
    lnorm z g b j = lnorm z' g' b' j := by
  rw [funext hz, funext hg, funext hb]

/-- The layer's result. -/
def layer : Vec Ideal S16384x1024 .f32 :=
  fun y => lnorm (mixed X G WG WU WD (y 0)) (fun j => LG (ix1 j)) (fun j => LB (ix1 j)) (y 1)

end

theorem round_apply (x : Vec Ideal S1024x1024 .f32) (r j : Fin 1024) : k0_pay5 (F := Ideal) x (ix2 r j) = x (ix2 r j) := by
  pointwise [k0_pay5]

theorem out_apply (x acc : Vec Ideal S1024x1024 .f32) (lg lb : Vec Ideal S1x1024 .f32) (r j : Fin 1024) :
    k0_pay4 (F := Ideal) x acc lg lb (ix2 r j)
      = lnorm (fun j => Ideal.ofBits .f32 1068827891#32 * x (ix2 r j) + acc (ix2 r j)) (fun j => lg (ix2 0 j)) (fun j => lb (ix2 0 j)) j := by
  unfold lnorm
  pointwise [k0_pay4]

variable (m : (ℓ : Loc nD τ sig) → Buf (Elt Ideal) ℓ) (c : Dev nD)

/-! ## The arrays the windows read -/

abbrev aX : Vec Ideal S16384x1024 .f32 := m ((c : Thread nD τ).loc main_arg0)
abbrev aG : Vec Ideal S16384x16 .f32 := m ((c : Thread nD τ).loc main_arg1)
abbrev aWG : Vec Ideal S16x1024x512 .f32 := m ((c : Thread nD τ).loc main_arg2)
abbrev aWU : Vec Ideal S16x1024x512 .f32 := m ((c : Thread nD τ).loc main_arg3)
abbrev aWD : Vec Ideal S16x512x1024 .f32 := m ((c : Thread nD τ).loc main_arg4)
abbrev aLG : Vec Ideal S1024 .f32 := m ((c : Thread nD τ).loc main_arg5)
abbrev aLB : Vec Ideal S1024 .f32 := m ((c : Thread nD τ).loc main_arg6)

theorem V_gate (n : Fin 16384) (e : Fin 16) : (V m c main_v0 : Vec Ideal S16384x128 .f32) (ix2 n (lane e.val)) = aG m c (ix2 n e) := by
  have h : lane e.val = ⟨e.val + 4, by omega⟩ := Fin.ext (Nat.mod_eq_of_lt (by omega))
  rw [h]
  unfold V
  after_reads_at
  rw [dif_pos (by omega)]
  exact congrArg (aG m c) (congrArg (ix2 n) (Fin.ext (by show e.val + 4 - 4 = e.val; omega)))

theorem V_wg (e : Fin 16) (k : Fin 1024) (d : Fin 512) : (V m c main_v1 : Vec Ideal S16x1024x512 .bf16) (ix3 e k d) = aWG m c (ix3 e k d) := by
  unfold V
  after_reads_at

theorem V_wu (e : Fin 16) (k : Fin 1024) (d : Fin 512) : (V m c main_v2 : Vec Ideal S16x1024x512 .bf16) (ix3 e k d) = aWU m c (ix3 e k d) := by
  unfold V
  after_reads_at

theorem V_wd (e : Fin 16) (d : Fin 512) (j : Fin 1024) : (V m c main_v3 : Vec Ideal S16x512x1024 .bf16) (ix3 e d j) = aWD m c (ix3 e d j) := by
  unfold V
  after_reads_at

theorem V_lg (j : Fin 1024) : (V m c main_v4 : Vec Ideal S1x1024 .f32) (ix2 0 j) = aLG m c (ix1 j) := by
  unfold V
  after_reads_at

theorem V_lb (j : Fin 1024) : (V m c main_v5 : Vec Ideal S1x1024 .f32) (ix2 0 j) = aLB m c (ix1 j) := by
  unfold V
  after_reads_at

theorem idx0 : ∀ t : Fin grid0.N, win0_0.index t 0 = t.val / 8 ∧ win0_0.index t 1 = 0 := by decide
theorem idx1 : ∀ t : Fin grid0.N, win0_1.index t 0 = t.val / 8 ∧ win0_1.index t 1 = 0 := by decide
theorem idx2 : ∀ t : Fin grid0.N, win0_2.index t 0 = t.val % 8 ∧ win0_2.index t 1 = 0 ∧ win0_2.index t 2 = 0 := by decide
theorem idx3 : ∀ t : Fin grid0.N, win0_3.index t 0 = t.val % 8 ∧ win0_3.index t 1 = 0 ∧ win0_3.index t 2 = 0 := by decide
theorem idx4 : ∀ t : Fin grid0.N, win0_4.index t 0 = t.val % 8 ∧ win0_4.index t 1 = 0 ∧ win0_4.index t 2 = 0 := by decide
theorem idx5 : ∀ t : Fin grid0.N, win0_5.index t 0 = 0 ∧ win0_5.index t 1 = 0 := by decide
theorem idx6 : ∀ t : Fin grid0.N, win0_6.index t 0 = 0 ∧ win0_6.index t 1 = 0 := by decide
theorem idx7 : ∀ t : Fin grid0.N, win0_7.index t 0 = t.val / 8 ∧ win0_7.index t 1 = 0 := by decide

/-- Step `s` of tile `b`; -/
def pt (b : Fin 16) (s : ℕ) : Fin cfg0.N := ⟨8 * b.val + s % 8, by have := b.isLt; have : cfg0.N = 128 := N_0; omega⟩
/-- row `r` of tile `b`. -/
def rowAt (b : Fin 16) (r : Fin 1024) : Fin 16384 := ⟨1024 * b.val + r.val, by have := b.isLt; have := r.isLt; omega⟩

theorem bx_apply (b : Fin 16) (s : ℕ) (r j : Fin 1024) : bx m c (pt b s) (ix2 r j) = aX m c (ix2 (rowAt b r) j) := by
  have hi := idx0 (pt b s)
  have hp : (pt b s).val / 8 = b.val := by show (8 * b.val + s % 8) / 8 = b.val; omega
  refine (show bx m c (pt b s) (ix2 r j) = (V m c main_arg0 : Vec Ideal S16384x1024 .f32) (ix2 (rowAt b r) j) from ?_).trans
    (congrFun (V_main_arg0 m c) (ix2 (rowAt b r) j))
  refine congrArg (V m c main_arg0) (funext fun a => Fin.ext ?_)
  match a with
  | ⟨0, _⟩ => show win0_0.index (pt b s) 0 * 1024 + 1 * r.val = 1024 * b.val + r.val; rw [hi.1, hp]; omega
  | ⟨1, _⟩ => show win0_0.index (pt b s) 1 * 1024 + 1 * j.val = j.val; rw [hi.2]; omega

theorem bg_apply (b : Fin 16) (s : ℕ) (r : Fin 1024) (e : Fin 16) : bg m c (pt b s) (ix2 r (lane e.val)) = aG m c (ix2 (rowAt b r) e) := by
  have hi := idx1 (pt b s)
  have hp : (pt b s).val / 8 = b.val := by show (8 * b.val + s % 8) / 8 = b.val; omega
  refine (show bg m c (pt b s) (ix2 r (lane e.val)) = (V m c main_v0 : Vec Ideal S16384x128 .f32) (ix2 (rowAt b r) (lane e.val)) from ?_).trans (V_gate m c _ e)
  refine congrArg (V m c main_v0) (funext fun a => Fin.ext ?_)
  match a with
  | ⟨0, _⟩ => show win0_1.index (pt b s) 0 * 1024 + 1 * r.val = 1024 * b.val + r.val; rw [hi.1, hp]; omega
  | ⟨1, _⟩ => show win0_1.index (pt b s) 1 * 128 + 1 * (lane e.val).val = (lane e.val).val; rw [hi.2]; omega

theorem bwg_apply (b : Fin 16) (s : ℕ) (p : Fin 2) (e : Fin 16) (he : e.val = 2 * (s % 8) + p.val) (k : Fin 1024) (d : Fin 512) :
    bwg m c (pt b s) (ix3 p k d) = aWG m c (ix3 e k d) := by
  have hi := idx2 (pt b s)
  have hp : (pt b s).val % 8 = s % 8 := by show (8 * b.val + s % 8) % 8 = s % 8; omega
  refine (show bwg m c (pt b s) (ix3 p k d) = (V m c main_v1 : Vec Ideal S16x1024x512 .bf16) (ix3 e k d) from ?_).trans (V_wg m c e k d)
  refine congrArg (V m c main_v1) (funext fun a => Fin.ext ?_)
  match a with
  | ⟨0, _⟩ => show win0_2.index (pt b s) 0 * 2 + 1 * p.val = e.val; rw [hi.1, hp, he]; omega
  | ⟨1, _⟩ => show win0_2.index (pt b s) 1 * 1024 + 1 * k.val = k.val; rw [hi.2.1]; omega
  | ⟨2, _⟩ => show win0_2.index (pt b s) 2 * 512 + 1 * d.val = d.val; rw [hi.2.2]; omega

theorem bwu_apply (b : Fin 16) (s : ℕ) (p : Fin 2) (e : Fin 16) (he : e.val = 2 * (s % 8) + p.val) (k : Fin 1024) (d : Fin 512) :
    bwu m c (pt b s) (ix3 p k d) = aWU m c (ix3 e k d) := by
  have hi := idx3 (pt b s)
  have hp : (pt b s).val % 8 = s % 8 := by show (8 * b.val + s % 8) % 8 = s % 8; omega
  refine (show bwu m c (pt b s) (ix3 p k d) = (V m c main_v2 : Vec Ideal S16x1024x512 .bf16) (ix3 e k d) from ?_).trans (V_wu m c e k d)
  refine congrArg (V m c main_v2) (funext fun a => Fin.ext ?_)
  match a with
  | ⟨0, _⟩ => show win0_3.index (pt b s) 0 * 2 + 1 * p.val = e.val; rw [hi.1, hp, he]; omega
  | ⟨1, _⟩ => show win0_3.index (pt b s) 1 * 1024 + 1 * k.val = k.val; rw [hi.2.1]; omega
  | ⟨2, _⟩ => show win0_3.index (pt b s) 2 * 512 + 1 * d.val = d.val; rw [hi.2.2]; omega

theorem bwd_apply (b : Fin 16) (s : ℕ) (p : Fin 2) (e : Fin 16) (he : e.val = 2 * (s % 8) + p.val) (k : Fin 512) (d : Fin 1024) :
    bwd m c (pt b s) (ix3 p k d) = aWD m c (ix3 e k d) := by
  have hi := idx4 (pt b s)
  have hp : (pt b s).val % 8 = s % 8 := by show (8 * b.val + s % 8) % 8 = s % 8; omega
  refine (show bwd m c (pt b s) (ix3 p k d) = (V m c main_v3 : Vec Ideal S16x512x1024 .bf16) (ix3 e k d) from ?_).trans (V_wd m c e k d)
  refine congrArg (V m c main_v3) (funext fun a => Fin.ext ?_)
  match a with
  | ⟨0, _⟩ => show win0_4.index (pt b s) 0 * 2 + 1 * p.val = e.val; rw [hi.1, hp, he]; omega
  | ⟨1, _⟩ => show win0_4.index (pt b s) 1 * 512 + 1 * k.val = k.val; rw [hi.2.1]; omega
  | ⟨2, _⟩ => show win0_4.index (pt b s) 2 * 1024 + 1 * d.val = d.val; rw [hi.2.2]; omega

theorem blg_apply (t : Fin cfg0.N) (j : Fin 1024) : blg m c t (ix2 0 j) = aLG m c (ix1 j) := by
  have hi := idx5 t
  refine (show blg m c t (ix2 0 j) = (V m c main_v4 : Vec Ideal S1x1024 .f32) (ix2 0 j) from ?_).trans (V_lg m c j)
  refine congrArg (V m c main_v4) (funext fun a => Fin.ext ?_)
  match a with
  | ⟨0, _⟩ => show win0_5.index t 0 * 1 + 1 * 0 = 0; rw [hi.1]
  | ⟨1, _⟩ => show win0_5.index t 1 * 1024 + 1 * j.val = j.val; rw [hi.2]; omega

theorem blb_apply (t : Fin cfg0.N) (j : Fin 1024) : blb m c t (ix2 0 j) = aLB m c (ix1 j) := by
  have hi := idx6 t
  refine (show blb m c t (ix2 0 j) = (V m c main_v5 : Vec Ideal S1x1024 .f32) (ix2 0 j) from ?_).trans (V_lb m c j)
  refine congrArg (V m c main_v5) (funext fun a => Fin.ext ?_)
  match a with
  | ⟨0, _⟩ => show win0_6.index t 0 * 1 + 1 * 0 = 0; rw [hi.1]
  | ⟨1, _⟩ => show win0_6.index t 1 * 1024 + 1 * j.val = j.val; rw [hi.2]; omega

/-! ## Expert `e`'s weights -/

theorem upE_apply (w : ℕ → Vec Ideal S2x1024x512 .bf16) (W : Vec Ideal S16x1024x512 .f32)
    (h : ∀ (s : ℕ) (p : Fin 2) (e : Fin 16), e.val = 2 * (s % 8) + p.val → ∀ k d, w s (ix3 p k d) = W (ix3 e k d))
    (e : Fin 16) (k : Fin 1024) (d : Fin 512) : upE w e.val (ix3 0 k d) = W (ix3 e k d) := by
  have he := e.isLt
  unfold upE
  by_cases h0 : e.val % 2 = 0
  · rw [if_pos h0]
    refine Eq.trans ?_ (h (e.val / 2) 0 e (by show e.val = 2 * (e.val / 2 % 8) + 0; omega) k d)
    refine congrArg (w (e.val / 2)) (funext fun a => Fin.ext ?_)
    match a with
    | ⟨0, _⟩ => rfl
    | ⟨1, _⟩ => show 0 + 1 * k.val = k.val; omega
    | ⟨2, _⟩ => show 0 + 1 * d.val = d.val; omega
  · rw [if_neg h0]
    refine Eq.trans ?_ (h (e.val / 2) 1 e (by show e.val = 2 * (e.val / 2 % 8) + 1; omega) k d)
    refine congrArg (w (e.val / 2)) (funext fun a => Fin.ext ?_)
    match a with
    | ⟨0, _⟩ => rfl
    | ⟨1, _⟩ => show 0 + 1 * k.val = k.val; omega
    | ⟨2, _⟩ => show 0 + 1 * d.val = d.val; omega

theorem dnE_apply (w : ℕ → Vec Ideal S2x512x1024 .bf16) (W : Vec Ideal S16x512x1024 .f32)
    (h : ∀ (s : ℕ) (p : Fin 2) (e : Fin 16), e.val = 2 * (s % 8) + p.val → ∀ k d, w s (ix3 p k d) = W (ix3 e k d))
    (e : Fin 16) (k : Fin 512) (d : Fin 1024) : dnE w e.val (ix3 0 k d) = W (ix3 e k d) := by
  have he := e.isLt
  unfold dnE
  by_cases h0 : e.val % 2 = 0
  · rw [if_pos h0]
    refine Eq.trans ?_ (h (e.val / 2) 0 e (by show e.val = 2 * (e.val / 2 % 8) + 0; omega) k d)
    refine congrArg (w (e.val / 2)) (funext fun a => Fin.ext ?_)
    match a with
    | ⟨0, _⟩ => rfl
    | ⟨1, _⟩ => show 0 + 1 * k.val = k.val; omega
    | ⟨2, _⟩ => show 0 + 1 * d.val = d.val; omega
  · rw [if_neg h0]
    refine Eq.trans ?_ (h (e.val / 2) 1 e (by show e.val = 2 * (e.val / 2 % 8) + 1; omega) k d)
    refine congrArg (w (e.val / 2)) (funext fun a => Fin.ext ?_)
    match a with
    | ⟨0, _⟩ => rfl
    | ⟨1, _⟩ => show 0 + 1 * k.val = k.val; omega
    | ⟨2, _⟩ => show 0 + 1 * d.val = d.val; omega

/-! ## The output -/

theorem holds_at (b : Fin 16) (s : ℕ) (hs : s < 8) :
    Holds (bx m c (pt b 0)) (bg m c (pt b 0)) (fun s => bwg m c (pt b s)) (fun s => bwu m c (pt b s)) (fun s => bwd m c (pt b s))
      (2 * (s + 1)) (8 * ((s + 1) / 4)) (stAt m c (8 * b.val + s + 1)) := by
  have hp : ∀ s, s < 8 → (pt b s).val = 8 * b.val + s := fun s h => by show 8 * b.val + s % 8 = _; omega
  induction s with
  | zero =>
    have e := stAt_succ m c (pt b 0)
    rw [hp 0 hs] at e
    rw [e]
    exact holds_step _ _ _ _ _ 0 hs _ ((coords_step _).trans (by rw [hp 0 hs]; omega)) _ _ (fun _ => rfl) (fun _ => rfl) _ (fun h => absurd h (lt_irrefl 0))
  | succ s ih =>
    have e := stAt_succ m c (pt b (s + 1))
    rw [hp (s + 1) hs] at e
    rw [e]
    exact holds_step _ _ _ _ _ (s + 1) hs _ ((coords_step _).trans (by rw [hp (s + 1) hs]; omega)) _ _
      (fun h => absurd h (Nat.succ_ne_zero s)) (fun h => absurd h (Nat.succ_ne_zero s)) _ (fun _ => ih (by omega))

/-- The gates are weights: none is negative, none is infinite. -/
def Weights (G : Vec Ideal S16384x16 .f32) : Prop := ∀ n e, 0 ≤ G (ix2 n e) ∧ G (ix2 n e) < ⊤

variable (hG : Weights (aG m c))
include hG

/-- A tile's sum over its experts. -/
theorem acc_apply (b : Fin 16) (r j : Fin 1024) : (stAt m c (8 * b.val + 7 + 1)).acc (ix2 r j)
    = ∑ e : Fin 16, feed (aX m c) (aWG m c) (aWU m c) (aWD m c) e (rowAt b r) j * aG m c (ix2 (rowAt b r) e) := by
  have hl : ∀ (e : ℕ) (h : e < 16), bg m c (pt b 0) (ix2 r (lane e)) = aG m c (ix2 (rowAt b r) ⟨e, h⟩) :=
    fun e h => bg_apply m c b 0 r ⟨e, h⟩
  rw [tile_sum _ _ _ _ _ _ (holds_at m c b 7 (by decide)) r j (fun e he => by rw [hl e he]; exact hG _ _), Finset.sum_range]
  refine Finset.sum_congr rfl fun e _ => ?_
  rw [hl e.val e.isLt]
  refine congrArg (· * aG m c (ix2 (rowAt b r) e)) ?_
  have eu : ∀ (w : ℕ → Vec Ideal S2x1024x512 .bf16) (W : Vec Ideal S16x1024x512 .f32)
      (h : ∀ (s : ℕ) (p : Fin 2) (e : Fin 16), e.val = 2 * (s % 8) + p.val → ∀ k d, w s (ix3 p k d) = W (ix3 e k d)) (d : Fin 512),
      up (k0_pay5 (F := Ideal) (bx m c (pt b 0))) (upE w e.val) r d = proj (aX m c) W e (rowAt b r) d := fun w W h d =>
    Finset.sum_congr rfl fun k _ => congrArg₂ (· * ·) ((round_apply _ r k).trans (bx_apply m c b 0 r k)) (upE_apply w W h e k d)
  unfold expert feed
  refine Finset.sum_congr rfl fun d _ => ?_
  rw [eu _ _ (fun s p e h k d => bwg_apply m c b s p e h k d), eu _ _ (fun s p e h k d => bwu_apply m c b s p e h k d),
    dnE_apply _ _ (fun s p e h k d => bwd_apply m c b s p e h k d)]

/-- What a tile writes is the layer's rows. -/
theorem out_at (b : Fin 16) (r j : Fin 1024) : outAt m c (pt b 7) (ix2 r j)
    = layer (aX m c) (aG m c) (aWG m c) (aWU m c) (aWD m c) (aLG m c) (aLB m c) (ix2 (rowAt b r) j) := by
  have es : (pt b 7).val + 1 = 8 * b.val + 7 + 1 := by show 8 * b.val + 7 % 8 + 1 = _; omega
  unfold outAt
  rw [out_apply, es]
  exact lnorm_congr (fun k => congrArg₂ (· + ·) (congrArg (Ideal.ofBits .f32 1068827891#32 * ·) (bx_apply m c b 7 r k)) (acc_apply m c hG b r k))
    (fun k => blg_apply m c _ k) (fun k => blb_apply m c _ k) j

/-- The output array ends at the layer of the arguments. -/
theorem final_out : (dats m 0 c).arrAt 7 cfg0.N = layer (aX m c) (aG m c) (aWG m c) (aWU m c) (aWD m c) (aLG m c) (aLB m c) := by
  refine (dats m 0 c).arrAt_eq_of_cover 7 _ (fun t hf => ?_) fun i => ?_
  · have h7 : t.val % 8 = 7 := (flush0_7 t).mp hf
    have hN : t.val < 128 := lt_of_lt_of_eq t.isLt N_0
    obtain ⟨b, rfl⟩ : ∃ b : Fin 16, t = pt b 7 := ⟨⟨t.val / 8, by omega⟩, Fin.ext (by show t.val = 8 * (t.val / 8) + 7 % 8; omega)⟩
    show (cfg0.win 7).cut (grid0.coords (pt b 7)) (outAt m c (pt b 7)) = _
    have hi := idx7 (pt b 7)
    have hp : (pt b 7).val / 8 = b.val := by show (8 * b.val + 7 % 8) / 8 = b.val; omega
    funext y
    have h0 : (y 0).val < 1024 := (y 0).isLt
    have h1 : (y 1).val < 1024 := (y 1).isLt
    refine (show _ = outAt m c (pt b 7) (ix2 ⟨(y 0).val, h0⟩ ⟨(y 1).val, h1⟩) from congrArg (outAt m c (pt b 7)) (funext fun a => Fin.ext ?_)).trans ((out_at m c hG b _ _).trans ?_)
    · match a with
      | ⟨0, _⟩ => rfl
      | ⟨1, _⟩ => rfl
    · refine congrArg (layer (aX m c) (aG m c) (aWG m c) (aWU m c) (aWD m c) (aLG m c) (aLB m c)) (funext fun a => Fin.ext ?_)
      match a with
      | ⟨0, _⟩ => show 1024 * b.val + (y 0).val = win0_7.index (pt b 7) 0 * 1024 + 1 * (y 0).val; rw [hi.1, hp]; omega
      | ⟨1, _⟩ => show (y 1).val = win0_7.index (pt b 7) 1 * 1024 + 1 * (y 1).val; rw [hi.2]; omega
  · have h0 : (i 0).val < 16384 := (i 0).isLt
    have h1 : (i 1).val < 1024 := (i 1).isLt
    obtain ⟨b, hb⟩ : ∃ b : Fin 16, b.val = (i 0).val / 1024 := ⟨⟨(i 0).val / 1024, by omega⟩, rfl⟩
    refine ⟨pt b 7, (flush0_7 _).mpr (by show (8 * b.val + 7 % 8) % 8 = 7; omega), ?_⟩
    have hi := idx7 (pt b 7)
    have hp : (pt b 7).val / 8 = b.val := by show (8 * b.val + 7 % 8) / 8 = _; omega
    have key : (show S16384x1024.Idx from i) ∈ ((View.whole main_v6).slice (win0_7.rect (pt b 7))).set := by
      rw [View.set_slice_whole, Rect.mem_set_unit]
      intro a
      match a with
      | ⟨0, _⟩ =>
        show win0_7.index (pt b 7) 0 * 1024 ≤ (i 0).val ∧ (i 0).val < win0_7.index (pt b 7) 0 * 1024 + 1024
        rw [hi.1, hp]; omega
      | ⟨1, _⟩ =>
        show win0_7.index (pt b 7) 1 * 1024 ≤ (i 1).val ∧ (i 1).val < win0_7.index (pt b 7) 1 * 1024 + 1024
        rw [hi.2]; omega
    exact key

end Cert.KernelIdeal.Value

end
-- ==== Proof.Plain.lean ====
module

public import proofs.«01_k».proof.Proof.Whole
public import proofs.«01_k».proof.Proof.Gen.ReferenceIdeal.Run

@[expose] public section

set_option maxHeartbeats 400000

noncomputable section

namespace Cert.ReferenceIdeal.Plain
open Cert.ReferenceIdeal Cert.ReferenceIdeal.Gen Cert.ReferenceIdeal.Value
open Idealize.ShloMosaic Idealize.ShloMosaic.TcCoe Idealize.SL.Sem Idealize.ShloMosaic.StableHlo
open Cert.KernelIdeal.Value (proj feed mixed lnorm layer)

/-! ## One expert, as the reference writes it -/

theorem cut_up : ∀ e : Fin 16, S16x1024x512.Slices ![e.val, 0, 0] S1x1024x512 := by decide
theorem cut_dn : ∀ e : Fin 16, S16x512x1024.Slices ![e.val, 0, 0] S1x512x1024 := by decide
theorem cut_gate : ∀ e : Fin 16, S16384x16.Slices ![0, e.val] S16384x1 := by decide

section
variable (X : Vec Ideal S16384x1024 .f32) (G : Vec Ideal S16384x16 .f32) (WG WU : Vec Ideal S16x1024x512 .f32) (WD : Vec Ideal S16x512x1024 .f32)

def hproj (W : Vec Ideal S16x1024x512 .f32) (e : Fin 16) : Vec Ideal S16384x512 .f32 :=
  Host.dotGeneral (F := Ideal) (φ₁ := .f32) (φ₂ := .f32) dot_S16384x1024_S1024x512_S16384x512_1_0_0_1_n_n none X
    (shapeCast _ (extractStridedSlice S1x1024x512 ![e.val, 0, 0] W (cut_up e)) shapeCasts_S1x1024x512_S1024x512)

def term (e : Fin 16) : Vec Ideal S16384x1024 .f32 :=
  mulf (F := Ideal) (φ := .f32) (broadcastInDim S16384x1024 ![0, 1] bcast_S16384x1_S16384x1024_0_1 (extractStridedSlice S16384x1 ![0, e.val] G (cut_gate e)))
    (Host.dotGeneral (F := Ideal) (φ₁ := .f32) (φ₂ := .f32) dot_S16384x512_S512x1024_S16384x1024_1_0_0_1_n_n none
      (mulf (mulf (hproj X WG e) (Host.divf (broadcastInDim S16384x512 ![] bcast_S_S16384x512 (constant (F := Ideal) S_ .f32 0x3F800000#32))
        (addf (broadcastInDim S16384x512 ![] bcast_S_S16384x512 (constant (F := Ideal) S_ .f32 0x3F800000#32)) (Host.exp (Host.negf (hproj X WG e)))))) (hproj X WU e))
      (shapeCast _ (extractStridedSlice S1x512x1024 ![e.val, 0, 0] WD (cut_dn e)) shapeCasts_S1x512x1024_S512x1024))

theorem hproj_apply (W : Vec Ideal S16x1024x512 .f32) (e : Fin 16) (n : Fin 16384) (d : Fin 512) : hproj X W e (ix2 n d) = proj X W e n d := by
  unfold proj
  pointwise [hproj]

theorem term_apply (e : Fin 16) (n : Fin 16384) (j : Fin 1024) : term X G WG WU WD e (ix2 n j) = feed X WG WU WD e n j * G (ix2 n e) := by
  pointwise [term]
  simp only [hproj_apply, feed, zero_sub]
  exact mul_comm _ _

/-- The experts' terms, added in order. -/
def sumTo : Vec Ideal S16384x1024 .f32 :=
  [0, 1, 2, 3, 4, 5, 6, 7, 8, 9, 10, 11, 12, 13, 14, 15].foldl (fun a e => addf (F := Ideal) (φ := .f32) a (term X G WG WU WD e))
    (broadcastInDim S16384x1024 ![] bcast_S_S16384x1024 (constant (F := Ideal) S_ .f32 0x00000000#32))

/-- A running sum of terms reads, at an index, as the running sum of the terms there. -/
theorem foldl_apply (l : List (Fin 16)) (a : Vec Ideal S16384x1024 .f32) (n : Fin 16384) (j : Fin 1024) :
    l.foldl (fun a e => addf (F := Ideal) (φ := .f32) a (term X G WG WU WD e)) a (ix2 n j)
      = l.foldl (fun a e => a + feed X WG WU WD e n j * G (ix2 n e)) (a (ix2 n j)) := by
  induction l generalizing a with
  | nil => rfl
  | cons e l ih =>
    refine (ih _).trans (congrArg (fun v => List.foldl _ v l) ?_)
    exact congrArg (a (ix2 n j) + ·) (term_apply X G WG WU WD e n j)

theorem sumTo_apply (n : Fin 16384) (j : Fin 1024) : sumTo X G WG WU WD (ix2 n j) = ∑ e : Fin 16, feed X WG WU WD e n j * G (ix2 n e) := by
  unfold sumTo
  rw [foldl_apply]
  have h : (broadcastInDim S16384x1024 ![] bcast_S_S16384x1024 (constant (F := Ideal) S_ .f32 0x00000000#32) : Vec Ideal S16384x1024 .f32) (ix2 n j) = 0 := by
    pointwise []
  rw [h, Fin.sum_univ_def, List.sum_eq_foldl, List.foldl_map]
  rfl

end

theorem sum_eq (V0 : Valuation τ sig (Elt Ideal)) : res_main_v243 V0 = addf (F := Ideal) (φ := .f32)
    (mulf (broadcastInDim S16384x1024 ![] bcast_S_S16384x1024 (constant (F := Ideal) S_ .f32 0x3FB504F3#32)) (V0 (Proc.devRef .tc main_arg0)))
    (sumTo (V0 (Proc.devRef .tc main_arg0)) (V0 (Proc.devRef .tc main_arg1)) (V0 (Proc.devRef .tc main_arg2)) (V0 (Proc.devRef .tc main_arg3)) (V0 (Proc.devRef .tc main_arg4))) := by
  rfl

section
variable (V0 : Valuation τ sig (Elt Ideal))

/-- The layer of the reference's arguments. -/
abbrev layerOf : Vec Ideal S16384x1024 .f32 :=
  layer (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))

theorem mixed_apply (n : Fin 16384) (j : Fin 1024) : (res_main_v243 V0 : Vec Ideal S16384x1024 .f32) (ix2 n j)
    = mixed (V0 (Proc.devRef .tc main_arg0)) (V0 (Proc.devRef .tc main_arg1)) (V0 (Proc.devRef .tc main_arg2)) (V0 (Proc.devRef .tc main_arg3))
      (V0 (Proc.devRef .tc main_arg4)) n j := by
  rw [sum_eq]
  refine congrArg₂ (· + ·) ?_ (sumTo_apply _ _ _ _ _ n j)
  pointwise []

end

/-! ## The norm, as the reference writes it -/

section
variable (z : Vec Ideal S16384x1024 .f32)

def mean : Vec Ideal S16384x1 .f32 :=
  Host.divf (F := Ideal) (φ := .f32) (broadcastInDim S16384x1 ![0] bcast_S16384_S16384x1_0 (Host.reduceAdd z (constant (F := Ideal) S_ .f32 0x00000000#32) reducesTo_S16384x1024_S16384_d1 h_S_))
    (broadcastInDim S16384x1 ![] bcast_S_S16384x1 (constant (F := Ideal) S_ .f32 0x44800000#32))

def centred : Vec Ideal S16384x1024 .f32 :=
  subf (F := Ideal) (φ := .f32) z (broadcastInDim S16384x1024 ![0, 1] bcast_S16384x1_S16384x1024_0_1 (mean z))

def normed (g b : Vec Ideal S1024 .f32) : Vec Ideal S16384x1024 .f32 :=
  addf (F := Ideal) (φ := .f32) (mulf (mulf (centred z) (broadcastInDim S16384x1024 ![0, 1] bcast_S16384x1_S16384x1024_0_1
      (Host.rsqrt (addf (mean (mulf (F := Ideal) (φ := .f32) (centred z) (centred z))) (broadcastInDim S16384x1 ![] bcast_S_S16384x1 (constant (F := Ideal) S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

theorem mean_apply (n : Fin 16384) : mean z (ix2 n 0) = Ideal.div (∑ k : Fin 1024, z (ix2 n k)) (Ideal.ofBits .f32 1149239296#32) := by
  pointwise [mean]

theorem centred_apply (n : Fin 16384) (j : Fin 1024) : centred z (ix2 n j)
    = z (ix2 n j) - Ideal.div (∑ k : Fin 1024, z (ix2 n k)) (Ideal.ofBits .f32 1149239296#32) := by
  pointwise [centred]
  rw [mean_apply]

theorem normed_apply (g b : Vec Ideal S1024 .f32) (n : Fin 16384) (j : Fin 1024) :
    normed z g b (ix2 n j) = lnorm (fun k => z (ix2 n k)) (fun k => g (ix1 k)) (fun k => b (ix1 k)) j := by
  unfold lnorm
  pointwise [normed]
  have h (k : Fin 1024) : mulf (F := Ideal) (φ := .f32) (centred z) (centred z) (ix2 n k) = centred z (ix2 n k) * centred z (ix2 n k) := by
    pointwise []
  simp only [mean_apply, h, centred_apply]

end

/-- What the reference leaves in its result array. -/
theorem result_eq (V0 : Valuation τ sig (Elt Ideal)) :
    normed (res_main_v243 V0) (V0 (Proc.devRef .tc main_arg5)) (V0 (Proc.devRef .tc main_arg6)) = layerOf V0 := by
  funext y
  obtain ⟨n, j, rfl⟩ : ∃ n j, y = ix2 n j := ⟨y 0, y 1, by funext d; fin_cases d <;> rfl⟩
  refine (normed_apply _ _ _ n j).trans ?_
  exact Cert.KernelIdeal.Value.lnorm_congr (mixed_apply V0 n) (fun _ => rfl) (fun _ => rfl) j

/-- The reference's run. -/
theorem run_layer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v267) = layerOf (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq (launchContents m c)), (h c).2⟩) (run (F := Ideal) m ρ)

end Cert.ReferenceIdeal.Plain

end
-- ==== Proof.Value.lean ====
module

public import proofs.«01_k».proof.Proof.Frames
public import proofs.«01_k».proof.Proof.Plain

@[expose] public section

set_option maxHeartbeats 400000

noncomputable section

namespace Cert.Proof
open Idealize.ShloMosaic Idealize.ShloMosaic.TcCoe Idealize.SL.Sem
open Cert.KernelIdeal Cert.KernelIdeal.Gen Cert.KernelIdeal.Hand Cert.KernelIdeal.Value

theorem pre_facts : Cert.Pre_gates_are_weights.Facts := ⟨by decide⟩

/-- What the precondition says of a gate: it is a number from zero up, below infinity. -/
theorem weights_of_pre (hP : Cert.Pre_gates_are_weights.Facts) (m : (ℓ : Loc nD τ sig) → Buf (Elt Ideal) ℓ)
    (h : Cert.Pre_KernelIdeal_gates_are_weights m) (c : Dev nD) : Weights (aG m c) := by
  intro n e
  have h := congrFun (h c) (ix2 n e)
  unfold Cert.Pre_gates_are_weights.fn at h
  have hb : ∀ a b : Bool, BitVec.ofBool a &&& BitVec.ofBool b = 1#1 → a = true ∧ b = true := by decide
  obtain ⟨h0, h1⟩ := hb (decide (Ideal.ofBits .f32 0x00000000#32 ≤ aG m c (ix2 n e))) (decide (aG m c (ix2 n e) < Ideal.ofBits .f32 0x7F800000#32)) h
  exact ⟨Ideal.ofBits_zero_f32 ▸ of_decide_eq_true h0, lt_of_lt_of_le (of_decide_eq_true h1) le_top⟩

/-- The kernel's run, its result named. -/
theorem algebraic (hP : Cert.Pre_gates_are_weights.Facts) : Cert.algebraic_KernelIdeal_ReferenceIdeal_pre_gates_are_weights := by
  intro m ρ m' ρ' hpre hagree
  refine ⟨fun c => layer (aX m c) (aG m c) (aWG m c) (aWU m c) (aWD m c) (aLG m c) (aLB m c), ?_, ?_⟩
  · exact (θ_run Cert.KernelIdeal.defs _ _).mono
      (fun r h c => ⟨((h.1 c).1 7).trans (final_out m c (weights_of_pre hP m hpre c)), args_kept m h.1 c⟩) (run_main (F := Ideal) m ρ)
  · refine (θ_run Cert.ReferenceIdeal.defs _ _).mono (fun r h c => ⟨(h c).1.trans ?_, (h c).2⟩) (Cert.ReferenceIdeal.Plain.run_layer m' ρ')
    obtain ⟨h0, h1, h2, h3, h4, h5, h6⟩ := hagree c
    exact (congr (congr (congr (congr (congr (congr (congrArg layer h0) h1) h2) h3) h4) h5) h6)

end Cert.Proof

end
-- ==== Proof.InWeights.lean ====
module

public import proofs.«01_k».proof.Proof.Gen.Kernel2Ideal.Value
public import Idealize.ShloMosaic.Lib.Pointwise
public import Idealize.ShloMosaic.Lib.StableHlo.ReadAt
public import Idealize.ShloMosaic.Lib.Pipeline.Value

@[expose] public section

set_option maxHeartbeats 1000000

noncomputable section

namespace Cert.Kernel2Ideal.Hand
open Cert.Kernel2Ideal Cert.Kernel2Ideal.Gen
open Idealize.ShloMosaic Idealize.ShloMosaic.TcCoe

variable (m : (ℓ : Loc nD τ sig) → Buf (Elt Ideal) ℓ) (c : Dev nD)

abbrev aX : Vec Ideal S16384x1024 .f32 := m ((c : Thread nD τ).loc main_arg0)
abbrev aW : Vec Ideal S1024x2840 .f32 := m ((c : Thread nD τ).loc main_arg1)

/-- A column of the weights; past their last, zeros. -/
def wAt (W : Vec Ideal S1024x2840 .f32) (k : Fin 1024) (n : ℕ) : EReal := if h : n < 2840 then W (ix2 k ⟨n, h⟩) else 0

theorem wAt_of (W : Vec Ideal S1024x2840 .f32) (k : Fin 1024) {n n' : ℕ} (h : n < 2840) (e : n' = n) : W (ix2 k ⟨n, h⟩) = wAt W k n' := by
  subst e
  unfold wAt
  rw [dif_pos h]

/-- Where column `j` of the widened weights comes from. -/
def src (j : ℕ) : ℕ :=
  if j < 1280 then j else if j < 2304 then j + 536 else if j < 2328 then j - 512 else if j < 2432 then 2840
  else if j < 2688 then 1280 + (j - 2432) / 128 * 64 + (j - 2432) % 64 else 1536 + (j - 2688) / 128 * 64 + (j - 2688) % 64

/-- Where row `j` of the values' transposed weights comes from. -/
def srcT (j : ℕ) : ℕ := if j < 128 then 1408 + j else 1536 + j

theorem V_vt (j : Fin 256) (k : Fin 1024) : (V m c main_v25 : Vec Ideal S256x1024 .bf16) (ix2 j k) = wAt (aW m c) k (srcT j.val) := by
  unfold V
  after_reads_at
  split <;> after_reads_at <;> exact wAt_of _ _ _ (by unfold srcT; split <;> omega)

section
variable (W : Vec Ideal S1024x2840 .f32)

def pieces : List ((s : Shape) × (s.Idx → EReal)) :=
  [⟨S1024x256, extractStridedSlice S1024x256 ![0, 0] W slices_S1024x2840_S1024x256_0_0⟩,
    ⟨S1024x256, extractStridedSlice S1024x256 ![0, 256] W slices_S1024x2840_S1024x256_0_256⟩,
    ⟨S1024x512, extractStridedSlice S1024x512 ![0, 512] W slices_S1024x2840_S1024x512_0_512⟩,
    ⟨S1024x128, extractStridedSlice S1024x128 ![0, 1024] W slices_S1024x2840_S1024x128_0_1024⟩,
    ⟨S1024x128, extractStridedSlice S1024x128 ![0, 1152] W slices_S1024x2840_S1024x128_0_1152⟩,
    ⟨S1024x256, extractStridedSlice S1024x256 ![0, 1816] W slices_S1024x2840_S1024x256_0_1816⟩,
    ⟨S1024x256, extractStridedSlice S1024x256 ![0, 2072] W slices_S1024x2840_S1024x256_0_2072⟩,
    ⟨S1024x256, extractStridedSlice S1024x256 ![0, 2328] W slices_S1024x2840_S1024x256_0_2328⟩,
    ⟨S1024x256, extractStridedSlice S1024x256 ![0, 2584] W slices_S1024x2840_S1024x256_0_2584⟩,
    ⟨S1024x24, extractStridedSlice S1024x24 ![0, 1792] W slices_S1024x2840_S1024x24_0_1792⟩,
    ⟨S1024x104, broadcastInDim S1024x104 ![] bcast_S_S1024x104 (constant (F := Ideal) S_ .f32 0x00000000#32)⟩,
    ⟨S1024x64, extractStridedSlice S1024x64 ![0, 0] (extractStridedSlice S1024x128 ![0, 1280] W slices_S1024x2840_S1024x128_0_1280) slices_S1024x128_S1024x64_0_0⟩,
    ⟨S1024x64, extractStridedSlice S1024x64 ![0, 0] (extractStridedSlice S1024x128 ![0, 1280] W slices_S1024x2840_S1024x128_0_1280) slices_S1024x128_S1024x64_0_0⟩,
    ⟨S1024x64, extractStridedSlice S1024x64 ![0, 64] (extractStridedSlice S1024x128 ![0, 1280] W slices_S1024x2840_S1024x128_0_1280) slices_S1024x128_S1024x64_0_64⟩,
    ⟨S1024x64, extractStridedSlice S1024x64 ![0, 64] (extractStridedSlice S1024x128 ![0, 1280] W slices_S1024x2840_S1024x128_0_1280) slices_S1024x128_S1024x64_0_64⟩,
    ⟨S1024x64, extractStridedSlice S1024x64 ![0, 0] (extractStridedSlice S1024x128 ![0, 1536] W slices_S1024x2840_S1024x128_0_1536) slices_S1024x128_S1024x64_0_0⟩]

def wide19 : Vec Ideal S1024x2752 .f32 := concatenate S1024x2752 1 (pieces W) concatenates_S1024x256_S1024x256_S1024x512_S1024x128_S1024x128_S1024x256_S1024x256_S1024x256_S1024x256_S1024x24_S1024x104_S1024x64_S1024x64_S1024x64_S1024x64_S1024x64_S1024x2752_d1

def wide20 : Vec Ideal S1024x192 .f32 :=
  concatenate S1024x192 1 [⟨S1024x64, (extractStridedSlice S1024x64 ![0, 0] (extractStridedSlice S1024x128 ![0, 1536] W slices_S1024x2840_S1024x128_0_1536) slices_S1024x128_S1024x64_0_0 : (⟨S1024x64, .f32⟩ : BufTy).Contents (Elt Ideal))⟩, ⟨S1024x64, (extractStridedSlice S1024x64 ![0, 64] (extractStridedSlice S1024x128 ![0, 1536] W slices_S1024x2840_S1024x128_0_1536) slices_S1024x128_S1024x64_0_64 : (⟨S1024x64, .f32⟩ : BufTy).Contents (Elt Ideal))⟩, ⟨S1024x64, (extractStridedSlice S1024x64 ![0, 64] (extractStridedSlice S1024x128 ![0, 1536] W slices_S1024x2840_S1024x128_0_1536) slices_S1024x128_S1024x64_0_64 : (⟨S1024x64, .f32⟩ : BufTy).Contents (Elt Ideal))⟩] concatenates_S1024x64_S1024x64_S1024x64_S1024x192_d1

def wide : Vec Ideal S1024x2944 .bf16 :=
  truncf (F := Ideal) .bf16 (concatenate S1024x2944 1 [⟨S1024x2752, wide19 W⟩, ⟨S1024x192, wide20 W⟩] concatenates_S1024x2752_S1024x192_S1024x2944_d1) bitsLt_bf16_f32

theorem wide20_at (k : Fin 1024) (j : Fin 192) : wide20 W (ix2 k j) = wAt W k (src (2752 + j.val)) := by
  pointwise [wide20]
  split_ifs <;> exact wAt_of _ _ _ (by unfold src; split_ifs <;> omega)

/-- The pieces' widths. -/
def widths : List ℕ := [256, 256, 512, 128, 128, 256, 256, 256, 256, 24, 104, 64, 64, 64, 64, 64]

theorem widths_eq : ((pieces W).map (·.1)).map (fun s => if h : s.rank = S1024x2752.rank then s.size ((1 : Fin S1024x2752.rank).cast h.symm) else 0) = widths := by
  unfold pieces widths
  simp only [List.map_cons, List.map_nil]
  repeat' (first | exact rfl | refine congr (congrArg List.cons ?_) ?_)

theorem piece_at (k : Fin 1024) (j : Fin 2752) (i : ℕ) (hi : i < (pieces W).length) (w : ℕ) (x : (⟨2, ![1024, w]⟩ : Shape).Idx → EReal)
    (hx : (pieces W)[i] = ⟨⟨2, ![1024, w]⟩, x⟩) (pre : ℕ) (hpre : (widths.take i).sum = pre) (hj : pre ≤ j.val ∧ j.val < pre + w) :
    wide19 W (ix2 k j) = x (ix2 k ⟨j.val - pre, by omega⟩) := by
  unfold wide19
  exact concatenate_apply_piece (t := S1024x2752) 1 (pieces W) concatenates_S1024x256_S1024x256_S1024x512_S1024x128_S1024x128_S1024x256_S1024x256_S1024x256_S1024x256_S1024x24_S1024x104_S1024x64_S1024x64_S1024x64_S1024x64_S1024x64_S1024x2752_d1 (ix2 k j) i hi _ x hx rfl pre
    (by rw [List.map_take, List.map_take, widths_eq]; exact hpre) _
    (fun b hb => by
      match b with
      | ⟨0, _⟩ => rfl
      | ⟨1, _⟩ => exact absurd rfl hb)
    (by show pre + (j.val - pre) = j.val; omega)

set_option maxHeartbeats 4000000 in
theorem wide19_at (k : Fin 1024) (j : Fin 2752) : wide19 W (ix2 k j) = wAt W k (src j.val) := by
  have hj := j.isLt
  rcases (by omega : (0 ≤ j.val ∧ j.val < 256) ∨ (256 ≤ j.val ∧ j.val < 512) ∨ (512 ≤ j.val ∧ j.val < 1024) ∨ (1024 ≤ j.val ∧ j.val < 1152) ∨ (1152 ≤ j.val ∧ j.val < 1280) ∨ (1280 ≤ j.val ∧ j.val < 1536) ∨ (1536 ≤ j.val ∧ j.val < 1792) ∨ (1792 ≤ j.val ∧ j.val < 2048) ∨ (2048 ≤ j.val ∧ j.val < 2304) ∨ (2304 ≤ j.val ∧ j.val < 2328) ∨ (2328 ≤ j.val ∧ j.val < 2432) ∨ (2432 ≤ j.val ∧ j.val < 2496) ∨ (2496 ≤ j.val ∧ j.val < 2560) ∨ (2560 ≤ j.val ∧ j.val < 2624) ∨ (2624 ≤ j.val ∧ j.val < 2688) ∨ (2688 ≤ j.val ∧ j.val < 2752)) with h | h | h | h | h | h | h | h | h | h | h | h | h | h | h | h
  · refine Eq.trans (piece_at W k j 0 (show 0 < (pieces W).length from (by decide : 0 < 16)) 256 (extractStridedSlice S1024x256 ![0, 0] W slices_S1024x2840_S1024x256_0_0) rfl 0 (by decide) h) ?_
    pointwise []
    exact wAt_of _ _ _ (by unfold src; split_ifs <;> omega)
  · refine Eq.trans (piece_at W k j 1 (show 1 < (pieces W).length from (by decide : 1 < 16)) 256 (extractStridedSlice S1024x256 ![0, 256] W slices_S1024x2840_S1024x256_0_256) rfl 256 (by decide) h) ?_
    pointwise []
    exact wAt_of _ _ _ (by unfold src; split_ifs <;> omega)
  · refine Eq.trans (piece_at W k j 2 (show 2 < (pieces W).length from (by decide : 2 < 16)) 512 (extractStridedSlice S1024x512 ![0, 512] W slices_S1024x2840_S1024x512_0_512) rfl 512 (by decide) h) ?_
    pointwise []
    exact wAt_of _ _ _ (by unfold src; split_ifs <;> omega)
  · refine Eq.trans (piece_at W k j 3 (show 3 < (pieces W).length from (by decide : 3 < 16)) 128 (extractStridedSlice S1024x128 ![0, 1024] W slices_S1024x2840_S1024x128_0_1024) rfl 1024 (by decide) h) ?_
    pointwise []
    exact wAt_of _ _ _ (by unfold src; split_ifs <;> omega)
  · refine Eq.trans (piece_at W k j 4 (show 4 < (pieces W).length from (by decide : 4 < 16)) 128 (extractStridedSlice S1024x128 ![0, 1152] W slices_S1024x2840_S1024x128_0_1152) rfl 1152 (by decide) h) ?_
    pointwise []
    exact wAt_of _ _ _ (by unfold src; split_ifs <;> omega)
  · refine Eq.trans (piece_at W k j 5 (show 5 < (pieces W).length from (by decide : 5 < 16)) 256 (extractStridedSlice S1024x256 ![0, 1816] W slices_S1024x2840_S1024x256_0_1816) rfl 1280 (by decide) h) ?_
    pointwise []
    exact wAt_of _ _ _ (by unfold src; split_ifs <;> omega)
  · refine Eq.trans (piece_at W k j 6 (show 6 < (pieces W).length from (by decide : 6 < 16)) 256 (extractStridedSlice S1024x256 ![0, 2072] W slices_S1024x2840_S1024x256_0_2072) rfl 1536 (by decide) h) ?_
    pointwise []
    exact wAt_of _ _ _ (by unfold src; split_ifs <;> omega)
  · refine Eq.trans (piece_at W k j 7 (show 7 < (pieces W).length from (by decide : 7 < 16)) 256 (extractStridedSlice S1024x256 ![0, 2328] W slices_S1024x2840_S1024x256_0_2328) rfl 1792 (by decide) h) ?_
    pointwise []
    exact wAt_of _ _ _ (by unfold src; split_ifs <;> omega)
  · refine Eq.trans (piece_at W k j 8 (show 8 < (pieces W).length from (by decide : 8 < 16)) 256 (extractStridedSlice S1024x256 ![0, 2584] W slices_S1024x2840_S1024x256_0_2584) rfl 2048 (by decide) h) ?_
    pointwise []
    exact wAt_of _ _ _ (by unfold src; split_ifs <;> omega)
  · refine Eq.trans (piece_at W k j 9 (show 9 < (pieces W).length from (by decide : 9 < 16)) 24 (extractStridedSlice S1024x24 ![0, 1792] W slices_S1024x2840_S1024x24_0_1792) rfl 2304 (by decide) h) ?_
    pointwise []
    exact wAt_of _ _ _ (by unfold src; split_ifs <;> omega)
  · refine Eq.trans (piece_at W k j 10 (show 10 < (pieces W).length from (by decide : 10 < 16)) 104 (broadcastInDim S1024x104 ![] bcast_S_S1024x104 (constant (F := Ideal) S_ .f32 0x00000000#32)) rfl 2328 (by decide) h) ?_
    pointwise []
    unfold wAt
    rw [dif_neg (by unfold src; split_ifs <;> omega)]
  · refine Eq.trans (piece_at W k j 11 (show 11 < (pieces W).length from (by decide : 11 < 16)) 64 (extractStridedSlice S1024x64 ![0, 0] (extractStridedSlice S1024x128 ![0, 1280] W slices_S1024x2840_S1024x128_0_1280) slices_S1024x128_S1024x64_0_0) rfl 2432 (by decide) h) ?_
    pointwise []
    exact wAt_of _ _ _ (by unfold src; split_ifs <;> omega)
  · refine Eq.trans (piece_at W k j 12 (show 12 < (pieces W).length from (by decide : 12 < 16)) 64 (extractStridedSlice S1024x64 ![0, 0] (extractStridedSlice S1024x128 ![0, 1280] W slices_S1024x2840_S1024x128_0_1280) slices_S1024x128_S1024x64_0_0) rfl 2496 (by decide) h) ?_
    pointwise []
    exact wAt_of _ _ _ (by unfold src; split_ifs <;> omega)
  · refine Eq.trans (piece_at W k j 13 (show 13 < (pieces W).length from (by decide : 13 < 16)) 64 (extractStridedSlice S1024x64 ![0, 64] (extractStridedSlice S1024x128 ![0, 1280] W slices_S1024x2840_S1024x128_0_1280) slices_S1024x128_S1024x64_0_64) rfl 2560 (by decide) h) ?_
    pointwise []
    exact wAt_of _ _ _ (by unfold src; split_ifs <;> omega)
  · refine Eq.trans (piece_at W k j 14 (show 14 < (pieces W).length from (by decide : 14 < 16)) 64 (extractStridedSlice S1024x64 ![0, 64] (extractStridedSlice S1024x128 ![0, 1280] W slices_S1024x2840_S1024x128_0_1280) slices_S1024x128_S1024x64_0_64) rfl 2624 (by decide) h) ?_
    pointwise []
    exact wAt_of _ _ _ (by unfold src; split_ifs <;> omega)
  · refine Eq.trans (piece_at W k j 15 (show 15 < (pieces W).length from (by decide : 15 < 16)) 64 (extractStridedSlice S1024x64 ![0, 0] (extractStridedSlice S1024x128 ![0, 1536] W slices_S1024x2840_S1024x128_0_1536) slices_S1024x128_S1024x64_0_0) rfl 2688 (by decide) h) ?_
    pointwise []
    exact wAt_of _ _ _ (by unfold src; split_ifs <;> omega)

theorem wide_at (k : Fin 1024) (j : Fin 2944) : wide W (ix2 k j) = wAt W k (src j.val) := by
  pointwise [wide]
  split
  · exact wide19_at W k _
  · refine (wide20_at W k _).trans (congrArg (fun n => wAt W k (src n)) ?_)
    show 2752 + (j.val - 2752) = j.val
    omega

end

theorem V_wide : (V m c main_v24 : Vec Ideal S1024x2944 .bf16) = wide (aW m c) := by
  unfold V
  after_results_simp <;> (try dsimp only [Matrix.cons_val]) <;> (try after_results_simp) <;> rfl

theorem V_w (k : Fin 1024) (j : Fin 2944) : (V m c main_v24 : Vec Ideal S1024x2944 .bf16) (ix2 k j) = wAt (aW m c) k (src j.val) :=
  (congrFun (V_wide m c) _).trans (wide_at _ k j)

end Cert.Kernel2Ideal.Hand

end
-- ==== Proof.InBlocks.lean ====
module

public import proofs.«01_k».proof.Proof.Gen.Kernel2Ideal.Frame
public import Idealize.ShloMosaic.Lib.Pointwise
public import Idealize.ShloMosaic.Lib.VecWindow

@[expose] public section

set_option maxHeartbeats 1000000

noncomputable section

namespace Cert.Kernel2Ideal.Hand
open Cert.Kernel2Ideal Cert.Kernel2Ideal.Gen
open Idealize.ShloMosaic Idealize.ShloMosaic.TcCoe

/-! ## The blocks a point writes, of the blocks it reads -/

theorem up4 {h w : ℕ} (x : (⟨4, ![1, 1, h, w]⟩ : Shape).Idx) : ∃ (r : Fin h) (j : Fin w), x = ix4 0 0 r j :=
  ⟨x 2, x 3, funext fun a => by
    match a with
    | ⟨0, _⟩ => exact Fin.eq_zero (x 0)
    | ⟨1, _⟩ => exact Fin.eq_zero (x 1)
    | ⟨2, _⟩ => rfl
    | ⟨3, _⟩ => rfl⟩

theorem up5 {h w : ℕ} (x : (⟨5, ![1, 1, 1, h, w]⟩ : Shape).Idx) : ∃ (r : Fin h) (j : Fin w), x = ix5 0 0 0 r j :=
  ⟨x 3, x 4, funext fun a => by
    match a with
    | ⟨0, _⟩ => exact Fin.eq_zero (x 0)
    | ⟨1, _⟩ => exact Fin.eq_zero (x 1)
    | ⟨2, _⟩ => exact Fin.eq_zero (x 2)
    | ⟨3, _⟩ => rfl
    | ⟨4, _⟩ => rfl⟩

section
variable (i : grid0.Coords) (x0 : Vec Ideal S512x1024 .f32) (x1 : Vec Ideal S1024x2944 .bf16) (x2 : Vec Ideal S256x1024 .bf16)

/-- Row `r` of the block against column `j` of the widened weights; -/
def prod (r j : ℕ) : EReal := if h : r < 512 ∧ j < 2944 then ∑ k : Fin 1024, x0 (ix2 ⟨r, h.1⟩ k) * x1 (ix2 k ⟨j, h.2⟩) else 0
/-- row `j` of the values' weights against row `r` of the block; -/
def prodT (j r : ℕ) : EReal := if h : j < 256 ∧ r < 512 then ∑ k : Fin 1024, x2 (ix2 ⟨j, h.1⟩ k) * x0 (ix2 ⟨r, h.2⟩ k) else 0
/-- whether row `r` of the block lies in the sequence's group `j` of 64; -/
def hot (r j : ℕ) : EReal := if (512 * (i 1).val + r) / 64 = j then 1 else 0
/-- the row of ones under the values, zeros under it. -/
def ones (e : ℕ) : EReal := if e = 64 then 1 else 0

theorem prod_at (r : Fin 512) (j : Fin 2944) : k0_pay4 (F := Ideal) x0 x1 (ix2 r j) = prod x0 x1 r.val j.val := by
  unfold prod
  rw [dif_pos ⟨r.isLt, j.isLt⟩]
  pointwise [k0_pay4, k0_pay3]

theorem prodT_at (j : Fin 256) (r : Fin 512) : k0_pay13 (F := Ideal) (k0_pay3 x0) x2 (ix2 j r) = prodT x0 x2 j.val r.val := by
  unfold prodT
  rw [dif_pos ⟨j.isLt, r.isLt⟩]
  pointwise [k0_pay13, k0_pay3]

theorem select_eq (a b : BitVec 32) (u v : EReal) : Scalar.select (IntOp.cmpi CmpIPredicate.eq a b) u v = if a = b then u else v := by
  unfold Scalar.select IntOp.cmpi
  by_cases h : a = b
  · simp [h]
  · have e : (a == b) = false := by simpa using h
    simp [e, h]

theorem hot_at (r : Fin 512) (j : Fin 128) : k0_pay6 (F := Ideal) i (ix2 r j) = hot i r.val j.val := by
  have hi : (i 1).val < 16 := (i 1).isLt
  have hr := r.isLt
  have hj := j.isLt
  pointwise [k0_pay6]
  rw [select_eq]
  unfold hot
  refine if_congr ?_ rfl rfl
  rw [← BitVec.toNat_inj]
  have e : (IntOp.shrui ArithUnit.vector (IntOp.addi (Scalar.muli (BitVec.ofNat 32 (i 1).val) 512#32) (BitVec.ofNat 32 r.val)) 6#32).toNat
      = (512 * (i 1).val + r.val) / 64 := by
    simp [IntOp.shrui, IntOp.addi, Scalar.muli, IntOp.muli, BitVec.toNat_ushiftRight, BitVec.toNat_add, BitVec.toNat_mul, Nat.shiftRight_eq_div_pow]
    omega
  rw [e, BitVec.toNat_ofNat, Nat.mod_eq_of_lt (by omega)]

theorem tail_at {w : ℕ} (r : Fin 16) : (Scalar.select (IntOp.cmpi CmpIPredicate.eq (BitVec.ofNat 32 r.val) 0#32) 1 0 : EReal) = ones (64 + r.val) := by
  have hr := r.isLt
  rw [select_eq]
  unfold ones
  refine if_congr ?_ rfl rfl
  rw [← BitVec.toNat_inj, BitVec.toNat_ofNat, Nat.mod_eq_of_lt (by omega)]
  show r.val = 0 ↔ _
  omega

theorem tail512_at (r : Fin 16) (j : Fin 512) : k0_pay14 (F := Ideal) (ix2 r j) = ones (64 + r.val) := by
  pointwise [k0_pay14]
  exact tail_at (w := 512) r

theorem tail128_at (r : Fin 16) (j : Fin 128) : k0_pay15 (F := Ideal) (ix2 r j) = ones (64 + r.val) := by
  pointwise [k0_pay15]
  exact tail_at (w := 128) r

/-- The columns' block, -/
def blk3 : Vec Ideal S512x2432 .f32 := fun y => prod x0 x1 (y 0).val (y 1).val
/-- the keys' with their groups, -/
def blk4 : Vec Ideal S1x2x512x256 .bf16 := fun y =>
  if (y 3).val < 128 then prod x0 x1 (y 2).val (2432 + 128 * (y 1).val + (y 3).val) else hot i (y 2).val ((y 3).val - 128)
/-- the window's keys, -/
def blk5 : Vec Ideal S1x2x512x128 .bf16 := fun y => prod x0 x1 (y 2).val (2688 + 128 * (y 1).val + (y 3).val)
/-- the values, -/
def blk6 : Vec Ideal S1x2x1x80x512 .bf16 := fun y =>
  if (y 3).val < 64 then prodT x0 x2 (64 * (y 1).val + (y 3).val) (y 4).val else ones (y 3).val
/-- the window's. -/
def blk7 : Vec Ideal S1x2x4x80x128 .bf16 := fun y =>
  if (y 3).val < 64 then prodT x0 x2 (128 + 64 * (y 1).val + (y 3).val) (128 * (y 2).val + (y 4).val) else ones (y 3).val

theorem k11 (x : (Rect.unit (s := S1x2x512x256) ![0, 1, 0, 128] ![1, 1, 512, 128] inb_S1x2x512x256_S1x1x512x128_0_1_0_128).shape.Idx) :
    k0_pay11 (F := Ideal) (k0_pay6 (F := Ideal) i) x = blk4 i x0 x1 ((Rect.unit (s := S1x2x512x256) ![0, 1, 0, 128] ![1, 1, 512, 128] inb_S1x2x512x256_S1x1x512x128_0_1_0_128).emb x) := by
  obtain ⟨r, j, rfl⟩ := up4 (h := 512) (w := 128) x
  have hr := r.isLt
  have hj := j.isLt
  refine Eq.trans (b := hot i r.val j.val) ?_ ?_
  · pointwise [k0_pay11]
    exact hot_at i r j
  · show _ = if 128 + 1 * j.val < 128 then prod x0 x1 (0 + 1 * r.val) (2432 + 128 * (1 + 1 * 0) + (128 + 1 * j.val)) else hot i (0 + 1 * r.val) (128 + 1 * j.val - 128)
    rw [if_neg (by omega)]
    exact congrArg₂ (hot i) (by omega) (by omega)

theorem k10 (x : (Rect.unit (s := S1x2x512x256) ![0, 1, 0, 0] ![1, 1, 512, 128] inb_S1x2x512x256_S1x1x512x128_0_1_0_0).shape.Idx) :
    k0_pay10 (F := Ideal) (k0_pay4 (F := Ideal) x0 x1) x = blk4 i x0 x1 ((Rect.unit (s := S1x2x512x256) ![0, 1, 0, 0] ![1, 1, 512, 128] inb_S1x2x512x256_S1x1x512x128_0_1_0_0).emb x) := by
  obtain ⟨r, j, rfl⟩ := up4 (h := 512) (w := 128) x
  have hr := r.isLt
  have hj := j.isLt
  refine Eq.trans (b := prod x0 x1 r.val (2560 + j.val)) ?_ ?_
  · pointwise [k0_pay10]
    exact prod_at x0 x1 r _
  · show _ = if 0 + 1 * j.val < 128 then prod x0 x1 (0 + 1 * r.val) (2432 + 128 * (1 + 1 * 0) + (0 + 1 * j.val)) else hot i (0 + 1 * r.val) (0 + 1 * j.val - 128)
    rw [if_pos (by omega)]
    exact congrArg₂ (prod x0 x1) (by omega) (by omega)

theorem k8 (x : (Rect.unit (s := S1x2x512x256) ![0, 0, 0, 128] ![1, 1, 512, 128] inb_S1x2x512x256_S1x1x512x128_0_0_0_128).shape.Idx) :
    k0_pay8 (F := Ideal) i x = blk4 i x0 x1 ((Rect.unit (s := S1x2x512x256) ![0, 0, 0, 128] ![1, 1, 512, 128] inb_S1x2x512x256_S1x1x512x128_0_0_0_128).emb x) := by
  obtain ⟨r, j, rfl⟩ := up4 (h := 512) (w := 128) x
  have hr := r.isLt
  have hj := j.isLt
  refine Eq.trans (b := hot i r.val j.val) ?_ ?_
  · pointwise [k0_pay8]
    exact hot_at i r j
  · show _ = if 128 + 1 * j.val < 128 then prod x0 x1 (0 + 1 * r.val) (2432 + 128 * (0 + 1 * 0) + (128 + 1 * j.val)) else hot i (0 + 1 * r.val) (128 + 1 * j.val - 128)
    rw [if_neg (by omega)]
    exact congrArg₂ (hot i) (by omega) (by omega)

theorem k7 (x : (Rect.unit (s := S1x2x512x256) ![0, 0, 0, 0] ![1, 1, 512, 128] inb_S1x2x512x256_S1x1x512x128_0_0_0_0).shape.Idx) :
    k0_pay7 (F := Ideal) x0 x1 x = blk4 i x0 x1 ((Rect.unit (s := S1x2x512x256) ![0, 0, 0, 0] ![1, 1, 512, 128] inb_S1x2x512x256_S1x1x512x128_0_0_0_0).emb x) := by
  obtain ⟨r, j, rfl⟩ := up4 (h := 512) (w := 128) x
  have hr := r.isLt
  have hj := j.isLt
  refine Eq.trans (b := prod x0 x1 r.val (2432 + j.val)) ?_ ?_
  · pointwise [k0_pay7]
    exact prod_at x0 x1 r _
  · show _ = if 0 + 1 * j.val < 128 then prod x0 x1 (0 + 1 * r.val) (2432 + 128 * (0 + 1 * 0) + (0 + 1 * j.val)) else hot i (0 + 1 * r.val) (0 + 1 * j.val - 128)
    rw [if_pos (by omega)]
    exact congrArg₂ (prod x0 x1) (by omega) (by omega)

theorem k12 (x : (Rect.unit (s := S1x2x512x128) ![0, 1, 0, 0] ![1, 1, 512, 128] inb_S1x2x512x128_S1x1x512x128_0_1_0_0).shape.Idx) :
    k0_pay12 (F := Ideal) (k0_pay4 (F := Ideal) x0 x1) x = blk5 x0 x1 ((Rect.unit (s := S1x2x512x128) ![0, 1, 0, 0] ![1, 1, 512, 128] inb_S1x2x512x128_S1x1x512x128_0_1_0_0).emb x) := by
  obtain ⟨r, j, rfl⟩ := up4 (h := 512) (w := 128) x
  have hr := r.isLt
  have hj := j.isLt
  refine Eq.trans (b := prod x0 x1 r.val (2816 + j.val)) ?_ ?_
  · pointwise [k0_pay12]
    exact prod_at x0 x1 r _
  · show _ = prod x0 x1 (0 + 1 * r.val) (2688 + 128 * (1 + 1 * 0) + (0 + 1 * j.val))
    exact congrArg₂ (prod x0 x1) (by omega) (by omega)

theorem k9 (x : (Rect.unit (s := S1x2x512x128) ![0, 0, 0, 0] ![1, 1, 512, 128] inb_S1x2x512x128_S1x1x512x128_0_0_0_0).shape.Idx) :
    k0_pay9 (F := Ideal) x0 x1 x = blk5 x0 x1 ((Rect.unit (s := S1x2x512x128) ![0, 0, 0, 0] ![1, 1, 512, 128] inb_S1x2x512x128_S1x1x512x128_0_0_0_0).emb x) := by
  obtain ⟨r, j, rfl⟩ := up4 (h := 512) (w := 128) x
  have hr := r.isLt
  have hj := j.isLt
  refine Eq.trans (b := prod x0 x1 r.val (2688 + j.val)) ?_ ?_
  · pointwise [k0_pay9]
    exact prod_at x0 x1 r _
  · show _ = prod x0 x1 (0 + 1 * r.val) (2688 + 128 * (0 + 1 * 0) + (0 + 1 * j.val))
    exact congrArg₂ (prod x0 x1) (by omega) (by omega)

theorem k29 (x : (Rect.unit (s := S1x2x1x80x512) ![0, 1, 0, 64, 0] ![1, 1, 1, 16, 512] inb_S1x2x1x80x512_S1x1x1x16x512_0_1_0_64_0).shape.Idx) :
    k0_pay29 (F := Ideal) (k0_pay14 (F := Ideal)) x = blk6 x0 x2 ((Rect.unit (s := S1x2x1x80x512) ![0, 1, 0, 64, 0] ![1, 1, 1, 16, 512] inb_S1x2x1x80x512_S1x1x1x16x512_0_1_0_64_0).emb x) := by
  obtain ⟨r, j, rfl⟩ := up5 (h := 16) (w := 512) x
  have hr := r.isLt
  have hj := j.isLt
  refine Eq.trans (b := ones (64 + r.val)) ?_ ?_
  · pointwise [k0_pay29]
    exact tail512_at r j
  · show _ = if 64 + 1 * r.val < 64 then prodT x0 x2 (64 * (1 + 1 * 0) + (64 + 1 * r.val)) (0 + 1 * j.val) else ones (64 + 1 * r.val)
    rw [if_neg (by omega)]
    exact congrArg ones (by omega)

theorem k28 (x : (Rect.unit (s := S1x2x1x80x512) ![0, 1, 0, 0, 0] ![1, 1, 1, 64, 512] inb_S1x2x1x80x512_S1x1x1x64x512_0_1_0_0_0).shape.Idx) :
    k0_pay28 (F := Ideal) (k0_pay13 (F := Ideal) (k0_pay3 x0) x2) x = blk6 x0 x2 ((Rect.unit (s := S1x2x1x80x512) ![0, 1, 0, 0, 0] ![1, 1, 1, 64, 512] inb_S1x2x1x80x512_S1x1x1x64x512_0_1_0_0_0).emb x) := by
  obtain ⟨r, j, rfl⟩ := up5 (h := 64) (w := 512) x
  have hr := r.isLt
  have hj := j.isLt
  refine Eq.trans (b := prodT x0 x2 (64 + r.val) j.val) ?_ ?_
  · pointwise [k0_pay28]
    exact prodT_at x0 x2 _ _
  · show _ = if 0 + 1 * r.val < 64 then prodT x0 x2 (64 * (1 + 1 * 0) + (0 + 1 * r.val)) (0 + 1 * j.val) else ones (0 + 1 * r.val)
    rw [if_pos (by omega)]
    exact congrArg₂ (prodT x0 x2) (by omega) (by omega)

theorem k18 (x : (Rect.unit (s := S1x2x1x80x512) ![0, 0, 0, 64, 0] ![1, 1, 1, 16, 512] inb_S1x2x1x80x512_S1x1x1x16x512_0_0_0_64_0).shape.Idx) :
    k0_pay18 (F := Ideal) (k0_pay14 (F := Ideal)) x = blk6 x0 x2 ((Rect.unit (s := S1x2x1x80x512) ![0, 0, 0, 64, 0] ![1, 1, 1, 16, 512] inb_S1x2x1x80x512_S1x1x1x16x512_0_0_0_64_0).emb x) := by
  obtain ⟨r, j, rfl⟩ := up5 (h := 16) (w := 512) x
  have hr := r.isLt
  have hj := j.isLt
  refine Eq.trans (b := ones (64 + r.val)) ?_ ?_
  · pointwise [k0_pay18]
    exact tail512_at r j
  · show _ = if 64 + 1 * r.val < 64 then prodT x0 x2 (64 * (0 + 1 * 0) + (64 + 1 * r.val)) (0 + 1 * j.val) else ones (64 + 1 * r.val)
    rw [if_neg (by omega)]
    exact congrArg ones (by omega)

theorem k17 (x : (Rect.unit (s := S1x2x1x80x512) ![0, 0, 0, 0, 0] ![1, 1, 1, 64, 512] inb_S1x2x1x80x512_S1x1x1x64x512_0_0_0_0_0).shape.Idx) :
    k0_pay17 (F := Ideal) (k0_pay16 (F := Ideal) (k0_pay3 x0) x2) x = blk6 x0 x2 ((Rect.unit (s := S1x2x1x80x512) ![0, 0, 0, 0, 0] ![1, 1, 1, 64, 512] inb_S1x2x1x80x512_S1x1x1x64x512_0_0_0_0_0).emb x) := by
  obtain ⟨r, j, rfl⟩ := up5 (h := 64) (w := 512) x
  have hr := r.isLt
  have hj := j.isLt
  refine Eq.trans (b := prodT x0 x2 r.val j.val) ?_ ?_
  · pointwise [k0_pay17, k0_pay16]
    exact prodT_at x0 x2 _ _
  · show _ = if 0 + 1 * r.val < 64 then prodT x0 x2 (64 * (0 + 1 * 0) + (0 + 1 * r.val)) (0 + 1 * j.val) else ones (0 + 1 * r.val)
    rw [if_pos (by omega)]
    exact congrArg₂ (prodT x0 x2) (by omega) (by omega)

theorem k2 (x : (Rect.unit (s := S1x2x4x80x128) ![0, 1, 3, 64, 0] ![1, 1, 1, 16, 128] inb_S1x2x4x80x128_S1x1x1x16x128_0_1_3_64_0).shape.Idx) :
    k0_pay2 (F := Ideal) (k0_pay15 (F := Ideal)) x = blk7 x0 x2 ((Rect.unit (s := S1x2x4x80x128) ![0, 1, 3, 64, 0] ![1, 1, 1, 16, 128] inb_S1x2x4x80x128_S1x1x1x16x128_0_1_3_64_0).emb x) := by
  obtain ⟨r, j, rfl⟩ := up5 (h := 16) (w := 128) x
  have hr := r.isLt
  have hj := j.isLt
  refine Eq.trans (b := ones (64 + r.val)) ?_ ?_
  · pointwise [k0_pay2]
    exact tail128_at r j
  · show _ = if 64 + 1 * r.val < 64 then prodT x0 x2 (128 + 64 * (1 + 1 * 0) + (64 + 1 * r.val)) (128 * (3 + 1 * 0) + (0 + 1 * j.val)) else ones (64 + 1 * r.val)
    rw [if_neg (by omega)]
    exact congrArg ones (by omega)

theorem k1 (x : (Rect.unit (s := S1x2x4x80x128) ![0, 1, 3, 0, 0] ![1, 1, 1, 64, 128] inb_S1x2x4x80x128_S1x1x1x64x128_0_1_3_0_0).shape.Idx) :
    k0_pay1 (F := Ideal) (k0_pay37 (F := Ideal) (k0_pay13 (F := Ideal) (k0_pay3 x0) x2)) x = blk7 x0 x2 ((Rect.unit (s := S1x2x4x80x128) ![0, 1, 3, 0, 0] ![1, 1, 1, 64, 128] inb_S1x2x4x80x128_S1x1x1x64x128_0_1_3_0_0).emb x) := by
  obtain ⟨r, j, rfl⟩ := up5 (h := 64) (w := 128) x
  have hr := r.isLt
  have hj := j.isLt
  refine Eq.trans (b := prodT x0 x2 (192 + r.val) (384 + j.val)) ?_ ?_
  · pointwise [k0_pay1, k0_pay37]
    exact prodT_at x0 x2 _ _
  · show _ = if 0 + 1 * r.val < 64 then prodT x0 x2 (128 + 64 * (1 + 1 * 0) + (0 + 1 * r.val)) (128 * (3 + 1 * 0) + (0 + 1 * j.val)) else ones (0 + 1 * r.val)
    rw [if_pos (by omega)]
    exact congrArg₂ (prodT x0 x2) (by omega) (by omega)

theorem k36 (x : (Rect.unit (s := S1x2x4x80x128) ![0, 1, 2, 64, 0] ![1, 1, 1, 16, 128] inb_S1x2x4x80x128_S1x1x1x16x128_0_1_2_64_0).shape.Idx) :
    k0_pay36 (F := Ideal) (k0_pay15 (F := Ideal)) x = blk7 x0 x2 ((Rect.unit (s := S1x2x4x80x128) ![0, 1, 2, 64, 0] ![1, 1, 1, 16, 128] inb_S1x2x4x80x128_S1x1x1x16x128_0_1_2_64_0).emb x) := by
  obtain ⟨r, j, rfl⟩ := up5 (h := 16) (w := 128) x
  have hr := r.isLt
  have hj := j.isLt
  refine Eq.trans (b := ones (64 + r.val)) ?_ ?_
  · pointwise [k0_pay36]
    exact tail128_at r j
  · show _ = if 64 + 1 * r.val < 64 then prodT x0 x2 (128 + 64 * (1 + 1 * 0) + (64 + 1 * r.val)) (128 * (2 + 1 * 0) + (0 + 1 * j.val)) else ones (64 + 1 * r.val)
    rw [if_neg (by omega)]
    exact congrArg ones (by omega)

theorem k35 (x : (Rect.unit (s := S1x2x4x80x128) ![0, 1, 2, 0, 0] ![1, 1, 1, 64, 128] inb_S1x2x4x80x128_S1x1x1x64x128_0_1_2_0_0).shape.Idx) :
    k0_pay35 (F := Ideal) (k0_pay13 (F := Ideal) (k0_pay3 x0) x2) x = blk7 x0 x2 ((Rect.unit (s := S1x2x4x80x128) ![0, 1, 2, 0, 0] ![1, 1, 1, 64, 128] inb_S1x2x4x80x128_S1x1x1x64x128_0_1_2_0_0).emb x) := by
  obtain ⟨r, j, rfl⟩ := up5 (h := 64) (w := 128) x
  have hr := r.isLt
  have hj := j.isLt
  refine Eq.trans (b := prodT x0 x2 (192 + r.val) (256 + j.val)) ?_ ?_
  · pointwise [k0_pay35]
    exact prodT_at x0 x2 _ _
  · show _ = if 0 + 1 * r.val < 64 then prodT x0 x2 (128 + 64 * (1 + 1 * 0) + (0 + 1 * r.val)) (128 * (2 + 1 * 0) + (0 + 1 * j.val)) else ones (0 + 1 * r.val)
    rw [if_pos (by omega)]
    exact congrArg₂ (prodT x0 x2) (by omega) (by omega)

theorem k34 (x : (Rect.unit (s := S1x2x4x80x128) ![0, 1, 1, 64, 0] ![1, 1, 1, 16, 128] inb_S1x2x4x80x128_S1x1x1x16x128_0_1_1_64_0).shape.Idx) :
    k0_pay34 (F := Ideal) (k0_pay15 (F := Ideal)) x = blk7 x0 x2 ((Rect.unit (s := S1x2x4x80x128) ![0, 1, 1, 64, 0] ![1, 1, 1, 16, 128] inb_S1x2x4x80x128_S1x1x1x16x128_0_1_1_64_0).emb x) := by
  obtain ⟨r, j, rfl⟩ := up5 (h := 16) (w := 128) x
  have hr := r.isLt
  have hj := j.isLt
  refine Eq.trans (b := ones (64 + r.val)) ?_ ?_
  · pointwise [k0_pay34]
    exact tail128_at r j
  · show _ = if 64 + 1 * r.val < 64 then prodT x0 x2 (128 + 64 * (1 + 1 * 0) + (64 + 1 * r.val)) (128 * (1 + 1 * 0) + (0 + 1 * j.val)) else ones (64 + 1 * r.val)
    rw [if_neg (by omega)]
    exact congrArg ones (by omega)

theorem k33 (x : (Rect.unit (s := S1x2x4x80x128) ![0, 1, 1, 0, 0] ![1, 1, 1, 64, 128] inb_S1x2x4x80x128_S1x1x1x64x128_0_1_1_0_0).shape.Idx) :
    k0_pay33 (F := Ideal) (k0_pay13 (F := Ideal) (k0_pay3 x0) x2) x = blk7 x0 x2 ((Rect.unit (s := S1x2x4x80x128) ![0, 1, 1, 0, 0] ![1, 1, 1, 64, 128] inb_S1x2x4x80x128_S1x1x1x64x128_0_1_1_0_0).emb x) := by
  obtain ⟨r, j, rfl⟩ := up5 (h := 64) (w := 128) x
  have hr := r.isLt
  have hj := j.isLt
  refine Eq.trans (b := prodT x0 x2 (192 + r.val) (128 + j.val)) ?_ ?_
  · pointwise [k0_pay33]
    exact prodT_at x0 x2 _ _
  · show _ = if 0 + 1 * r.val < 64 then prodT x0 x2 (128 + 64 * (1 + 1 * 0) + (0 + 1 * r.val)) (128 * (1 + 1 * 0) + (0 + 1 * j.val)) else ones (0 + 1 * r.val)
    rw [if_pos (by omega)]
    exact congrArg₂ (prodT x0 x2) (by omega) (by omega)

theorem k32 (x : (Rect.unit (s := S1x2x4x80x128) ![0, 1, 0, 64, 0] ![1, 1, 1, 16, 128] inb_S1x2x4x80x128_S1x1x1x16x128_0_1_0_64_0).shape.Idx) :
    k0_pay32 (F := Ideal) (k0_pay15 (F := Ideal)) x = blk7 x0 x2 ((Rect.unit (s := S1x2x4x80x128) ![0, 1, 0, 64, 0] ![1, 1, 1, 16, 128] inb_S1x2x4x80x128_S1x1x1x16x128_0_1_0_64_0).emb x) := by
  obtain ⟨r, j, rfl⟩ := up5 (h := 16) (w := 128) x
  have hr := r.isLt
  have hj := j.isLt
  refine Eq.trans (b := ones (64 + r.val)) ?_ ?_
  · pointwise [k0_pay32]
    exact tail128_at r j
  · show _ = if 64 + 1 * r.val < 64 then prodT x0 x2 (128 + 64 * (1 + 1 * 0) + (64 + 1 * r.val)) (128 * (0 + 1 * 0) + (0 + 1 * j.val)) else ones (64 + 1 * r.val)
    rw [if_neg (by omega)]
    exact congrArg ones (by omega)

theorem k31 (x : (Rect.unit (s := S1x2x4x80x128) ![0, 1, 0, 0, 0] ![1, 1, 1, 64, 128] inb_S1x2x4x80x128_S1x1x1x64x128_0_1_0_0_0).shape.Idx) :
    k0_pay31 (F := Ideal) (k0_pay30 (F := Ideal) (k0_pay13 (F := Ideal) (k0_pay3 x0) x2)) x = blk7 x0 x2 ((Rect.unit (s := S1x2x4x80x128) ![0, 1, 0, 0, 0] ![1, 1, 1, 64, 128] inb_S1x2x4x80x128_S1x1x1x64x128_0_1_0_0_0).emb x) := by
  obtain ⟨r, j, rfl⟩ := up5 (h := 64) (w := 128) x
  have hr := r.isLt
  have hj := j.isLt
  refine Eq.trans (b := prodT x0 x2 (192 + r.val) (j.val)) ?_ ?_
  · pointwise [k0_pay31, k0_pay30]
    exact prodT_at x0 x2 _ _
  · show _ = if 0 + 1 * r.val < 64 then prodT x0 x2 (128 + 64 * (1 + 1 * 0) + (0 + 1 * r.val)) (128 * (0 + 1 * 0) + (0 + 1 * j.val)) else ones (0 + 1 * r.val)
    rw [if_pos (by omega)]
    exact congrArg₂ (prodT x0 x2) (by omega) (by omega)

theorem k27 (x : (Rect.unit (s := S1x2x4x80x128) ![0, 0, 3, 64, 0] ![1, 1, 1, 16, 128] inb_S1x2x4x80x128_S1x1x1x16x128_0_0_3_64_0).shape.Idx) :
    k0_pay27 (F := Ideal) (k0_pay15 (F := Ideal)) x = blk7 x0 x2 ((Rect.unit (s := S1x2x4x80x128) ![0, 0, 3, 64, 0] ![1, 1, 1, 16, 128] inb_S1x2x4x80x128_S1x1x1x16x128_0_0_3_64_0).emb x) := by
  obtain ⟨r, j, rfl⟩ := up5 (h := 16) (w := 128) x
  have hr := r.isLt
  have hj := j.isLt
  refine Eq.trans (b := ones (64 + r.val)) ?_ ?_
  · pointwise [k0_pay27]
    exact tail128_at r j
  · show _ = if 64 + 1 * r.val < 64 then prodT x0 x2 (128 + 64 * (0 + 1 * 0) + (64 + 1 * r.val)) (128 * (3 + 1 * 0) + (0 + 1 * j.val)) else ones (64 + 1 * r.val)
    rw [if_neg (by omega)]
    exact congrArg ones (by omega)

theorem k26 (x : (Rect.unit (s := S1x2x4x80x128) ![0, 0, 3, 0, 0] ![1, 1, 1, 64, 128] inb_S1x2x4x80x128_S1x1x1x64x128_0_0_3_0_0).shape.Idx) :
    k0_pay26 (F := Ideal) (k0_pay13 (F := Ideal) (k0_pay3 x0) x2) x = blk7 x0 x2 ((Rect.unit (s := S1x2x4x80x128) ![0, 0, 3, 0, 0] ![1, 1, 1, 64, 128] inb_S1x2x4x80x128_S1x1x1x64x128_0_0_3_0_0).emb x) := by
  obtain ⟨r, j, rfl⟩ := up5 (h := 64) (w := 128) x
  have hr := r.isLt
  have hj := j.isLt
  refine Eq.trans (b := prodT x0 x2 (128 + r.val) (384 + j.val)) ?_ ?_
  · pointwise [k0_pay26]
    exact prodT_at x0 x2 _ _
  · show _ = if 0 + 1 * r.val < 64 then prodT x0 x2 (128 + 64 * (0 + 1 * 0) + (0 + 1 * r.val)) (128 * (3 + 1 * 0) + (0 + 1 * j.val)) else ones (0 + 1 * r.val)
    rw [if_pos (by omega)]
    exact congrArg₂ (prodT x0 x2) (by omega) (by omega)

theorem k25 (x : (Rect.unit (s := S1x2x4x80x128) ![0, 0, 2, 64, 0] ![1, 1, 1, 16, 128] inb_S1x2x4x80x128_S1x1x1x16x128_0_0_2_64_0).shape.Idx) :
    k0_pay25 (F := Ideal) (k0_pay15 (F := Ideal)) x = blk7 x0 x2 ((Rect.unit (s := S1x2x4x80x128) ![0, 0, 2, 64, 0] ![1, 1, 1, 16, 128] inb_S1x2x4x80x128_S1x1x1x16x128_0_0_2_64_0).emb x) := by
  obtain ⟨r, j, rfl⟩ := up5 (h := 16) (w := 128) x
  have hr := r.isLt
  have hj := j.isLt
  refine Eq.trans (b := ones (64 + r.val)) ?_ ?_
  · pointwise [k0_pay25]
    exact tail128_at r j
  · show _ = if 64 + 1 * r.val < 64 then prodT x0 x2 (128 + 64 * (0 + 1 * 0) + (64 + 1 * r.val)) (128 * (2 + 1 * 0) + (0 + 1 * j.val)) else ones (64 + 1 * r.val)
    rw [if_neg (by omega)]
    exact congrArg ones (by omega)

theorem k24 (x : (Rect.unit (s := S1x2x4x80x128) ![0, 0, 2, 0, 0] ![1, 1, 1, 64, 128] inb_S1x2x4x80x128_S1x1x1x64x128_0_0_2_0_0).shape.Idx) :
    k0_pay24 (F := Ideal) (k0_pay23 (F := Ideal) (k0_pay13 (F := Ideal) (k0_pay3 x0) x2)) x = blk7 x0 x2 ((Rect.unit (s := S1x2x4x80x128) ![0, 0, 2, 0, 0] ![1, 1, 1, 64, 128] inb_S1x2x4x80x128_S1x1x1x64x128_0_0_2_0_0).emb x) := by
  obtain ⟨r, j, rfl⟩ := up5 (h := 64) (w := 128) x
  have hr := r.isLt
  have hj := j.isLt
  refine Eq.trans (b := prodT x0 x2 (128 + r.val) (256 + j.val)) ?_ ?_
  · pointwise [k0_pay24, k0_pay23]
    exact prodT_at x0 x2 _ _
  · show _ = if 0 + 1 * r.val < 64 then prodT x0 x2 (128 + 64 * (0 + 1 * 0) + (0 + 1 * r.val)) (128 * (2 + 1 * 0) + (0 + 1 * j.val)) else ones (0 + 1 * r.val)
    rw [if_pos (by omega)]
    exact congrArg₂ (prodT x0 x2) (by omega) (by omega)

theorem k22 (x : (Rect.unit (s := S1x2x4x80x128) ![0, 0, 1, 64, 0] ![1, 1, 1, 16, 128] inb_S1x2x4x80x128_S1x1x1x16x128_0_0_1_64_0).shape.Idx) :
    k0_pay22 (F := Ideal) (k0_pay15 (F := Ideal)) x = blk7 x0 x2 ((Rect.unit (s := S1x2x4x80x128) ![0, 0, 1, 64, 0] ![1, 1, 1, 16, 128] inb_S1x2x4x80x128_S1x1x1x16x128_0_0_1_64_0).emb x) := by
  obtain ⟨r, j, rfl⟩ := up5 (h := 16) (w := 128) x
  have hr := r.isLt
  have hj := j.isLt
  refine Eq.trans (b := ones (64 + r.val)) ?_ ?_
  · pointwise [k0_pay22]
    exact tail128_at r j
  · show _ = if 64 + 1 * r.val < 64 then prodT x0 x2 (128 + 64 * (0 + 1 * 0) + (64 + 1 * r.val)) (128 * (1 + 1 * 0) + (0 + 1 * j.val)) else ones (64 + 1 * r.val)
    rw [if_neg (by omega)]
    exact congrArg ones (by omega)

theorem k21 (x : (Rect.unit (s := S1x2x4x80x128) ![0, 0, 1, 0, 0] ![1, 1, 1, 64, 128] inb_S1x2x4x80x128_S1x1x1x64x128_0_0_1_0_0).shape.Idx) :
    k0_pay21 (F := Ideal) (k0_pay13 (F := Ideal) (k0_pay3 x0) x2) x = blk7 x0 x2 ((Rect.unit (s := S1x2x4x80x128) ![0, 0, 1, 0, 0] ![1, 1, 1, 64, 128] inb_S1x2x4x80x128_S1x1x1x64x128_0_0_1_0_0).emb x) := by
  obtain ⟨r, j, rfl⟩ := up5 (h := 64) (w := 128) x
  have hr := r.isLt
  have hj := j.isLt
  refine Eq.trans (b := prodT x0 x2 (128 + r.val) (128 + j.val)) ?_ ?_
  · pointwise [k0_pay21]
    exact prodT_at x0 x2 _ _
  · show _ = if 0 + 1 * r.val < 64 then prodT x0 x2 (128 + 64 * (0 + 1 * 0) + (0 + 1 * r.val)) (128 * (1 + 1 * 0) + (0 + 1 * j.val)) else ones (0 + 1 * r.val)
    rw [if_pos (by omega)]
    exact congrArg₂ (prodT x0 x2) (by omega) (by omega)

theorem k20 (x : (Rect.unit (s := S1x2x4x80x128) ![0, 0, 0, 64, 0] ![1, 1, 1, 16, 128] inb_S1x2x4x80x128_S1x1x1x16x128_0_0_0_64_0).shape.Idx) :
    k0_pay20 (F := Ideal) (k0_pay15 (F := Ideal)) x = blk7 x0 x2 ((Rect.unit (s := S1x2x4x80x128) ![0, 0, 0, 64, 0] ![1, 1, 1, 16, 128] inb_S1x2x4x80x128_S1x1x1x16x128_0_0_0_64_0).emb x) := by
  obtain ⟨r, j, rfl⟩ := up5 (h := 16) (w := 128) x
  have hr := r.isLt
  have hj := j.isLt
  refine Eq.trans (b := ones (64 + r.val)) ?_ ?_
  · pointwise [k0_pay20]
    exact tail128_at r j
  · show _ = if 64 + 1 * r.val < 64 then prodT x0 x2 (128 + 64 * (0 + 1 * 0) + (64 + 1 * r.val)) (128 * (0 + 1 * 0) + (0 + 1 * j.val)) else ones (64 + 1 * r.val)
    rw [if_neg (by omega)]
    exact congrArg ones (by omega)

theorem k19 (x : (Rect.unit (s := S1x2x4x80x128) ![0, 0, 0, 0, 0] ![1, 1, 1, 64, 128] inb_S1x2x4x80x128_S1x1x1x64x128_0_0_0_0_0).shape.Idx) :
    k0_pay19 (F := Ideal) (k0_pay13 (F := Ideal) (k0_pay3 x0) x2) x = blk7 x0 x2 ((Rect.unit (s := S1x2x4x80x128) ![0, 0, 0, 0, 0] ![1, 1, 1, 64, 128] inb_S1x2x4x80x128_S1x1x1x64x128_0_0_0_0_0).emb x) := by
  obtain ⟨r, j, rfl⟩ := up5 (h := 64) (w := 128) x
  have hr := r.isLt
  have hj := j.isLt
  refine Eq.trans (b := prodT x0 x2 (128 + r.val) (j.val)) ?_ ?_
  · pointwise [k0_pay19]
    exact prodT_at x0 x2 _ _
  · show _ = if 0 + 1 * r.val < 64 then prodT x0 x2 (128 + 64 * (0 + 1 * 0) + (0 + 1 * r.val)) (128 * (0 + 1 * 0) + (0 + 1 * j.val)) else ones (0 + 1 * r.val)
    rw [if_pos (by omega)]
    exact congrArg₂ (prodT x0 x2) (by omega) (by omega)

theorem k5 (x : S512x2432.Idx) : k0_pay5 (F := Ideal) x0 x1 x = blk3 x0 x1 x := by
  obtain ⟨r, j, rfl⟩ : ∃ (r : Fin 512) (j : Fin 2432), x = ix2 r j := ⟨_, _, eq_ix2 x⟩
  pointwise [k0_pay5]
  exact prod_at x0 x1 r _

end

section
variable {F : FTy → Type} [FloatOps F]

theorem read0 (arg2 : Memref sig .tc .vmem S512x1024 .f32) (harg2 : arg2.IsWhole) (inb) (x0 : Vec F S512x1024 .f32) :
    View.readAt (Elt F) arg2.view (Rect.unit (s := S512x1024) ![0, 0] ![512, 1024] inb).toLoadRect (harg2.unread x0) = x0 :=
  (View.readAt_full arg2.view _ inb).trans (harg2.read_unread x0)
theorem read1 (arg3 : Memref sig .tc .vmem S1024x2944 .bf16) (harg3 : arg3.IsWhole) (inb) (x1 : Vec F S1024x2944 .bf16) :
    View.readAt (Elt F) arg3.view (Rect.unit (s := S1024x2944) ![0, 0] ![1024, 2944] inb).toLoadRect (harg3.unread x1) = x1 :=
  (View.readAt_full arg3.view _ inb).trans (harg3.read_unread x1)
theorem read2 (arg4 : Memref sig .tc .vmem S256x1024 .bf16) (harg4 : arg4.IsWhole) (inb) (x2 : Vec F S256x1024 .bf16) :
    View.readAt (Elt F) arg4.view (Rect.unit (s := S256x1024) ![0, 0] ![256, 1024] inb).toLoadRect (harg4.unread x2) = x2 :=
  (View.readAt_full arg4.view _ inb).trans (harg4.read_unread x2)

end

section
variable (c : Dev nD) (i : grid0.Coords) (arg2 : Memref sig .tc .vmem S512x1024 .f32) (harg2 : arg2.IsWhole) (arg3 : Memref sig .tc .vmem S1024x2944 .bf16) (harg3 : arg3.IsWhole) (arg4 : Memref sig .tc .vmem S256x1024 .bf16) (harg4 : arg4.IsWhole) (arg5 : Memref sig .tc .vmem S512x2432 .f32) (harg5 : arg5.IsWhole) (arg6 : Memref sig .tc .vmem S1x2x512x256 .bf16) (harg6 : arg6.IsWhole) (arg7 : Memref sig .tc .vmem S1x2x512x128 .bf16) (harg7 : arg7.IsWhole) (arg8 : Memref sig .tc .vmem S1x2x1x80x512 .bf16) (harg8 : arg8.IsWhole) (arg9 : Memref sig .tc .vmem S1x2x4x80x128 .bf16) (harg9 : arg9.IsWhole)
  (x0 : Vec Ideal S512x1024 .f32) (x1 : Vec Ideal S1024x2944 .bf16) (x2 : Vec Ideal S256x1024 .bf16)

theorem load1 : kernelRun0_A.sl.r_1 (F := Ideal) c arg2 harg2 arg3 harg3 x0 x1 = k0_pay4 x0 x1 := by
  unfold kernelRun0_A.sl.r_1
  exact congrArg₂ (k0_pay4 (F := Ideal)) (read0 _ _ _ _) (read1 _ _ _ _)
theorem load2 : kernelRun0_A.sl.r_2 (F := Ideal) c arg2 harg2 arg3 harg3 x0 x1 = k0_pay9 x0 x1 := by
  unfold kernelRun0_A.sl.r_2
  exact congrArg₂ (k0_pay9 (F := Ideal)) (read0 _ _ _ _) (read1 _ _ _ _)
theorem load0 : kernelRun0_A.sl.r (F := Ideal) c arg2 harg2 x0 = k0_pay3 x0 := by
  unfold kernelRun0_A.sl.r
  exact congrArg (k0_pay3 (F := Ideal)) (read0 _ _ _ _)
theorem load3 : kernelRun0_A.sl.r_3 (F := Ideal) c arg2 harg2 arg4 harg4 x0 x2 = k0_pay13 (k0_pay3 x0) x2 := by
  unfold kernelRun0_A.sl.r_3
  exact congrArg₂ (k0_pay13 (F := Ideal)) (load0 _ _ _ _) (read2 _ _ _ _)
theorem load4 : kernelRun0_A.sl.r_4 (F := Ideal) c arg2 harg2 arg4 harg4 x0 x2 = k0_pay16 (k0_pay3 x0) x2 := by
  unfold kernelRun0_A.sl.r_4
  exact congrArg₂ (k0_pay16 (F := Ideal)) (load0 _ _ _ _) (read2 _ _ _ _)

theorem out3_eq : out0_A_3 (F := Ideal) c i arg2 harg2 arg3 harg3 arg4 harg4 arg5 harg5 arg6 harg6 arg7 harg7 arg8 harg8 arg9 harg9 x0 x1 x2 = blk3 x0 x1 := by
  unfold out0_A_3
  funext y
  refine View.read_writes_apply_of_pieces _ _ (blk3 x0 x1) _ ?_ y (cover0_A_3 c i arg2 harg2 arg3 harg3 arg4 harg4 arg5 harg5 arg6 harg6 arg7 harg7 arg8 harg8 arg9 harg9 x0 x1 x2 y)
  unfold kernelRun0_A
  dsimp only
  simp only [List.forall_mem_cons, read0, read1]
  refine ⟨fun x => (k5 x0 x1 x).trans (congrArg (blk3 x0 x1) (funext fun a => Fin.ext ?_)), fun _ h => absurd h List.not_mem_nil⟩
  match a with
  | ⟨0, _⟩ => show (x 0).val = 0 + 1 * (x 0).val; omega
  | ⟨1, _⟩ => show (x 1).val = 0 + 1 * (x 1).val; omega

theorem load5 : kernelRun0_A.sl.r_5 (F := Ideal) c arg2 harg2 arg4 harg4 x0 x2 = k0_pay23 (k0_pay13 (k0_pay3 x0) x2) := by
  unfold kernelRun0_A.sl.r_5
  rw [load3]
theorem load6 : kernelRun0_A.sl.r_6 (F := Ideal) c arg2 harg2 arg4 harg4 x0 x2 = k0_pay30 (k0_pay13 (k0_pay3 x0) x2) := by
  unfold kernelRun0_A.sl.r_6
  rw [load3]
theorem load7 : kernelRun0_A.sl.r_7 (F := Ideal) c arg2 harg2 arg4 harg4 x0 x2 = k0_pay37 (k0_pay13 (k0_pay3 x0) x2) := by
  unfold kernelRun0_A.sl.r_7
  rw [load3]

theorem out4_eq : out0_A_4 (F := Ideal) c i arg2 harg2 arg3 harg3 arg4 harg4 arg5 harg5 arg6 harg6 arg7 harg7 arg8 harg8 arg9 harg9 x0 x1 x2 = blk4 i x0 x1 := by
  unfold out0_A_4
  funext y
  refine View.read_writes_apply_of_pieces _ _ (blk4 i x0 x1) _ ?_ y (cover0_A_4 c i arg2 harg2 arg3 harg3 arg4 harg4 arg5 harg5 arg6 harg6 arg7 harg7 arg8 harg8 arg9 harg9 x0 x1 x2 y)
  unfold kernelRun0_A
  dsimp only
  simp only [List.forall_mem_cons, read0, read1, load1]
  exact ⟨k11 i x0 x1, k10 i x0 x1, k8 i x0 x1, k7 i x0 x1, fun _ h => absurd h List.not_mem_nil⟩

theorem out5_eq : out0_A_5 (F := Ideal) c i arg2 harg2 arg3 harg3 arg4 harg4 arg5 harg5 arg6 harg6 arg7 harg7 arg8 harg8 arg9 harg9 x0 x1 x2 = blk5 x0 x1 := by
  unfold out0_A_5
  funext y
  refine View.read_writes_apply_of_pieces _ _ (blk5 x0 x1) _ ?_ y (cover0_A_5 c i arg2 harg2 arg3 harg3 arg4 harg4 arg5 harg5 arg6 harg6 arg7 harg7 arg8 harg8 arg9 harg9 x0 x1 x2 y)
  unfold kernelRun0_A
  dsimp only
  simp only [List.forall_mem_cons, load1, load2]
  exact ⟨k12 x0 x1, k9 x0 x1, fun _ h => absurd h List.not_mem_nil⟩

theorem out6_eq : out0_A_6 (F := Ideal) c i arg2 harg2 arg3 harg3 arg4 harg4 arg5 harg5 arg6 harg6 arg7 harg7 arg8 harg8 arg9 harg9 x0 x1 x2 = blk6 x0 x2 := by
  unfold out0_A_6
  funext y
  refine View.read_writes_apply_of_pieces _ _ (blk6 x0 x2) _ ?_ y (cover0_A_6 c i arg2 harg2 arg3 harg3 arg4 harg4 arg5 harg5 arg6 harg6 arg7 harg7 arg8 harg8 arg9 harg9 x0 x1 x2 y)
  unfold kernelRun0_A
  dsimp only
  simp only [List.forall_mem_cons, load3, load4]
  exact ⟨k29 x0 x2, k28 x0 x2, k18 x0 x2, k17 x0 x2, fun _ h => absurd h List.not_mem_nil⟩

theorem out7_eq : out0_A_7 (F := Ideal) c i arg2 harg2 arg3 harg3 arg4 harg4 arg5 harg5 arg6 harg6 arg7 harg7 arg8 harg8 arg9 harg9 x0 x1 x2 = blk7 x0 x2 := by
  unfold out0_A_7
  funext y
  refine View.read_writes_apply_of_pieces _ _ (blk7 x0 x2) _ ?_ y (cover0_A_7 c i arg2 harg2 arg3 harg3 arg4 harg4 arg5 harg5 arg6 harg6 arg7 harg7 arg8 harg8 arg9 harg9 x0 x1 x2 y)
  unfold kernelRun0_A
  dsimp only
  simp only [List.forall_mem_cons, load3, load5, load6, load7]
  exact ⟨k2 x0 x2, k1 x0 x2, k36 x0 x2, k35 x0 x2, k34 x0 x2, k33 x0 x2, k32 x0 x2, k31 x0 x2, k27 x0 x2, k26 x0 x2, k25 x0 x2, k24 x0 x2, k22 x0 x2, k21 x0 x2, k20 x0 x2, k19 x0 x2, fun _ h => absurd h List.not_mem_nil⟩

end

end Cert.Kernel2Ideal.Hand

end
-- ==== Proof.InWhole.lean ====
module

public import proofs.«01_k».proof.Proof.InWeights
public import proofs.«01_k».proof.Proof.InBlocks

@[expose] public section

set_option maxHeartbeats 1000000

noncomputable section

namespace Cert.Kernel2Ideal.Hand
open Cert.Kernel2Ideal Cert.Kernel2Ideal.Gen
open Idealize.ShloMosaic Idealize.ShloMosaic.TcCoe

/-! ## The projection's arrays, of the rows and the weights -/

section
variable (X : Vec Ideal S16384x1024 .f32) (W : Vec Ideal S1024x2840 .f32)

/-- Row `n` against column `j` of the weights; past their last column, zero. -/
def col (n j : ℕ) : EReal := if h : n < 16384 ∧ j < 2840 then ∑ k : Fin 1024, X (ix2 ⟨n, h.1⟩ k) * W (ix2 k ⟨j, h.2⟩) else 0

theorem sum_wAt (n : ℕ) (hn : n < 16384) (j : ℕ) : ∑ k : Fin 1024, X (ix2 ⟨n, hn⟩ k) * wAt W k j = col X W n j := by
  unfold col wAt
  by_cases h : j < 2840
  · rw [dif_pos ⟨hn, h⟩]
    exact Finset.sum_congr rfl fun k _ => by rw [dif_pos h]
  · rw [dif_neg (fun hh => h hh.2)]
    exact Finset.sum_eq_zero fun k _ => by rw [dif_neg h, mul_zero]

/-- The columns in the order the kernel keeps them, -/
def arr3 : Vec Ideal S16384x2432 .f32 := fun y => col X W (y 0).val (src (y 1).val)
/-- the keys twice over and each row's group, -/
def arr4 : Vec Ideal S2x2x8192x256 .bf16 := fun y =>
  if (y 3).val < 128 then col X W (8192 * (y 0).val + (y 2).val) (src (2432 + 128 * (y 1).val + (y 3).val))
  else if (y 2).val / 64 = (y 3).val - 128 then 1 else 0
/-- the window's keys twice over, -/
def arr5 : Vec Ideal S2x2x8192x128 .bf16 := fun y =>
  col X W (8192 * (y 0).val + (y 2).val) (src (2688 + 128 * (y 1).val + (y 3).val))
/-- the values by tiles of 512 over a row of ones, -/
def arr6 : Vec Ideal S2x2x16x80x512 .bf16 := fun y =>
  if (y 3).val < 64 then col X W (8192 * (y 0).val + 512 * (y 2).val + (y 4).val) (srcT (64 * (y 1).val + (y 3).val)) else ones (y 3).val
/-- the window's by tiles of 128. -/
def arr7 : Vec Ideal S2x2x64x80x128 .bf16 := fun y =>
  if (y 3).val < 64 then col X W (8192 * (y 0).val + 128 * (y 2).val + (y 4).val) (srcT (128 + 64 * (y 1).val + (y 3).val)) else ones (y 3).val

end

variable (m : (ℓ : Loc nD τ sig) → Buf (Elt Ideal) ℓ) (c : Dev nD)

/-! ## What the windows read -/

theorem idx0 : ∀ t : Fin grid0.N, win0_0.index t 0 = t.val ∧ win0_0.index t 1 = 0 := by decide
theorem idx1 : ∀ t : Fin grid0.N, win0_1.index t 0 = 0 ∧ win0_1.index t 1 = 0 := by decide
theorem idx2 : ∀ t : Fin grid0.N, win0_2.index t 0 = 0 ∧ win0_2.index t 1 = 0 := by decide
theorem idx3 : ∀ t : Fin grid0.N, win0_3.index t 0 = t.val ∧ win0_3.index t 1 = 0 := by decide
theorem idx4 : ∀ t : Fin grid0.N, win0_4.index t 0 = t.val / 16 ∧ win0_4.index t 1 = 0 ∧ win0_4.index t 2 = t.val % 16 ∧ win0_4.index t 3 = 0 := by decide
theorem idx5 : ∀ t : Fin grid0.N, win0_5.index t 0 = t.val / 16 ∧ win0_5.index t 1 = 0 ∧ win0_5.index t 2 = t.val % 16 ∧ win0_5.index t 3 = 0 := by decide
theorem idx6 : ∀ t : Fin grid0.N, win0_6.index t 0 = t.val / 16 ∧ win0_6.index t 1 = 0 ∧ win0_6.index t 2 = t.val % 16 ∧ win0_6.index t 3 = 0 ∧ win0_6.index t 4 = 0 := by decide
theorem idx7 : ∀ t : Fin grid0.N, win0_7.index t 0 = t.val / 16 ∧ win0_7.index t 1 = 0 ∧ win0_7.index t 2 = t.val % 16 ∧ win0_7.index t 3 = 0 ∧ win0_7.index t 4 = 0 := by decide
theorem step_at : ∀ t : Fin grid0.N, (grid0.coords t 1).val = t.val % 16 := by decide

theorem lt32 (t : Fin cfg0.N) : t.val < 32 := lt_of_lt_of_eq t.isLt N_0

/-- The rows a point reads, -/
abbrev b0 (t : Fin cfg0.N) : Vec Ideal S512x1024 .f32 := iblk m c 0 t
/-- the weights, -/
abbrev b1 (t : Fin cfg0.N) : Vec Ideal S1024x2944 .bf16 := iblk m c 1 t
/-- the values'. -/
abbrev b2 (t : Fin cfg0.N) : Vec Ideal S256x1024 .bf16 := iblk m c 2 t

theorem b0_at (t : Fin cfg0.N) (r : Fin 512) (k : Fin 1024) :
    b0 m c t (ix2 r k) = aX m c (ix2 ⟨512 * t.val + r.val, by have := lt32 t; have := r.isLt; omega⟩ k) := by
  have hi := idx0 t
  refine (show b0 m c t (ix2 r k) = (V m c main_arg0 : Vec Ideal S16384x1024 .f32) (ix2 ⟨512 * t.val + r.val, by have := lt32 t; have := r.isLt; omega⟩ k) from ?_).trans
    (congrFun (V_main_arg0 m c) _)
  refine congrArg (V m c main_arg0) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

theorem b1_at (t : Fin cfg0.N) (k : Fin 1024) (j : Fin 2944) : b1 m c t (ix2 k j) = wAt (aW m c) k (src j.val) := by
  have hi := idx1 t
  refine (show b1 m c t (ix2 k j) = (V m c main_v24 : Vec Ideal S1024x2944 .bf16) (ix2 k j) from ?_).trans (V_w m c k j)
  refine congrArg (V m c main_v24) (funext fun a => Fin.ext ?_)
  match a with
  | ⟨0, _⟩ => show win0_1.index t 0 * 1024 + 1 * k.val = k.val; rw [hi.1]; omega
  | ⟨1, _⟩ => show win0_1.index t 1 * 2944 + 1 * j.val = j.val; rw [hi.2]; omega

theorem b2_at (t : Fin cfg0.N) (j : Fin 256) (k : Fin 1024) : b2 m c t (ix2 j k) = wAt (aW m c) k (srcT j.val) := by
  have hi := idx2 t
  refine (show b2 m c t (ix2 j k) = (V m c main_v25 : Vec Ideal S256x1024 .bf16) (ix2 j k) from ?_).trans (V_vt m c j k)
  refine congrArg (V m c main_v25) (funext fun a => Fin.ext ?_)
  match a with
  | ⟨0, _⟩ => show win0_2.index t 0 * 256 + 1 * j.val = j.val; rw [hi.1]; omega
  | ⟨1, _⟩ => show win0_2.index t 1 * 1024 + 1 * k.val = k.val; rw [hi.2]; omega

theorem prod_eq (t : Fin cfg0.N) (r j n j' : ℕ) (hr : r < 512) (hj : j < 2944) (hn : n = 512 * t.val + r) (e : j' = j) :
    prod (b0 m c t) (b1 m c t) r j = col (aX m c) (aW m c) n (src j') := by
  subst hn e
  have ht := lt32 t
  unfold prod
  rw [dif_pos ⟨hr, hj⟩, ← sum_wAt (aX m c) (aW m c) _ (by omega)]
  exact Finset.sum_congr rfl fun k _ => by rw [b0_at, b1_at]

theorem prodT_eq (t : Fin cfg0.N) (j r n j' : ℕ) (hj : j < 256) (hr : r < 512) (hn : n = 512 * t.val + r) (e : j' = j) :
    prodT (b0 m c t) (b2 m c t) j r = col (aX m c) (aW m c) n (srcT j') := by
  subst hn e
  have ht := lt32 t
  unfold prodT
  rw [dif_pos ⟨hj, hr⟩, ← sum_wAt (aX m c) (aW m c) _ (by omega)]
  exact Finset.sum_congr rfl fun k _ => by rw [b0_at, b2_at, mul_comm]

/-! ## What a point writes -/

theorem blk3_at (t : Fin cfg0.N) (y : S512x2432.Idx) (z : S16384x2432.Idx) (h0 : (z 0).val = 512 * t.val + (y 0).val) (h1 : (z 1).val = (y 1).val) :
    blk3 (b0 m c t) (b1 m c t) y = arr3 (aX m c) (aW m c) z := by
  have q0 : (y 0).val < 512 := (y 0).isLt
  have q1 : (y 1).val < 2432 := (y 1).isLt
  exact prod_eq m c t _ _ _ _ q0 (by omega) h0 h1

theorem blk4_at (t : Fin cfg0.N) (y : S1x2x512x256.Idx) (z : S2x2x8192x256.Idx) (h0 : (z 0).val = t.val / 16) (h1 : (z 1).val = (y 1).val)
    (h2 : (z 2).val = 512 * (t.val % 16) + (y 2).val) (h3 : (z 3).val = (y 3).val) :
    blk4 (grid0.coords t) (b0 m c t) (b1 m c t) y = arr4 (aX m c) (aW m c) z := by
  have q1 : (y 1).val < 2 := (y 1).isLt
  have q2 : (y 2).val < 512 := (y 2).isLt
  have q3 : (y 3).val < 256 := (y 3).isLt
  have hs := step_at t
  unfold blk4 arr4
  by_cases h : (y 3).val < 128
  · rw [if_pos h, if_pos (by omega)]
    exact prod_eq m c t _ _ _ _ q2 (by omega) (by omega) (by omega)
  · rw [if_neg h, if_neg (by omega)]
    unfold hot
    exact if_congr (by rw [hs]; omega) rfl rfl

theorem blk5_at (t : Fin cfg0.N) (y : S1x2x512x128.Idx) (z : S2x2x8192x128.Idx) (h0 : (z 0).val = t.val / 16) (h1 : (z 1).val = (y 1).val)
    (h2 : (z 2).val = 512 * (t.val % 16) + (y 2).val) (h3 : (z 3).val = (y 3).val) :
    blk5 (b0 m c t) (b1 m c t) y = arr5 (aX m c) (aW m c) z := by
  have q1 : (y 1).val < 2 := (y 1).isLt
  have q2 : (y 2).val < 512 := (y 2).isLt
  have q3 : (y 3).val < 128 := (y 3).isLt
  exact prod_eq m c t _ _ _ _ q2 (by omega) (by omega) (by omega)

theorem blk6_at (t : Fin cfg0.N) (y : S1x2x1x80x512.Idx) (z : S2x2x16x80x512.Idx) (h0 : (z 0).val = t.val / 16) (h1 : (z 1).val = (y 1).val)
    (h2 : (z 2).val = t.val % 16) (h3 : (z 3).val = (y 3).val) (h4 : (z 4).val = (y 4).val) :
    blk6 (b0 m c t) (b2 m c t) y = arr6 (aX m c) (aW m c) z := by
  have q1 : (y 1).val < 2 := (y 1).isLt
  have q3 : (y 3).val < 80 := (y 3).isLt
  have q4 : (y 4).val < 512 := (y 4).isLt
  unfold blk6 arr6
  by_cases h : (y 3).val < 64
  · rw [if_pos h, if_pos (by omega)]
    exact prodT_eq m c t _ _ _ _ (by omega) q4 (by omega) (by omega)
  · rw [if_neg h, if_neg (by omega), h3]

theorem blk7_at (t : Fin cfg0.N) (y : S1x2x4x80x128.Idx) (z : S2x2x64x80x128.Idx) (h0 : (z 0).val = t.val / 16) (h1 : (z 1).val = (y 1).val)
    (h2 : (z 2).val = 4 * (t.val % 16) + (y 2).val) (h3 : (z 3).val = (y 3).val) (h4 : (z 4).val = (y 4).val) :
    blk7 (b0 m c t) (b2 m c t) y = arr7 (aX m c) (aW m c) z := by
  have q1 : (y 1).val < 2 := (y 1).isLt
  have q2 : (y 2).val < 4 := (y 2).isLt
  have q3 : (y 3).val < 80 := (y 3).isLt
  have q4 : (y 4).val < 128 := (y 4).isLt
  unfold blk7 arr7
  by_cases h : (y 3).val < 64
  · rw [if_pos h, if_pos (by omega)]
    exact prodT_eq m c t _ _ _ _ (by omega) (by omega) (by omega) (by omega)
  · rw [if_neg h, if_neg (by omega), h3]

/-! ## The arrays -/

theorem final3 : (dats m 0 c).arrAt 3 cfg0.N = arr3 (aX m c) (aW m c) := by
  refine (dats m 0 c).arrAt_eq_of_cover 3 _ (fun t _ => ?_) fun i => ?_
  · rw [Value.flushed3_A, out3_eq]
    have hi := idx3 t
    funext y
    refine (show _ = blk3 (b0 m c t) (b1 m c t) (fun a => ⟨(y a).val, (y a).isLt⟩) from congrArg (blk3 (b0 m c t) (b1 m c t)) (funext fun a => Fin.ext rfl)).trans ?_
    refine blk3_at m c t _ _
      (by show win0_3.index t 0 * 512 + 1 * (y 0).val = 512 * t.val + (y 0).val; rw [hi.1]; omega)
      (by show win0_3.index t 1 * 2432 + 1 * (y 1).val = (y 1).val; rw [hi.2]; omega)
  · have h0 : (i 0).val < 16384 := (i 0).isLt
    have h1 : (i 1).val < 2432 := (i 1).isLt
    obtain ⟨t, ht⟩ : ∃ t : Fin cfg0.N, t.val = (i 0).val / 512 := ⟨⟨(i 0).val / 512, by have : cfg0.N = 32 := N_0; omega⟩, rfl⟩
    refine ⟨t, flush0_3 t, ?_⟩
    have hi := idx3 t
    have key : (show S16384x2432.Idx from i) ∈ ((View.whole main_v26_0).slice (win0_3.rect t)).set := by
      rw [View.set_slice_whole, Rect.mem_set_unit]
      intro a
      match a with
      | ⟨0, _⟩ => show win0_3.index t 0 * 512 ≤ (i 0).val ∧ (i 0).val < win0_3.index t 0 * 512 + 512; rw [hi.1]; omega
      | ⟨1, _⟩ => show win0_3.index t 1 * 2432 ≤ (i 1).val ∧ (i 1).val < win0_3.index t 1 * 2432 + 2432; rw [hi.2]; omega
    exact key

theorem final4 : (dats m 0 c).arrAt 4 cfg0.N = arr4 (aX m c) (aW m c) := by
  refine (dats m 0 c).arrAt_eq_of_cover 4 _ (fun t _ => ?_) fun i => ?_
  · rw [Value.flushed4_A, out4_eq]
    have hi := idx4 t
    funext y
    refine (show _ = blk4 (grid0.coords t) (b0 m c t) (b1 m c t) (fun a => ⟨(y a).val, (y a).isLt⟩) from congrArg (blk4 (grid0.coords t) (b0 m c t) (b1 m c t)) (funext fun a => Fin.ext rfl)).trans ?_
    refine blk4_at m c t _ _
      (by have q : (y 0).val < 1 := (y 0).isLt; show win0_4.index t 0 * 1 + 1 * (y 0).val = t.val / 16; rw [hi.1]; omega)
      (by show win0_4.index t 1 * 2 + 1 * (y 1).val = (y 1).val; rw [hi.2.1]; omega)
      (by show win0_4.index t 2 * 512 + 1 * (y 2).val = 512 * (t.val % 16) + (y 2).val; rw [hi.2.2.1]; omega)
      (by show win0_4.index t 3 * 256 + 1 * (y 3).val = (y 3).val; rw [hi.2.2.2]; omega)
  · have h0 : (i 0).val < 2 := (i 0).isLt
    have h1 : (i 1).val < 2 := (i 1).isLt
    have h2 : (i 2).val < 8192 := (i 2).isLt
    have h3 : (i 3).val < 256 := (i 3).isLt
    obtain ⟨t, ht⟩ : ∃ t : Fin cfg0.N, t.val = 16 * (i 0).val + (i 2).val / 512 := ⟨⟨16 * (i 0).val + (i 2).val / 512, by have : cfg0.N = 32 := N_0; omega⟩, rfl⟩
    refine ⟨t, flush0_4 t, ?_⟩
    have hi := idx4 t
    have key : (show S2x2x8192x256.Idx from i) ∈ ((View.whole main_v26_1).slice (win0_4.rect t)).set := by
      rw [View.set_slice_whole, Rect.mem_set_unit]
      intro a
      match a with
      | ⟨0, _⟩ => show win0_4.index t 0 * 1 ≤ (i 0).val ∧ (i 0).val < win0_4.index t 0 * 1 + 1; rw [hi.1]; omega
      | ⟨1, _⟩ => show win0_4.index t 1 * 2 ≤ (i 1).val ∧ (i 1).val < win0_4.index t 1 * 2 + 2; rw [hi.2.1]; omega
      | ⟨2, _⟩ => show win0_4.index t 2 * 512 ≤ (i 2).val ∧ (i 2).val < win0_4.index t 2 * 512 + 512; rw [hi.2.2.1]; omega
      | ⟨3, _⟩ => show win0_4.index t 3 * 256 ≤ (i 3).val ∧ (i 3).val < win0_4.index t 3 * 256 + 256; rw [hi.2.2.2]; omega
    exact key

theorem final5 : (dats m 0 c).arrAt 5 cfg0.N = arr5 (aX m c) (aW m c) := by
  refine (dats m 0 c).arrAt_eq_of_cover 5 _ (fun t _ => ?_) fun i => ?_
  · rw [Value.flushed5_A, out5_eq]
    have hi := idx5 t
    funext y
    refine (show _ = blk5 (b0 m c t) (b1 m c t) (fun a => ⟨(y a).val, (y a).isLt⟩) from congrArg (blk5 (b0 m c t) (b1 m c t)) (funext fun a => Fin.ext rfl)).trans ?_
    refine blk5_at m c t _ _
      (by have q : (y 0).val < 1 := (y 0).isLt; show win0_5.index t 0 * 1 + 1 * (y 0).val = t.val / 16; rw [hi.1]; omega)
      (by show win0_5.index t 1 * 2 + 1 * (y 1).val = (y 1).val; rw [hi.2.1]; omega)
      (by show win0_5.index t 2 * 512 + 1 * (y 2).val = 512 * (t.val % 16) + (y 2).val; rw [hi.2.2.1]; omega)
      (by show win0_5.index t 3 * 128 + 1 * (y 3).val = (y 3).val; rw [hi.2.2.2]; omega)
  · have h0 : (i 0).val < 2 := (i 0).isLt
    have h1 : (i 1).val < 2 := (i 1).isLt
    have h2 : (i 2).val < 8192 := (i 2).isLt
    have h3 : (i 3).val < 128 := (i 3).isLt
    obtain ⟨t, ht⟩ : ∃ t : Fin cfg0.N, t.val = 16 * (i 0).val + (i 2).val / 512 := ⟨⟨16 * (i 0).val + (i 2).val / 512, by have : cfg0.N = 32 := N_0; omega⟩, rfl⟩
    refine ⟨t, flush0_5 t, ?_⟩
    have hi := idx5 t
    have key : (show S2x2x8192x128.Idx from i) ∈ ((View.whole main_v26_2).slice (win0_5.rect t)).set := by
      rw [View.set_slice_whole, Rect.mem_set_unit]
      intro a
      match a with
      | ⟨0, _⟩ => show win0_5.index t 0 * 1 ≤ (i 0).val ∧ (i 0).val < win0_5.index t 0 * 1 + 1; rw [hi.1]; omega
      | ⟨1, _⟩ => show win0_5.index t 1 * 2 ≤ (i 1).val ∧ (i 1).val < win0_5.index t 1 * 2 + 2; rw [hi.2.1]; omega
      | ⟨2, _⟩ => show win0_5.index t 2 * 512 ≤ (i 2).val ∧ (i 2).val < win0_5.index t 2 * 512 + 512; rw [hi.2.2.1]; omega
      | ⟨3, _⟩ => show win0_5.index t 3 * 128 ≤ (i 3).val ∧ (i 3).val < win0_5.index t 3 * 128 + 128; rw [hi.2.2.2]; omega
    exact key

theorem final6 : (dats m 0 c).arrAt 6 cfg0.N = arr6 (aX m c) (aW m c) := by
  refine (dats m 0 c).arrAt_eq_of_cover 6 _ (fun t _ => ?_) fun i => ?_
  · rw [Value.flushed6_A, out6_eq]
    have hi := idx6 t
    funext y
    refine (show _ = blk6 (b0 m c t) (b2 m c t) (fun a => ⟨(y a).val, (y a).isLt⟩) from congrArg (blk6 (b0 m c t) (b2 m c t)) (funext fun a => Fin.ext rfl)).trans ?_
    refine blk6_at m c t _ _
      (by have q : (y 0).val < 1 := (y 0).isLt; show win0_6.index t 0 * 1 + 1 * (y 0).val = t.val / 16; rw [hi.1]; omega)
      (by show win0_6.index t 1 * 2 + 1 * (y 1).val = (y 1).val; rw [hi.2.1]; omega)
      (by have q : (y 2).val < 1 := (y 2).isLt; show win0_6.index t 2 * 1 + 1 * (y 2).val = t.val % 16; rw [hi.2.2.1]; omega)
      (by show win0_6.index t 3 * 80 + 1 * (y 3).val = (y 3).val; rw [hi.2.2.2.1]; omega)
      (by show win0_6.index t 4 * 512 + 1 * (y 4).val = (y 4).val; rw [hi.2.2.2.2]; omega)
  · have h0 : (i 0).val < 2 := (i 0).isLt
    have h1 : (i 1).val < 2 := (i 1).isLt
    have h2 : (i 2).val < 16 := (i 2).isLt
    have h3 : (i 3).val < 80 := (i 3).isLt
    have h4 : (i 4).val < 512 := (i 4).isLt
    obtain ⟨t, ht⟩ : ∃ t : Fin cfg0.N, t.val = 16 * (i 0).val + (i 2).val := ⟨⟨16 * (i 0).val + (i 2).val, by have : cfg0.N = 32 := N_0; omega⟩, rfl⟩
    refine ⟨t, flush0_6 t, ?_⟩
    have hi := idx6 t
    have key : (show S2x2x16x80x512.Idx from i) ∈ ((View.whole main_v26_3).slice (win0_6.rect t)).set := by
      rw [View.set_slice_whole, Rect.mem_set_unit]
      intro a
      match a with
      | ⟨0, _⟩ => show win0_6.index t 0 * 1 ≤ (i 0).val ∧ (i 0).val < win0_6.index t 0 * 1 + 1; rw [hi.1]; omega
      | ⟨1, _⟩ => show win0_6.index t 1 * 2 ≤ (i 1).val ∧ (i 1).val < win0_6.index t 1 * 2 + 2; rw [hi.2.1]; omega
      | ⟨2, _⟩ => show win0_6.index t 2 * 1 ≤ (i 2).val ∧ (i 2).val < win0_6.index t 2 * 1 + 1; rw [hi.2.2.1]; omega
      | ⟨3, _⟩ => show win0_6.index t 3 * 80 ≤ (i 3).val ∧ (i 3).val < win0_6.index t 3 * 80 + 80; rw [hi.2.2.2.1]; omega
      | ⟨4, _⟩ => show win0_6.index t 4 * 512 ≤ (i 4).val ∧ (i 4).val < win0_6.index t 4 * 512 + 512; rw [hi.2.2.2.2]; omega
    exact key

theorem final7 : (dats m 0 c).arrAt 7 cfg0.N = arr7 (aX m c) (aW m c) := by
  refine (dats m 0 c).arrAt_eq_of_cover 7 _ (fun t _ => ?_) fun i => ?_
  · rw [Value.flushed7_A, out7_eq]
    have hi := idx7 t
    funext y
    refine (show _ = blk7 (b0 m c t) (b2 m c t) (fun a => ⟨(y a).val, (y a).isLt⟩) from congrArg (blk7 (b0 m c t) (b2 m c t)) (funext fun a => Fin.ext rfl)).trans ?_
    refine blk7_at m c t _ _
      (by have q : (y 0).val < 1 := (y 0).isLt; show win0_7.index t 0 * 1 + 1 * (y 0).val = t.val / 16; rw [hi.1]; omega)
      (by show win0_7.index t 1 * 2 + 1 * (y 1).val = (y 1).val; rw [hi.2.1]; omega)
      (by show win0_7.index t 2 * 4 + 1 * (y 2).val = 4 * (t.val % 16) + (y 2).val; rw [hi.2.2.1]; omega)
      (by show win0_7.index t 3 * 80 + 1 * (y 3).val = (y 3).val; rw [hi.2.2.2.1]; omega)
      (by show win0_7.index t 4 * 128 + 1 * (y 4).val = (y 4).val; rw [hi.2.2.2.2]; omega)
  · have h0 : (i 0).val < 2 := (i 0).isLt
    have h1 : (i 1).val < 2 := (i 1).isLt
    have h2 : (i 2).val < 64 := (i 2).isLt
    have h3 : (i 3).val < 80 := (i 3).isLt
    have h4 : (i 4).val < 128 := (i 4).isLt
    obtain ⟨t, ht⟩ : ∃ t : Fin cfg0.N, t.val = 16 * (i 0).val + (i 2).val / 4 := ⟨⟨16 * (i 0).val + (i 2).val / 4, by have : cfg0.N = 32 := N_0; omega⟩, rfl⟩
    refine ⟨t, flush0_7 t, ?_⟩
    have hi := idx7 t
    have key : (show S2x2x64x80x128.Idx from i) ∈ ((View.whole main_v26_4).slice (win0_7.rect t)).set := by
      rw [View.set_slice_whole, Rect.mem_set_unit]
      intro a
      match a with
      | ⟨0, _⟩ => show win0_7.index t 0 * 1 ≤ (i 0).val ∧ (i 0).val < win0_7.index t 0 * 1 + 1; rw [hi.1]; omega
      | ⟨1, _⟩ => show win0_7.index t 1 * 2 ≤ (i 1).val ∧ (i 1).val < win0_7.index t 1 * 2 + 2; rw [hi.2.1]; omega
      | ⟨2, _⟩ => show win0_7.index t 2 * 4 ≤ (i 2).val ∧ (i 2).val < win0_7.index t 2 * 4 + 4; rw [hi.2.2.1]; omega
      | ⟨3, _⟩ => show win0_7.index t 3 * 80 ≤ (i 3).val ∧ (i 3).val < win0_7.index t 3 * 80 + 80; rw [hi.2.2.2.1]; omega
      | ⟨4, _⟩ => show win0_7.index t 4 * 128 ≤ (i 4).val ∧ (i 4).val < win0_7.index t 4 * 128 + 128; rw [hi.2.2.2.2]; omega
    exact key

end Cert.Kernel2Ideal.Hand

end
-- ==== Proof.InPlain.lean ====
module

public import proofs.«01_k».proof.Proof.Gen.Reference2Ideal.Run
public import proofs.«01_k».proof.Proof.InWhole
public import Idealize.ShloMosaic.Lib.Pointwise

@[expose] public section

set_option maxHeartbeats 1000000

noncomputable section

namespace Cert.Reference2Ideal.Plain
open Cert.Reference2Ideal Cert.Reference2Ideal.Gen
open Cert.Kernel2Ideal.Hand (src srcT ones col arr3 arr4 arr5 arr6 arr7)
open Idealize.ShloMosaic Idealize.ShloMosaic.TcCoe Idealize.SL.Sem Idealize.ShloMosaic.StableHlo

section
variable (X : Vec Ideal S16384x1024 .f32) (W : Vec Ideal S1024x2840 .f32)

/-- The projection, all its columns. -/
def hall : Vec Ideal S16384x2840 .f32 :=
  Host.dotGeneral (F := Ideal) (φ₁ := .f32) (φ₂ := .f32) dot_S16384x1024_S1024x2840_S16384x2840_1_0_0_1_n_n none X W

theorem hall_apply (n : Fin 16384) (j : Fin 2840) : hall X W (ix2 n j) = ∑ k : Fin 1024, X (ix2 n k) * W (ix2 k j) := by
  pointwise [hall]

theorem hall_of (a : Fin 16384) (b : Fin 2840) (n j : ℕ) (hn : n = a.val) (hj : j = b.val) : hall X W (ix2 a b) = col X W n j := by
  subst hn hj
  unfold col
  rw [dif_pos ⟨a.isLt, b.isLt⟩]
  exact hall_apply X W a b

theorem col_zero (n j : ℕ) (hj : 2840 ≤ j) : (0 : EReal) = col X W n j := by
  unfold col
  rw [dif_neg (by omega)]

def cols : Vec Ideal S16384x2432 .f32 :=
  (concatenate S16384x2432 1 [⟨S16384x256, ((extractStridedSlice S16384x256 ![0, 0] (hall X W) slices_S16384x2840_S16384x256_0_0) : (⟨S16384x256, .f32⟩ : BufTy).Contents (Elt Ideal))⟩, ⟨S16384x256, ((extractStridedSlice S16384x256 ![0, 256] (hall X W) slices_S16384x2840_S16384x256_0_256) : (⟨S16384x256, .f32⟩ : BufTy).Contents (Elt Ideal))⟩, ⟨S16384x512, ((extractStridedSlice S16384x512 ![0, 512] (hall X W) slices_S16384x2840_S16384x512_0_512) : (⟨S16384x512, .f32⟩ : BufTy).Contents (Elt Ideal))⟩, ⟨S16384x128, ((extractStridedSlice S16384x128 ![0, 1024] (hall X W) slices_S16384x2840_S16384x128_0_1024) : (⟨S16384x128, .f32⟩ : BufTy).Contents (Elt Ideal))⟩, ⟨S16384x128, ((extractStridedSlice S16384x128 ![0, 1152] (hall X W) slices_S16384x2840_S16384x128_0_1152) : (⟨S16384x128, .f32⟩ : BufTy).Contents (Elt Ideal))⟩, ⟨S16384x256, ((extractStridedSlice S16384x256 ![0, 1816] (hall X W) slices_S16384x2840_S16384x256_0_1816) : (⟨S16384x256, .f32⟩ : BufTy).Contents (Elt Ideal))⟩, ⟨S16384x256, ((extractStridedSlice S16384x256 ![0, 2072] (hall X W) slices_S16384x2840_S16384x256_0_2072) : (⟨S16384x256, .f32⟩ : BufTy).Contents (Elt Ideal))⟩, ⟨S16384x256, ((extractStridedSlice S16384x256 ![0, 2328] (hall X W) slices_S16384x2840_S16384x256_0_2328) : (⟨S16384x256, .f32⟩ : BufTy).Contents (Elt Ideal))⟩, ⟨S16384x256, ((extractStridedSlice S16384x256 ![0, 2584] (hall X W) slices_S16384x2840_S16384x256_0_2584) : (⟨S16384x256, .f32⟩ : BufTy).Contents (Elt Ideal))⟩, ⟨S16384x24, ((extractStridedSlice S16384x24 ![0, 1792] (hall X W) slices_S16384x2840_S16384x24_0_1792) : (⟨S16384x24, .f32⟩ : BufTy).Contents (Elt Ideal))⟩, ⟨S16384x104, ((broadcastInDim S16384x104 ![] bcast_S_S16384x104 (constant (F := Ideal) S_ .f32 0x00000000#32)) : (⟨S16384x104, .f32⟩ : BufTy).Contents (Elt Ideal))⟩] concatenates_S16384x256_S16384x256_S16384x512_S16384x128_S16384x128_S16384x256_S16384x256_S16384x256_S16384x256_S16384x24_S16384x104_S16384x2432_d1 : (⟨S16384x2432, .f32⟩ : BufTy).Contents (Elt Ideal))

def keys : Vec Ideal S2x2x8192x256 .bf16 :=
  truncf (F := Ideal) .bf16 ((concatenate S2x2x8192x256 3 [⟨S2x2x8192x64, ((transpose S2x2x8192x64 [0, 2, 1, 3] (shapeCast _ (extractStridedSlice S16384x128 ![0, 1280] (hall X W) slices_S16384x2840_S16384x128_0_1280) shapeCasts_S16384x128_S2x8192x2x64) transposes_S2x8192x2x64_S2x2x8192x64_0_2_1_3) : (⟨S2x2x8192x64, .f32⟩ : BufTy).Contents (Elt Ideal))⟩, ⟨S2x2x8192x64, ((transpose S2x2x8192x64 [0, 2, 1, 3] (shapeCast _ (extractStridedSlice S16384x128 ![0, 1280] (hall X W) slices_S16384x2840_S16384x128_0_1280) shapeCasts_S16384x128_S2x8192x2x64) transposes_S2x8192x2x64_S2x2x8192x64_0_2_1_3) : (⟨S2x2x8192x64, .f32⟩ : BufTy).Contents (Elt Ideal))⟩, ⟨S2x2x8192x128, ((shapeCast _ (broadcastInDim S2x2x128x64x128 ![2, 3, 4] bcast_S128x1x128_S2x2x128x64x128_2_3_4 (broadcastInDim S128x1x128 ![0, 2] bcast_S128x128_S128x1x128_0_2 (uitofp (F := Ideal) .f32 (cmpi .eq (addi (iotaInDim S128x128 32 0) (broadcastInDim S128x128 ![] bcast_S_S128x128 (constantI S_ 32 0#32))) (iotaInDim S128x128 32 1))))) shapeCasts_S2x2x128x64x128_S2x2x8192x128) : (⟨S2x2x8192x128, .f32⟩ : BufTy).Contents (Elt Ideal))⟩] concatenates_S2x2x8192x64_S2x2x8192x64_S2x2x8192x128_S2x2x8192x256_d3 : (⟨S2x2x8192x256, .f32⟩ : BufTy).Contents (Elt Ideal))) bitsLt_bf16_f32

def wkeys : Vec Ideal S2x2x8192x128 .bf16 :=
  truncf (F := Ideal) .bf16 (concatenate S2x2x8192x128 3 [⟨S2x2x8192x64, (transpose S2x2x8192x64 [0, 2, 1, 3] (shapeCast _ (extractStridedSlice S16384x128 ![0, 1536] (hall X W) slices_S16384x2840_S16384x128_0_1536) shapeCasts_S16384x128_S2x8192x2x64) transposes_S2x8192x2x64_S2x2x8192x64_0_2_1_3)⟩, ⟨S2x2x8192x64, (transpose S2x2x8192x64 [0, 2, 1, 3] (shapeCast _ (extractStridedSlice S16384x128 ![0, 1536] (hall X W) slices_S16384x2840_S16384x128_0_1536) shapeCasts_S16384x128_S2x8192x2x64) transposes_S2x8192x2x64_S2x2x8192x64_0_2_1_3)⟩] concatenates_S2x2x8192x64_S2x2x8192x64_S2x2x8192x128_d3) bitsLt_bf16_f32

def vals : Vec Ideal S2x2x16x80x512 .bf16 :=
  truncf (F := Ideal) .bf16 ((concatenate S2x2x16x80x512 3 [⟨S2x2x16x64x512, ((transpose S2x2x16x64x512 [0, 3, 1, 4, 2] (shapeCast _ (extractStridedSlice S16384x128 ![0, 1408] (hall X W) slices_S16384x2840_S16384x128_0_1408) shapeCasts_S16384x128_S2x16x512x2x64) transposes_S2x16x512x2x64_S2x2x16x64x512_0_3_1_4_2) : (⟨S2x2x16x64x512, .f32⟩ : BufTy).Contents (Elt Ideal))⟩, ⟨S2x2x16x1x512, ((broadcastInDim S2x2x16x1x512 ![] bcast_S_S2x2x16x1x512 (constant (F := Ideal) S_ .f32 0x3F800000#32)) : (⟨S2x2x16x1x512, .f32⟩ : BufTy).Contents (Elt Ideal))⟩, ⟨S2x2x16x15x512, ((broadcastInDim S2x2x16x15x512 ![] bcast_S_S2x2x16x15x512 (constant (F := Ideal) S_ .f32 0x00000000#32)) : (⟨S2x2x16x15x512, .f32⟩ : BufTy).Contents (Elt Ideal))⟩] concatenates_S2x2x16x64x512_S2x2x16x1x512_S2x2x16x15x512_S2x2x16x80x512_d3 : (⟨S2x2x16x80x512, .f32⟩ : BufTy).Contents (Elt Ideal))) bitsLt_bf16_f32

def wvals : Vec Ideal S2x2x64x80x128 .bf16 :=
  truncf (F := Ideal) .bf16 ((concatenate S2x2x64x80x128 3 [⟨S2x2x64x64x128, ((transpose S2x2x64x64x128 [0, 3, 1, 4, 2] (shapeCast _ (extractStridedSlice S16384x128 ![0, 1664] (hall X W) slices_S16384x2840_S16384x128_0_1664) shapeCasts_S16384x128_S2x64x128x2x64) transposes_S2x64x128x2x64_S2x2x64x64x128_0_3_1_4_2) : (⟨S2x2x64x64x128, .f32⟩ : BufTy).Contents (Elt Ideal))⟩, ⟨S2x2x64x1x128, ((broadcastInDim S2x2x64x1x128 ![] bcast_S_S2x2x64x1x128 (constant (F := Ideal) S_ .f32 0x3F800000#32)) : (⟨S2x2x64x1x128, .f32⟩ : BufTy).Contents (Elt Ideal))⟩, ⟨S2x2x64x15x128, ((broadcastInDim S2x2x64x15x128 ![] bcast_S_S2x2x64x15x128 (constant (F := Ideal) S_ .f32 0x00000000#32)) : (⟨S2x2x64x15x128, .f32⟩ : BufTy).Contents (Elt Ideal))⟩] concatenates_S2x2x64x64x128_S2x2x64x1x128_S2x2x64x15x128_S2x2x64x80x128_d3 : (⟨S2x2x64x80x128, .f32⟩ : BufTy).Contents (Elt Ideal))) bitsLt_bf16_f32

theorem dite_eq_of {p : Prop} [Decidable p] {a : p → EReal} {b : ¬ p → EReal} {c : EReal} (h1 : ∀ h, a h = c) (h2 : ∀ h, b h = c) : dite p a b = c := by
  by_cases h : p
  · rw [dif_pos h, h1]
  · rw [dif_neg h, h2]

theorem cols_at (n : Fin 16384) (p : Fin 2432) : cols X W (ix2 n p) = col X W n.val (src p.val) := by
  have hp := p.isLt
  pointwise [cols]
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine dite_eq_of (fun _ => hall_of X W _ _ _ _ rfl (by unfold src; split_ifs <;> (try dsimp only) <;> omega)) fun _ => ?_
  refine col_zero X W _ _ ?_
  unfold src
  split_ifs <;> omega

theorem member_at (a b : ℕ) (ha : a < 4294967296) (hb : b < 4294967296) :
    (FloatOps.uitofp (F := Ideal) .f32 (IntOp.cmpi .eq (IntOp.addi (BitVec.ofNat 32 a) 0#32) (BitVec.ofNat 32 b)) : EReal) = if a = b then 1 else 0 := by
  have e : (BitVec.ofNat 32 a + 0#32 == BitVec.ofNat 32 b) = decide (a = b) := by
    rw [BitVec.add_zero, Bool.eq_iff_iff, beq_iff_eq, decide_eq_true_iff]
    refine ⟨fun h => ?_, fun h => by rw [h]⟩
    have := congrArg BitVec.toNat h
    rwa [BitVec.toNat_ofNat, BitVec.toNat_ofNat, Nat.mod_eq_of_lt ha, Nat.mod_eq_of_lt hb] at this
  show (((BitVec.ofBool (BitVec.ofNat 32 a + 0#32 == BitVec.ofNat 32 b)).toNat : ℝ) : EReal) = _
  rw [e]
  by_cases h : a = b
  · rw [if_pos h, decide_eq_true h]; simp
  · rw [if_neg h, decide_eq_false h]; simp

theorem keys_at (b g : Fin 2) (t : Fin 8192) (l : Fin 256) : keys X W (ix4 b g t l) = arr4 X W (ix4 b g t l) := by
  show _ = if l.val < 128 then col X W (8192 * b.val + t.val) (src (2432 + 128 * g.val + l.val)) else if t.val / 64 = l.val - 128 then 1 else 0
  pointwise [keys]
  have hb := b.isLt
  have hg := g.isLt
  have ht := t.isLt
  have hl := l.isLt
  split
  · refine (hall_of X W _ _ (8192 * b.val + t.val) (src (2432 + 128 * g.val + l.val)) ?_ ?_).trans (if_pos (by omega)).symm
    · (try dsimp only); omega
    · unfold src; split_ifs <;> (try dsimp only) <;> omega
  · split
    · refine (hall_of X W _ _ (8192 * b.val + t.val) (src (2432 + 128 * g.val + l.val)) ?_ ?_).trans (if_pos (by omega)).symm
      · (try dsimp only); omega
      · unfold src; split_ifs <;> (try dsimp only) <;> omega
    · exact ((member_at _ _ (by omega) (by omega)).trans (if_congr (by omega) rfl rfl)).trans (if_neg (by omega)).symm

theorem wkeys_at (b g : Fin 2) (t : Fin 8192) (l : Fin 128) : wkeys X W (ix4 b g t l) = col X W (8192 * b.val + t.val) (src (2688 + 128 * g.val + l.val)) := by
  pointwise [wkeys]
  have hb := b.isLt
  have hg := g.isLt
  have ht := t.isLt
  have hl := l.isLt
  split <;> exact hall_of X W _ _ _ _ (by (try dsimp only); omega) (by unfold src; split_ifs <;> (try dsimp only) <;> omega)

theorem vals_at (b g : Fin 2) (q : Fin 16) (d : Fin 80) (l : Fin 512) : vals X W (ix5 b g q d l)
    = if d.val < 64 then col X W (8192 * b.val + 512 * q.val + l.val) (srcT (64 * g.val + d.val)) else ones d.val := by
  pointwise [vals]
  have hb := b.isLt
  have hg := g.isLt
  have hq := q.isLt
  have hl := l.isLt
  have hd := d.isLt
  split
  · exact hall_of X W _ _ _ _ (by (try dsimp only); omega) (by unfold srcT; split_ifs <;> (try dsimp only) <;> omega)
  · unfold ones
    split_ifs <;> first
      | rfl
      | (exfalso; omega)

theorem wvals_at (b g : Fin 2) (q : Fin 64) (d : Fin 80) (l : Fin 128) : wvals X W (ix5 b g q d l)
    = if d.val < 64 then col X W (8192 * b.val + 128 * q.val + l.val) (srcT (128 + 64 * g.val + d.val)) else ones d.val := by
  pointwise [wvals]
  have hb := b.isLt
  have hg := g.isLt
  have hq := q.isLt
  have hl := l.isLt
  have hd := d.isLt
  split
  · exact hall_of X W _ _ _ _ (by (try dsimp only); omega) (by unfold srcT; split_ifs <;> (try dsimp only) <;> omega)
  · unfold ones
    split_ifs <;> first
      | rfl
      | (exfalso; omega)

/-! ## The five arrays -/

theorem cols_eq : cols X W = arr3 X W := by
  funext y
  obtain ⟨n, j, rfl⟩ : ∃ n j, y = ix2 n j := ⟨y 0, y 1, by funext d; fin_cases d <;> rfl⟩
  exact cols_at X W n j

theorem keys_eq : keys X W = arr4 X W := by
  funext y
  obtain ⟨b, g, t, l, rfl⟩ : ∃ b g t l, y = ix4 b g t l := ⟨y 0, y 1, y 2, y 3, by funext d; fin_cases d <;> rfl⟩
  exact keys_at X W b g t l

theorem wkeys_eq : wkeys X W = arr5 X W := by
  funext y
  obtain ⟨b, g, t, l, rfl⟩ : ∃ b g t l, y = ix4 b g t l := ⟨y 0, y 1, y 2, y 3, by funext d; fin_cases d <;> rfl⟩
  exact wkeys_at X W b g t l

theorem vals_eq : vals X W = arr6 X W := by
  funext y
  obtain ⟨b, g, q, d, l, rfl⟩ : ∃ b g q d l, y = ix5 b g q d l := ⟨y 0, y 1, y 2, y 3, y 4, by funext d; fin_cases d <;> rfl⟩
  exact vals_at X W b g q d l

theorem wvals_eq : wvals X W = arr7 X W := by
  funext y
  obtain ⟨b, g, q, d, l, rfl⟩ : ∃ b g q d l, y = ix5 b g q d l := ⟨y 0, y 1, y 2, y 3, y 4, by funext d; fin_cases d <;> rfl⟩
  exact wvals_at X W b g q d l

end

end Cert.Reference2Ideal.Plain

end
-- ==== Proof.InValue.lean ====
module

public import proofs.«01_k».proof.Defs
public import proofs.«01_k».proof.Proof.Gen.Kernel2
public import proofs.«01_k».proof.Proof.InPlain

@[expose] public section

set_option maxHeartbeats 4000000

noncomputable section

namespace Cert.Proof.In
open Idealize.ShloMosaic Idealize.ShloMosaic.TcCoe Idealize.SL.Sem
open Cert.Kernel2Ideal Cert.Kernel2Ideal.Gen Cert.Kernel2Ideal.Hand

section
variable {F : FTy → Type} [FloatOps F]

/-- The projection's two printed programs have one text: their bodies are the same. -/
theorem body_same : Cert.Kernel2.cc0_inproj (F := F) = Cert.Kernel2Ideal.cc0_inproj (F := F) := rfl

/-- So are the tables of the labels they call. -/
theorem labels_same : Cert.Kernel2.defs₀ (F := F) = Cert.Kernel2Ideal.defs₀ (F := F) := by
  refine congrArg Defs.onTc (funext fun l => funext fun p => ?_)
  match l, p with
  | 0, (t, s) => exact rfl
  | ⟨_ + 1, h⟩, _ => exact absurd h (Nat.not_lt.2 (Nat.le_add_left _ _))

theorem defs_same : Cert.Kernel2.defs (F := F) = Cert.Kernel2Ideal.defs (F := F) :=
  congrArg (Pipeline.defs (Cert.Kernel2Ideal.pcfgs (F := F))) labels_same

theorem main_same : onTc (τ := τ) (Cert.Kernel2.main (F := F)) = onTc (τ := τ) (Cert.Kernel2Ideal.main (F := F)) :=
  congrArg (fun p => onTc (τ := τ) p) (rfl : Cert.Kernel2.main (F := F) = Cert.Kernel2Ideal.main (F := F))

end

/-- The projection's printed program, at words. -/
theorem frame_kernel : Cert.quiescent_Kernel2 := fun m ρ _ => by
  have h := Cert.Kernel2Ideal.Gen.frame (F := Bits) m ρ
  rw [← defs_same, ← main_same] at h
  exact h

/-- The same program over the extended reals. -/
theorem frame_ideal : Cert.quiescent_Kernel2Ideal := fun m ρ _ => Cert.Kernel2Ideal.Gen.frame (F := Ideal) m ρ

/-- The reference over the extended reals. -/
theorem frame_reference : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- Both runs leave the same five arrays. -/
theorem algebraic : Cert.algebraic_Kernel2Ideal_Reference2Ideal := by
  intro m ρ m' ρ' _ hagree
  refine ⟨fun c => arr3 (aX m c) (aW m c), fun c => arr4 (aX m c) (aW m c), fun c => arr5 (aX m c) (aW m c),
    fun c => arr6 (aX m c) (aW m c), fun c => arr7 (aX m c) (aW m c), ?_, ?_⟩
  · exact (θ_run Cert.Kernel2Ideal.defs _ _).mono
      (fun r h c => by
        obtain ⟨h3, h4, h5, h6, h7, hk⟩ := h c
        exact ⟨h3.trans (final3 m c), h4.trans (final4 m c), h5.trans (final5 m c), h6.trans (final6 m c), h7.trans (final7 m c), hk⟩)
      (Cert.Kernel2Ideal.Value.run_blocks (F := Ideal) m ρ)
  · refine (θ_run Cert.Reference2Ideal.defs _ _).mono (fun r h c => ?_) (Cert.Reference2Ideal.Value.run (F := Ideal) m' ρ')
    obtain ⟨h3, h4, h5, h6, h7, hk⟩ := h c
    obtain ⟨e0, e1⟩ := hagree c
    exact ⟨h3.trans ((Cert.Reference2Ideal.Plain.cols_eq _ _).trans (congr (congrArg arr3 e0) e1)),
      h4.trans ((Cert.Reference2Ideal.Plain.keys_eq _ _).trans (congr (congrArg arr4 e0) e1)),
      h5.trans ((Cert.Reference2Ideal.Plain.wkeys_eq _ _).trans (congr (congrArg arr5 e0) e1)),
      h6.trans ((Cert.Reference2Ideal.Plain.vals_eq _ _).trans (congr (congrArg arr6 e0) e1)),
      h7.trans ((Cert.Reference2Ideal.Plain.wvals_eq _ _).trans (congr (congrArg arr7 e0) e1)), hk⟩

end Cert.Proof.In

end
-- ==== Proof.OutSpec.lean ====
module

public import proofs.«01_k».proof.Proof.Whole

@[expose] public section

set_option maxHeartbeats 400000

noncomputable section

namespace Cert.OutSpec
open Idealize.ShloMosaic Idealize.ShloMosaic.TcCoe
open Cert.KernelIdeal.Value (lnorm lnorm_congr)

/-! ## A row of the output projection -/

/-- The logistic function; -/
def sg (x : EReal) : EReal := Ideal.div 1 (1 + Ideal.exp (0 - x))

/-- the gate of a head's branch; -/
def lane (b : ℕ) (hb : b < 3) (j : Fin 512) : Fin 24 := ⟨3 * (j.val / 64) + b, by have := j.isLt; omega⟩

/-- the branches' gated sum; -/
def gated (g : Fin 24 → EReal) (o1 o2 o3 : Fin 512 → EReal) (j : Fin 512) : EReal :=
  sg (g (lane 0 (by omega) j)) * o1 j + sg (g (lane 1 (by omega) j)) * o2 j + sg (g (lane 2 (by omega) j)) * o3 j

/-- the mean square of an entry's head; -/
def msq {n : ℕ} (y : Fin n → EReal) (j : Fin n) : EReal :=
  Ideal.div (∑ k : Fin n, if k.val / 64 = j.val / 64 then y k * y k else 0) (Ideal.ofBits .f32 0x42800000#32)

/-- the head's norm; -/
def rms {n : ℕ} (y g : Fin n → EReal) (j : Fin n) : EReal :=
  y j * Ideal.rsqrt (msq y j + Ideal.ofBits .f32 0x358637BD#32) * g j

/-- the scaled row beside the three parts' projection; -/
def zrow (ya : Fin 256 → EReal) (yb : Fin 512 → EReal) (yc : Fin 256 → EReal) (x : Fin 1024 → EReal) (w : Fin 1024 → Fin 1024 → EReal) (j : Fin 1024) : EReal :=
  Ideal.ofBits .f32 0x3FB504F3#32 * x j
    + (∑ k : Fin 256, ya k * w ⟨k.val, by omega⟩ j + ∑ k : Fin 512, yb k * w ⟨256 + k.val, by omega⟩ j + ∑ k : Fin 256, yc k * w ⟨768 + k.val, by omega⟩ j)

/-- the row. -/
def row (ya : Fin 256 → EReal) (o1 o2 o3 : Fin 512 → EReal) (g : Fin 24 → EReal) (hg yc : Fin 256 → EReal) (x og : Fin 1024 → EReal)
    (w : Fin 1024 → Fin 1024 → EReal) (lg lb : Fin 1024 → EReal) (j : Fin 1024) : EReal :=
  lnorm (zrow ya (rms (gated g o1 o2 o3) fun k => og ⟨256 + k.val, by omega⟩)
    (fun k => rms yc (fun k => og ⟨768 + k.val, by omega⟩) k * (hg k * sg (hg k))) x w) lg lb j

/-- The result, of the arrays. -/
def outx (ya : Vec Ideal ⟨2, ![16384, 256]⟩ .f32) (o1 o2 o3 : Vec Ideal ⟨2, ![16384, 512]⟩ .f32) (h : Vec Ideal ⟨2, ![16384, 2432]⟩ .f32)
    (yc : Vec Ideal ⟨2, ![16384, 256]⟩ .f32) (x : Vec Ideal ⟨2, ![16384, 1024]⟩ .f32) (b : Vec Ideal ⟨1, ![24]⟩ .f32) (og : Vec Ideal ⟨1, ![1024]⟩ .f32)
    (w : Vec Ideal ⟨2, ![1024, 1024]⟩ .f32) (lg lb : Vec Ideal ⟨1, ![1024]⟩ .f32) : Vec Ideal ⟨2, ![16384, 1024]⟩ .f32 := fun y =>
  row (fun k => ya (ix2 (y 0) k)) (fun k => o1 (ix2 (y 0) k)) (fun k => o2 (ix2 (y 0) k)) (fun k => o3 (ix2 (y 0) k))
    (fun k => h (ix2 (y 0) ⟨2304 + k.val, by omega⟩) + b (ix1 k)) (fun k => h (ix2 (y 0) ⟨2048 + k.val, by omega⟩)) (fun k => yc (ix2 (y 0) k))
    (fun k => x (ix2 (y 0) k)) (fun k => og (ix1 k)) (fun k j => w (ix2 k j)) (fun k => lg (ix1 k)) (fun k => lb (ix1 k)) (y 1)

/-! ## What the tables do to a row -/

theorem sg_finite (x : EReal) : ∃ r : ℝ, sg x = (r : EReal) := by
  unfold sg
  induction x using EReal.rec with
  | bot =>
    have h : (1 : EReal) + ⊤ = ⊤ := EReal.coe_add_top 1
    exact ⟨0, by simp [Ideal.div, h]⟩
  | top => exact ⟨1, by simp [Ideal.div]⟩
  | coe r =>
    have h : (1 : EReal) + Ideal.exp (0 - (r : EReal)) = ((1 + Real.exp (-r) : ℝ) : EReal) := by
      rw [zero_sub, ← EReal.coe_neg, Ideal.exp_coe, EReal.coe_add, EReal.coe_one]
    have hp : (0 : ℝ) < 1 + Real.exp (-r) := by positivity
    refine ⟨(1 + Real.exp (-r))⁻¹, ?_⟩
    rw [h, Ideal.div, if_neg (by exact_mod_cast hp.ne'), one_mul, EReal.coe_inv]

theorem sg_sub_self (x : EReal) : sg x - sg x = 0 := by
  obtain ⟨r, hr⟩ := sg_finite x
  rw [hr, ← EReal.coe_sub, sub_self, EReal.coe_zero]

/-- A row of gates against a head's column of the table: the head's gate, the remainder nothing. -/
theorem pick (g : Fin 128 → EReal) (e : Fin 128 → EReal) (a : Fin 128) (he : ∀ k, e k = if k.val = a.val then 1 else 0) :
    ∑ k, sg (g k) * e k + ∑ k, (sg (g k) - sg (g k)) * e k = sg (g a) := by
  simp only [sg_sub_self, zero_mul, Finset.sum_const_zero, add_zero]
  rw [Finset.sum_eq_single a]
  · rw [he, if_pos rfl, mul_one]
  · intro k _ hk
    rw [he, if_neg (fun h => hk (Fin.ext h)), mul_zero]
  · exact fun h => absurd (Finset.mem_univ a) h

theorem sq_nonneg (y : EReal) : 0 ≤ y * y := by
  rcases le_total 0 y with h | h
  · exact mul_nonneg h h
  · have := mul_nonneg (EReal.neg_nonneg.2 h) (EReal.neg_nonneg.2 h)
    rwa [neg_mul_neg] at this

theorem sum_scaled {n : ℕ} (s : Finset (Fin n)) (f : Fin n → EReal) (hf : ∀ k, 0 ≤ f k) (c : EReal) : ∑ k ∈ s, f k * c = (∑ k ∈ s, f k) * c := by
  induction s using Finset.induction_on with
  | empty => simp
  | insert a s ha ih => rw [Finset.sum_insert ha, Finset.sum_insert ha, ih, EReal.right_distrib_of_nonneg (hf a) (Finset.sum_nonneg fun k _ => hf k)]

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = (((64 : ℝ)⁻¹ : ℝ) : EReal) := by
  simp [Ideal.ofBits, Ideal.ieee, -EReal.coe_mul]; norm_num

/-- A row of squares against a column of the averaging table: the head's mean square. -/
theorem sum_msq {n : ℕ} (y : Fin n → EReal) (j : Fin n) (e : Fin n → EReal)
    (he : ∀ k, e k = if k.val / 64 = j.val / 64 then Ideal.ofBits .f32 0x3C800000#32 else 0) : ∑ k, y k * y k * e k = msq y j := by
  unfold msq
  rw [Ideal.div, ofBits_64, if_neg (by norm_num), ← EReal.coe_inv, ← ofBits_64th, ← sum_scaled]
  · refine Finset.sum_congr rfl fun k _ => ?_
    rw [he]
    split_ifs <;> simp
  · intro k
    split_ifs
    · exact sq_nonneg _
    · exact le_refl _

/-- The same mean square, summed over the head's own entries. -/
theorem msq_head {n : ℕ} (y : Fin n → EReal) (j : Fin n) (e : Fin 64 → Fin n) (he : ∀ d, (e d).val = 64 * (j.val / 64) + d.val) :
    Ideal.div (∑ d, y (e d) * y (e d)) (Ideal.ofBits .f32 0x42800000#32) = msq y j := by
  unfold msq
  refine congrArg (fun s => Ideal.div s (Ideal.ofBits .f32 0x42800000#32)) (Fintype.sum_of_injective e ?_ _ _ ?_ ?_)
  · intro a b h
    have h := congrArg Fin.val h
    rw [he, he] at h
    exact Fin.ext (by omega)
  · intro k hk
    refine if_neg fun h => hk ⟨⟨k.val % 64, Nat.mod_lt _ (by omega)⟩, Fin.ext ?_⟩
    rw [he]
    show 64 * (j.val / 64) + k.val % 64 = k.val
    omega
  · intro d
    have := d.isLt
    rw [if_pos (by rw [he]; omega)]

/-- A sum over the row's 1024 entries, by its three parts. -/
theorem sum_parts (f : Fin 1024 → EReal) : ∑ k, f k = ∑ k : Fin 256, f ⟨k.val, by omega⟩ + ∑ k : Fin 512, f ⟨256 + k.val, by omega⟩ + ∑ k : Fin 256, f ⟨768 + k.val, by omega⟩ := by
  rw [show (∑ k, f k) = ∑ k : Fin (256 + 512 + 256), f k from rfl, Fin.sum_univ_add, Fin.sum_univ_add]
  rfl

end Cert.OutSpec

end
-- ==== Proof.OutBlocks.lean ====
module

public import proofs.«01_k».proof.Proof.OutSpec
public import proofs.«01_k».proof.Proof.Gen.Kernel3Ideal.Frame
public import Idealize.ShloMosaic.Lib.Pointwise
public import Idealize.ShloMosaic.Lib.VecWindow

@[expose] public section

set_option maxHeartbeats 1000000

noncomputable section

namespace Cert.Kernel3Ideal.Hand
open Cert.Kernel3Ideal Cert.Kernel3Ideal.Gen Cert.OutSpec
open Idealize.ShloMosaic Idealize.ShloMosaic.TcCoe
open Cert.KernelIdeal.Value (lnorm lnorm_congr)

/-! ## The block a point writes, of the blocks it reads -/

theorem gate_at (gl : Vec Ideal S512x128 .f32) (gb : Vec Ideal S1x128 .f32) (r : Fin 512) (k : Fin 128) :
    k0_pay2 (F := Ideal) gl gb (ix2 r k) = sg (gl (ix2 r k) + gb (ix2 0 k)) := by
  unfold sg
  pointwise [k0_pay2]

/-- The lane of a head's branch. -/
def lane128 (b : ℕ) (hb : b < 3) (j : Fin 512) : Fin 128 := ⟨3 * (j.val / 64) + b, by have := j.isLt; omega⟩

/-- A branch's table. -/
def Spread (b : ℕ) (e : Vec Ideal S1x128x512 .bf16) : Prop := ∀ k j, e (ix3 0 k j) = if k.val = 3 * (j.val / 64) + b then 1 else 0

/-- A head's averaging table. -/
def Mean {n : ℕ} (e : Vec Ideal ⟨2, ![n, n]⟩ .bf16) : Prop :=
  ∀ k j, e (ix2 k j) = if k.val / 64 = j.val / 64 then Ideal.ofBits .f32 0x3C800000#32 else 0

section
variable (gl : Vec Ideal S512x128 .f32) (gb : Vec Ideal S1x128 .f32) (e0 e1 e2 : Vec Ideal S1x128x512 .bf16) (o0 o1 o2 : Vec Ideal S512x512 .f32)

theorem pick_at (b : ℕ) (hb : b < 3) (e : Vec Ideal S1x128x512 .bf16) (he : Spread b e) (r j : Fin 512) :
    ∑ k : Fin 128, sg (gl (ix2 r k) + gb (ix2 0 k)) * e (ix3 0 k j)
      + ∑ k : Fin 128, (sg (gl (ix2 r k) + gb (ix2 0 k)) - sg (gl (ix2 r k) + gb (ix2 0 k))) * e (ix3 0 k j)
      = sg (gl (ix2 r (lane128 b hb j)) + gb (ix2 0 (lane128 b hb j))) :=
  pick (fun k => gl (ix2 r k) + gb (ix2 0 k)) (fun k => e (ix3 0 k j)) (lane128 b hb j) fun k => he k j

theorem two_at (h0 : Spread 0 e0) (h1 : Spread 1 e1) (r j : Fin 512) :
    k0_pay3 (F := Ideal) gl gb e0 o0 e1 o1 (ix2 r j)
      = sg (gl (ix2 r (lane128 0 (by omega) j)) + gb (ix2 0 (lane128 0 (by omega) j))) * o0 (ix2 r j)
        + sg (gl (ix2 r (lane128 1 (by omega) j)) + gb (ix2 0 (lane128 1 (by omega) j))) * o1 (ix2 r j) := by
  pointwise [k0_pay3]
  simp only [gate_at]
  rw [pick_at gl gb 0 (by omega) e0 h0, pick_at gl gb 1 (by omega) e1 h1]

/-- The branches' sum at a row. -/
def mixAt (r j : Fin 512) : EReal :=
  sg (gl (ix2 r (lane128 0 (by omega) j)) + gb (ix2 0 (lane128 0 (by omega) j))) * o0 (ix2 r j)
    + sg (gl (ix2 r (lane128 1 (by omega) j)) + gb (ix2 0 (lane128 1 (by omega) j))) * o1 (ix2 r j)
    + sg (gl (ix2 r (lane128 2 (by omega) j)) + gb (ix2 0 (lane128 2 (by omega) j))) * o2 (ix2 r j)

theorem normB_at (h0 : Spread 0 e0) (h1 : Spread 1 e1) (h2 : Spread 2 e2) (gm : Vec Ideal S512x512 .bf16) (hm : Mean gm) (og : Vec Ideal S1x512 .f32) (r j : Fin 512) :
    k0_pay4 (F := Ideal) (k0_pay2 gl gb) (k0_pay3 gl gb e0 o0 e1 o1) e2 o2 gm og (ix2 r j)
      = rms (mixAt gl gb o0 o1 o2 r) (fun k => og (ix2 0 k)) j := by
  pointwise [k0_pay4]
  simp only [gate_at, two_at gl gb e0 e1 o0 o1 h0 h1, pick_at gl gb 2 (by omega) e2 h2]
  unfold rms
  rw [← sum_msq (mixAt gl gb o0 o1 o2 r) j (fun k => gm (ix2 k j)) fun k => hm k j]
  rfl

end

theorem normC_at (yc : Vec Ideal S512x256 .f32) (gm : Vec Ideal S256x256 .bf16) (hm : Mean gm) (og : Vec Ideal S1x256 .f32) (r : Fin 512) (j : Fin 256) :
    k0_pay5 (F := Ideal) yc gm og (ix2 r j) = rms (fun k => yc (ix2 r k)) (fun k => og (ix2 0 k)) j := by
  pointwise [k0_pay5]
  unfold rms
  rw [← sum_msq (fun k => yc (ix2 r k)) j (fun k => gm (ix2 k j)) fun k => hm k j]

section
variable (yb : Vec Ideal S512x512 .f32) (hg yc ya : Vec Ideal S512x256 .f32) (w1 : Vec Ideal S256x1024 .bf16) (w2 : Vec Ideal S512x1024 .bf16)
  (w3 : Vec Ideal S256x1024 .bf16) (x : Vec Ideal S512x1024 .f32)

theorem z_at (r : Fin 512) (j : Fin 1024) : k0_pay6 (F := Ideal) yb hg yc ya w1 w2 w3 x (ix2 r j)
    = Ideal.ofBits .f32 0x3FB504F3#32 * x (ix2 r j)
      + (∑ k : Fin 256, ya (ix2 r k) * w1 (ix2 k j) + ∑ k : Fin 512, yb (ix2 r k) * w2 (ix2 k j)
        + ∑ k : Fin 256, yc (ix2 r k) * (hg (ix2 r k) * sg (hg (ix2 r k))) * w3 (ix2 k j)) := by
  unfold sg
  pointwise [k0_pay6]

theorem out_at (lg lb : Vec Ideal S1x1024 .f32) (r : Fin 512) (j : Fin 1024) :
    k0_pay10 (F := Ideal) (k0_pay6 yb hg yc ya w1 w2 w3 x) (k0_pay7 lg) (k0_pay8 lb) (k0_pay9 yb hg yc ya w1 w2 w3 x) (ix2 r j)
      = lnorm (fun k => k0_pay6 (F := Ideal) yb hg yc ya w1 w2 w3 x (ix2 r k)) (fun k => lg (ix2 0 k)) (fun k => lb (ix2 0 k)) j := by
  have h9 (k : Fin 1024) : k0_pay9 (F := Ideal) yb hg yc ya w1 w2 w3 x (ix2 r k)
      = Ideal.div (∑ k : Fin 1024, k0_pay6 (F := Ideal) yb hg yc ya w1 w2 w3 x (ix2 r k)) (Ideal.ofBits .f32 1149239296#32) := by
    pointwise [k0_pay9]
  unfold lnorm
  pointwise [k0_pay10, k0_pay7, k0_pay8]
  simp only [h9]

end

end Cert.Kernel3Ideal.Hand

end
-- ==== Proof.OutReads.lean ====
module

public import proofs.«01_k».proof.Proof.OutBlocks

@[expose] public section

set_option maxHeartbeats 1000000

noncomputable section

namespace Cert.Kernel3Ideal.Hand
open Cert.Kernel3Ideal Cert.Kernel3Ideal.Gen Cert.OutSpec
open Idealize.ShloMosaic Idealize.ShloMosaic.TcCoe
open Cert.KernelIdeal.Value (lnorm lnorm_congr)

/-! ## The block of the layer's rows -/

/-- A branch's table, of the three; -/
def cutE0 (e : Vec Ideal S3x128x512 .bf16) : Vec Ideal S1x128x512 .bf16 := fun y => e ((Rect.unit (s := S3x128x512) ![0, 0, 0] S1x128x512.size inb_S3x128x512_S1x128x512_0_0_0).emb y)
def cutE1 (e : Vec Ideal S3x128x512 .bf16) : Vec Ideal S1x128x512 .bf16 := fun y => e ((Rect.unit (s := S3x128x512) ![1, 0, 0] S1x128x512.size inb_S3x128x512_S1x128x512_1_0_0).emb y)
def cutE2 (e : Vec Ideal S3x128x512 .bf16) : Vec Ideal S1x128x512 .bf16 := fun y => e ((Rect.unit (s := S3x128x512) ![2, 0, 0] S1x128x512.size inb_S3x128x512_S1x128x512_2_0_0).emb y)
/-- the gains of the second and third parts; -/
def cutB (g : Vec Ideal S1x1024 .f32) : Vec Ideal S1x512 .f32 := fun y => g ((Rect.unit (s := S1x1024) ![0, 256] S1x512.size inb_S1x1024_S1x512_0_256).emb y)
def cutC (g : Vec Ideal S1x1024 .f32) : Vec Ideal S1x256 .f32 := fun y => g ((Rect.unit (s := S1x1024) ![0, 768] S1x256.size inb_S1x1024_S1x256_0_768).emb y)
/-- the weights of the three parts. -/
def cutW1 (w : Vec Ideal S1024x1024 .bf16) : Vec Ideal S256x1024 .bf16 := fun y => w ((Rect.unit (s := S1024x1024) ![0, 0] S256x1024.size inb_S1024x1024_S256x1024_0_0).emb y)
def cutW2 (w : Vec Ideal S1024x1024 .bf16) : Vec Ideal S512x1024 .bf16 := fun y => w ((Rect.unit (s := S1024x1024) ![256, 0] S512x1024.size inb_S1024x1024_S512x1024_256_0).emb y)
def cutW3 (w : Vec Ideal S1024x1024 .bf16) : Vec Ideal S256x1024 .bf16 := fun y => w ((Rect.unit (s := S1024x1024) ![768, 0] S256x1024.size inb_S1024x1024_S256x1024_768_0).emb y)

theorem read_whole {s : Shape} {e : EltTy} (a : Memref sig .tc .vmem s e) (h : a.IsWhole) (x : s.Idx → Elt Ideal e) (r : Rect s) :
    View.readAt (Elt Ideal) a.view r.toLoadRect (h.unread x) = fun y => x (r.emb y) :=
  funext fun y => congrFun (h.read_unread x) _

theorem emb_id {s : Shape} {off : Fin s.rank → ℕ} (inb : ∀ a, off a + s.size a ≤ s.size a) {α : Type} (x : s.Idx → α) :
    (fun y => x ((Rect.unit (s := s) off s.size inb).emb y)) = x :=
  funext fun y => congrArg x (funext fun a => Fin.ext (by
    show off a + 1 * (y a).val = (y a).val
    have := inb a; omega))

section
variable (x0 : Vec Ideal S512x256 .f32) (x1 : Vec Ideal S512x512 .f32) (x2 : Vec Ideal S512x512 .f32) (x3 : Vec Ideal S512x512 .f32) (x4 : Vec Ideal S512x128 .f32) (x5 : Vec Ideal S512x256 .f32) (x6 : Vec Ideal S512x256 .f32) (x7 : Vec Ideal S512x1024 .f32) (x8 : Vec Ideal S1x128 .f32) (x9 : Vec Ideal S3x128x512 .bf16) (x10 : Vec Ideal S512x512 .bf16) (x11 : Vec Ideal S256x256 .bf16) (x12 : Vec Ideal S1x1024 .f32) (x13 : Vec Ideal S1024x1024 .bf16) (x14 : Vec Ideal S1x1024 .f32) (x15 : Vec Ideal S1x1024 .f32)

/-- The second part, normed; -/
def partB : Vec Ideal S512x512 .f32 := k0_pay4 (F := Ideal) (k0_pay2 x4 x8) (k0_pay3 x4 x8 (cutE0 x9) x1 (cutE1 x9) x2) (cutE2 x9) x3 x10 (cutB x12)
/-- the third; -/
def partC : Vec Ideal S512x256 .f32 := k0_pay5 (F := Ideal) x5 x11 (cutC x12)
/-- the block. -/
def blk19 : Vec Ideal S512x1024 .f32 :=
  k0_pay10 (F := Ideal) (k0_pay6 (partB x1 x2 x3 x4 x8 x9 x10 x12) x6 (partC x5 x11 x12) x0 (cutW1 x13) (cutW2 x13) (cutW3 x13) x7) (k0_pay7 x14) (k0_pay8 x15)
    (k0_pay9 (partB x1 x2 x3 x4 x8 x9 x10 x12) x6 (partC x5 x11 x12) x0 (cutW1 x13) (cutW2 x13) (cutW3 x13) x7)

end

theorem out19_eq (c : Dev nD) (i : grid0.Coords) (a1 : Memref sig .tc .vmem S512x256 .f32) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S512x128 .f32) (h5 : a5.IsWhole) (a6 : Memref sig .tc .vmem S512x256 .f32) (h6 : a6.IsWhole) (a7 : Memref sig .tc .vmem S512x256 .f32) (h7 : a7.IsWhole) (a8 : Memref sig .tc .vmem S512x1024 .f32) (h8 : a8.IsWhole) (a9 : Memref sig .tc .vmem S1x128 .f32) (h9 : a9.IsWhole) (a10 : Memref sig .tc .vmem S3x128x512 .bf16) (h10 : a10.IsWhole) (a11 : Memref sig .tc .vmem S512x512 .bf16) (h11 : a11.IsWhole) (a12 : Memref sig .tc .vmem S256x256 .bf16) (h12 : a12.IsWhole) (a13 : Memref sig .tc .vmem S1x1024 .f32) (h13 : a13.IsWhole) (a14 : Memref sig .tc .vmem S1024x1024 .bf16) (h14 : a14.IsWhole) (a15 : Memref sig .tc .vmem S1x1024 .f32) (h15 : a15.IsWhole) (a16 : Memref sig .tc .vmem S1x1024 .f32) (h16 : a16.IsWhole) (a17 : Memref sig .tc .vmem S1024x128 .bf16) (h17 : a17.IsWhole) (a18 : Memref sig .tc .vmem S1024x128 .bf16) (h18 : a18.IsWhole) (a19 : Memref sig .tc .vmem S1x128 .f32) (h19 : a19.IsWhole) (a20 : Memref sig .tc .vmem S512x1024 .f32) (h20 : a20.IsWhole) (a21 : Memref sig .tc .vmem S512x128 .f32) (h21 : a21.IsWhole) (x0 : Vec Ideal S512x256 .f32) (x1 : Vec Ideal S512x512 .f32) (x2 : Vec Ideal S512x512 .f32) (x3 : Vec Ideal S512x512 .f32) (x4 : Vec Ideal S512x128 .f32) (x5 : Vec Ideal S512x256 .f32) (x6 : Vec Ideal S512x256 .f32) (x7 : Vec Ideal S512x1024 .f32) (x8 : Vec Ideal S1x128 .f32) (x9 : Vec Ideal S3x128x512 .bf16) (x10 : Vec Ideal S512x512 .bf16) (x11 : Vec Ideal S256x256 .bf16) (x12 : Vec Ideal S1x1024 .f32) (x13 : Vec Ideal S1024x1024 .bf16) (x14 : Vec Ideal S1x1024 .f32) (x15 : Vec Ideal S1x1024 .f32) (x16 : Vec Ideal S1024x128 .bf16) (x17 : Vec Ideal S1024x128 .bf16) (x18 : Vec Ideal S1x128 .f32) :
    out0_A_19 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17 x18 = blk19 x0 x1 x2 x3 x4 x5 x6 x7 x8 x9 x10 x11 x12 x13 x14 x15 := by
  unfold out0_A_19
  funext y
  refine View.read_writes_apply_of_pieces _ _ (blk19 x0 x1 x2 x3 x4 x5 x6 x7 x8 x9 x10 x11 x12 x13 x14 x15) _ ?_ y (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17 x18 y)
  unfold kernelRun0_A
  dsimp only
  simp only [List.forall_mem_cons]
  refine ⟨fun x => ?_, fun _ h => absurd h List.not_mem_nil⟩
  unfold kernelRun0_A.sl.r_5 kernelRun0_A.sl.r_6 kernelRun0_A.sl.r_7 kernelRun0_A.sl.r_8
  simp only [kernelRun0_A.sl.r, kernelRun0_A.sl.r_1, kernelRun0_A.sl.r_2, kernelRun0_A.sl.r_3, kernelRun0_A.sl.r_4, read_whole, emb_id]
  refine Eq.trans ?_ (congrArg (blk19 x0 x1 x2 x3 x4 x5 x6 x7 x8 x9 x10 x11 x12 x13 x14 x15) (show x = _ from funext fun a => Fin.ext ?_))
  · rfl
  · match a with
    | ⟨0, _⟩ => show (x 0).val = 0 + 1 * (x 0).val; omega
    | ⟨1, _⟩ => show (x 1).val = 0 + 1 * (x 1).val; omega

end Cert.Kernel3Ideal.Hand

end
-- ==== Proof.OutWindows.lean ====
module

public import proofs.«01_k».proof.Proof.OutReads
public import proofs.«01_k».proof.Proof.Gen.Kernel3Ideal.Value
public import Idealize.ShloMosaic.Lib.StableHlo.ReadAt
public import Idealize.ShloMosaic.Lib.Pipeline.Value

@[expose] public section

set_option maxHeartbeats 1000000

noncomputable section

namespace Cert.Kernel3Ideal.Hand
open Cert.Kernel3Ideal Cert.Kernel3Ideal.Gen Cert.OutSpec
open Idealize.ShloMosaic Idealize.ShloMosaic.TcCoe
open Cert.KernelIdeal.Value (lnorm lnorm_congr)

variable (m : (ℓ : Loc nD τ sig) → Buf (Elt Ideal) ℓ) (c : Dev nD)

/-! ## What the host makes of the arguments -/

theorem V_ex (b : Fin 3) (k : Fin 128) (j : Fin 512) : (V m c main_v0 : Vec Ideal S3x128x512 .bf16) (ix3 b k j) = (m ((c : Thread nD τ).loc main_arg14) : Vec Ideal S3x128x512 .f32) (ix3 b k j) := by
  unfold V
  after_reads_at

theorem V_gmb (k j : Fin 512) : (V m c main_v1 : Vec Ideal S512x512 .bf16) (ix2 k j) = (m ((c : Thread nD τ).loc main_arg15) : Vec Ideal S512x512 .f32) (ix2 k j) := by
  unfold V
  after_reads_at

theorem V_gmc (k j : Fin 256) : (V m c main_v2 : Vec Ideal S256x256 .bf16) (ix2 k j) = (m ((c : Thread nD τ).loc main_arg16) : Vec Ideal S256x256 .f32) (ix2 k j) := by
  unfold V
  after_reads_at

theorem V_bias (k : Fin 24) : (V m c main_v4 : Vec Ideal S1x128 .f32) (ix2 0 ⟨k.val, by omega⟩) = (m ((c : Thread nD τ).loc main_arg7) : Vec Ideal S24 .f32) (ix1 k) := by
  have := k.isLt
  unfold V
  after_reads_at

theorem V_og (j : Fin 1024) : (V m c main_v9 : Vec Ideal S1x1024 .f32) (ix2 0 j) = (m ((c : Thread nD τ).loc main_arg8) : Vec Ideal S1024 .f32) (ix1 j) := by
  unfold V
  after_reads_at

theorem V_w (k j : Fin 1024) : (V m c main_v10 : Vec Ideal S1024x1024 .bf16) (ix2 k j) = (m ((c : Thread nD τ).loc main_arg9) : Vec Ideal S1024x1024 .f32) (ix2 k j) := by
  unfold V
  after_reads_at

theorem V_lg (j : Fin 1024) : (V m c main_v11 : Vec Ideal S1x1024 .f32) (ix2 0 j) = (m ((c : Thread nD τ).loc main_arg10) : Vec Ideal S1024 .f32) (ix1 j) := by
  unfold V
  after_reads_at

theorem V_lb (j : Fin 1024) : (V m c main_v12 : Vec Ideal S1x1024 .f32) (ix2 0 j) = (m ((c : Thread nD τ).loc main_arg11) : Vec Ideal S1024 .f32) (ix1 j) := by
  unfold V
  after_reads_at

/-! ## What the windows read -/

theorem idx0 : ∀ t : Fin grid0.N, win0_0.index t 0 = t.val ∧ win0_0.index t 1 = 0 := by decide
theorem idx1 : ∀ t : Fin grid0.N, win0_1.index t 0 = t.val ∧ win0_1.index t 1 = 0 := by decide
theorem idx2 : ∀ t : Fin grid0.N, win0_2.index t 0 = t.val ∧ win0_2.index t 1 = 0 := by decide
theorem idx3 : ∀ t : Fin grid0.N, win0_3.index t 0 = t.val ∧ win0_3.index t 1 = 0 := by decide
theorem idx5 : ∀ t : Fin grid0.N, win0_5.index t 0 = t.val ∧ win0_5.index t 1 = 0 := by decide
theorem idx7 : ∀ t : Fin grid0.N, win0_7.index t 0 = t.val ∧ win0_7.index t 1 = 0 := by decide
theorem idx19 : ∀ t : Fin grid0.N, win0_19.index t 0 = t.val ∧ win0_19.index t 1 = 0 := by decide
theorem idx4 : ∀ t : Fin grid0.N, win0_4.index t 0 = t.val ∧ win0_4.index t 1 = 18 := by decide
theorem idx6 : ∀ t : Fin grid0.N, win0_6.index t 0 = t.val ∧ win0_6.index t 1 = 8 := by decide
theorem idx8 : ∀ t : Fin grid0.N, win0_8.index t 0 = 0 ∧ win0_8.index t 1 = 0 := by decide
theorem idx10 : ∀ t : Fin grid0.N, win0_10.index t 0 = 0 ∧ win0_10.index t 1 = 0 := by decide
theorem idx11 : ∀ t : Fin grid0.N, win0_11.index t 0 = 0 ∧ win0_11.index t 1 = 0 := by decide
theorem idx12 : ∀ t : Fin grid0.N, win0_12.index t 0 = 0 ∧ win0_12.index t 1 = 0 := by decide
theorem idx13 : ∀ t : Fin grid0.N, win0_13.index t 0 = 0 ∧ win0_13.index t 1 = 0 := by decide
theorem idx14 : ∀ t : Fin grid0.N, win0_14.index t 0 = 0 ∧ win0_14.index t 1 = 0 := by decide
theorem idx15 : ∀ t : Fin grid0.N, win0_15.index t 0 = 0 ∧ win0_15.index t 1 = 0 := by decide
theorem idx9 : ∀ t : Fin grid0.N, win0_9.index t 0 = 0 ∧ win0_9.index t 1 = 0 ∧ win0_9.index t 2 = 0 := by decide

theorem lt32 (t : Fin cfg0.N) : t.val < 32 := lt_of_lt_of_eq t.isLt N_0

/-- Row `r` of point `t`. -/
def rowOf (t : Fin cfg0.N) (r : Fin 512) : Fin 16384 := ⟨512 * t.val + r.val, by have := lt32 t; have := r.isLt; omega⟩

theorem b0_at (t : Fin cfg0.N) (r : Fin 512) (k : Fin 256) :
    (iblk m c 0 t : Vec Ideal S512x256 .f32) (ix2 r k) = (m ((c : Thread nD τ).loc main_arg0) : Vec Ideal S16384x256 .f32) (ix2 (rowOf t r) k) := by
  have hi := idx0 t
  refine (show (iblk m c 0 t : Vec Ideal S512x256 .f32) (ix2 r k) = (V m c main_arg0 : Vec Ideal S16384x256 .f32) (ix2 (rowOf t r) k) from ?_).trans (congrFun (V_main_arg0 m c) _)
  refine congrArg (V m c main_arg0) (funext fun a => Fin.ext ?_)
  match a with
  | ⟨0, _⟩ => show win0_0.index t 0 * 512 + 1 * r.val = 512 * t.val + r.val; rw [hi.1]; omega
  | ⟨1, _⟩ => show win0_0.index t 1 * 256 + 1 * k.val = k.val; rw [hi.2]; omega

theorem b1_at (t : Fin cfg0.N) (r : Fin 512) (k : Fin 512) :
    (iblk m c 1 t : Vec Ideal S512x512 .f32) (ix2 r k) = (m ((c : Thread nD τ).loc main_arg1) : Vec Ideal S16384x512 .f32) (ix2 (rowOf t r) k) := by
  have hi := idx1 t
  refine (show (iblk m c 1 t : Vec Ideal S512x512 .f32) (ix2 r k) = (V m c main_arg1 : Vec Ideal S16384x512 .f32) (ix2 (rowOf t r) k) from ?_).trans (congrFun (V_main_arg1 m c) _)
  refine congrArg (V m c main_arg1) (funext fun a => Fin.ext ?_)
  match a with
  | ⟨0, _⟩ => show win0_1.index t 0 * 512 + 1 * r.val = 512 * t.val + r.val; rw [hi.1]; omega
  | ⟨1, _⟩ => show win0_1.index t 1 * 512 + 1 * k.val = k.val; rw [hi.2]; omega

theorem b2_at (t : Fin cfg0.N) (r : Fin 512) (k : Fin 512) :
    (iblk m c 2 t : Vec Ideal S512x512 .f32) (ix2 r k) = (m ((c : Thread nD τ).loc main_arg2) : Vec Ideal S16384x512 .f32) (ix2 (rowOf t r) k) := by
  have hi := idx2 t
  refine (show (iblk m c 2 t : Vec Ideal S512x512 .f32) (ix2 r k) = (V m c main_arg2 : Vec Ideal S16384x512 .f32) (ix2 (rowOf t r) k) from ?_).trans (congrFun (V_main_arg2 m c) _)
  refine congrArg (V m c main_arg2) (funext fun a => Fin.ext ?_)
  match a with
  | ⟨0, _⟩ => show win0_2.index t 0 * 512 + 1 * r.val = 512 * t.val + r.val; rw [hi.1]; omega
  | ⟨1, _⟩ => show win0_2.index t 1 * 512 + 1 * k.val = k.val; rw [hi.2]; omega

theorem b3_at (t : Fin cfg0.N) (r : Fin 512) (k : Fin 512) :
    (iblk m c 3 t : Vec Ideal S512x512 .f32) (ix2 r k) = (m ((c : Thread nD τ).loc main_arg3) : Vec Ideal S16384x512 .f32) (ix2 (rowOf t r) k) := by
  have hi := idx3 t
  refine (show (iblk m c 3 t : Vec Ideal S512x512 .f32) (ix2 r k) = (V m c main_arg3 : Vec Ideal S16384x512 .f32) (ix2 (rowOf t r) k) from ?_).trans (congrFun (V_main_arg3 m c) _)
  refine congrArg (V m c main_arg3) (funext fun a => Fin.ext ?_)
  match a with
  | ⟨0, _⟩ => show win0_3.index t 0 * 512 + 1 * r.val = 512 * t.val + r.val; rw [hi.1]; omega
  | ⟨1, _⟩ => show win0_3.index t 1 * 512 + 1 * k.val = k.val; rw [hi.2]; omega

theorem b5_at (t : Fin cfg0.N) (r : Fin 512) (k : Fin 256) :
    (iblk m c 5 t : Vec Ideal S512x256 .f32) (ix2 r k) = (m ((c : Thread nD τ).loc main_arg5) : Vec Ideal S16384x256 .f32) (ix2 (rowOf t r) k) := by
  have hi := idx5 t
  refine (show (iblk m c 5 t : Vec Ideal S512x256 .f32) (ix2 r k) = (V m c main_arg5 : Vec Ideal S16384x256 .f32) (ix2 (rowOf t r) k) from ?_).trans (congrFun (V_main_arg5 m c) _)
  refine congrArg (V m c main_arg5) (funext fun a => Fin.ext ?_)
  match a with
  | ⟨0, _⟩ => show win0_5.index t 0 * 512 + 1 * r.val = 512 * t.val + r.val; rw [hi.1]; omega
  | ⟨1, _⟩ => show win0_5.index t 1 * 256 + 1 * k.val = k.val; rw [hi.2]; omega

theorem b7_at (t : Fin cfg0.N) (r : Fin 512) (k : Fin 1024) :
    (iblk m c 7 t : Vec Ideal S512x1024 .f32) (ix2 r k) = (m ((c : Thread nD τ).loc main_arg6) : Vec Ideal S16384x1024 .f32) (ix2 (rowOf t r) k) := by
  have hi := idx7 t
  refine (show (iblk m c 7 t : Vec Ideal S512x1024 .f32) (ix2 r k) = (V m c main_arg6 : Vec Ideal S16384x1024 .f32) (ix2 (rowOf t r) k) from ?_).trans (congrFun (V_main_arg6 m c) _)
  refine congrArg (V m c main_arg6) (funext fun a => Fin.ext ?_)
  match a with
  | ⟨0, _⟩ => show win0_7.index t 0 * 512 + 1 * r.val = 512 * t.val + r.val; rw [hi.1]; omega
  | ⟨1, _⟩ => show win0_7.index t 1 * 1024 + 1 * k.val = k.val; rw [hi.2]; omega

theorem b4_at (t : Fin cfg0.N) (r : Fin 512) (k : Fin 128) :
    (iblk m c 4 t : Vec Ideal S512x128 .f32) (ix2 r k) = (m ((c : Thread nD τ).loc main_arg4) : Vec Ideal S16384x2432 .f32) (ix2 (rowOf t r) ⟨2304 + k.val, by omega⟩) := by
  have hi := idx4 t
  refine (show (iblk m c 4 t : Vec Ideal S512x128 .f32) (ix2 r k) = (V m c main_arg4 : Vec Ideal S16384x2432 .f32) (ix2 (rowOf t r) ⟨2304 + k.val, by omega⟩) from ?_).trans (congrFun (V_main_arg4 m c) _)
  refine congrArg (V m c main_arg4) (funext fun a => Fin.ext ?_)
  match a with
  | ⟨0, _⟩ => show win0_4.index t 0 * 512 + 1 * r.val = 512 * t.val + r.val; rw [hi.1]; omega
  | ⟨1, _⟩ => show win0_4.index t 1 * 128 + 1 * k.val = 2304 + k.val; rw [hi.2]; omega

theorem b6_at (t : Fin cfg0.N) (r : Fin 512) (k : Fin 256) :
    (X0_6 m c t : Vec Ideal S512x256 .f32) (ix2 r k) = (m ((c : Thread nD τ).loc main_arg4) : Vec Ideal S16384x2432 .f32) (ix2 (rowOf t r) ⟨2048 + k.val, by omega⟩) := by
  have hi := idx6 t
  refine (show (X0_6 m c t : Vec Ideal S512x256 .f32) (ix2 r k) = (V m c main_arg4 : Vec Ideal S16384x2432 .f32) (ix2 (rowOf t r) ⟨2048 + k.val, by omega⟩) from ?_).trans (congrFun (V_main_arg4 m c) _)
  unfold X0_6 Pipeline.Window.fill
  rw [dif_pos (moved0_6 t _)]
  refine congrArg (V m c main_arg4) (funext fun a => Fin.ext ?_)
  match a with
  | ⟨0, _⟩ => show win0_6.index t 0 * 512 + 1 * r.val = 512 * t.val + r.val; rw [hi.1]; omega
  | ⟨1, _⟩ => show win0_6.index t 1 * 256 + 1 * k.val = 2048 + k.val; rw [hi.2]; omega

theorem b8_eq (t : Fin cfg0.N) : (iblk m c 8 t : Vec Ideal S1x128 .f32) = V m c main_v4 := by
  have hi := idx8 t
  funext y
  refine congrArg (V m c main_v4) (funext fun a => Fin.ext ?_)
  match a with
  | ⟨0, _⟩ => show win0_8.index t 0 * 1 + 1 * (y 0).val = (y 0).val; rw [hi.1]; omega
  | ⟨1, _⟩ => show win0_8.index t 1 * 128 + 1 * (y 1).val = (y 1).val; rw [hi.2]; omega

theorem b10_eq (t : Fin cfg0.N) : (iblk m c 10 t : Vec Ideal S512x512 .bf16) = V m c main_v1 := by
  have hi := idx10 t
  funext y
  refine congrArg (V m c main_v1) (funext fun a => Fin.ext ?_)
  match a with
  | ⟨0, _⟩ => show win0_10.index t 0 * 512 + 1 * (y 0).val = (y 0).val; rw [hi.1]; omega
  | ⟨1, _⟩ => show win0_10.index t 1 * 512 + 1 * (y 1).val = (y 1).val; rw [hi.2]; omega

theorem b11_eq (t : Fin cfg0.N) : (iblk m c 11 t : Vec Ideal S256x256 .bf16) = V m c main_v2 := by
  have hi := idx11 t
  funext y
  refine congrArg (V m c main_v2) (funext fun a => Fin.ext ?_)
  match a with
  | ⟨0, _⟩ => show win0_11.index t 0 * 256 + 1 * (y 0).val = (y 0).val; rw [hi.1]; omega
  | ⟨1, _⟩ => show win0_11.index t 1 * 256 + 1 * (y 1).val = (y 1).val; rw [hi.2]; omega

theorem b12_eq (t : Fin cfg0.N) : (iblk m c 12 t : Vec Ideal S1x1024 .f32) = V m c main_v9 := by
  have hi := idx12 t
  funext y
  refine congrArg (V m c main_v9) (funext fun a => Fin.ext ?_)
  match a with
  | ⟨0, _⟩ => show win0_12.index t 0 * 1 + 1 * (y 0).val = (y 0).val; rw [hi.1]; omega
  | ⟨1, _⟩ => show win0_12.index t 1 * 1024 + 1 * (y 1).val = (y 1).val; rw [hi.2]; omega

theorem b13_eq (t : Fin cfg0.N) : (iblk m c 13 t : Vec Ideal S1024x1024 .bf16) = V m c main_v10 := by
  have hi := idx13 t
  funext y
  refine congrArg (V m c main_v10) (funext fun a => Fin.ext ?_)
  match a with
  | ⟨0, _⟩ => show win0_13.index t 0 * 1024 + 1 * (y 0).val = (y 0).val; rw [hi.1]; omega
  | ⟨1, _⟩ => show win0_13.index t 1 * 1024 + 1 * (y 1).val = (y 1).val; rw [hi.2]; omega

theorem b14_eq (t : Fin cfg0.N) : (iblk m c 14 t : Vec Ideal S1x1024 .f32) = V m c main_v11 := by
  have hi := idx14 t
  funext y
  refine congrArg (V m c main_v11) (funext fun a => Fin.ext ?_)
  match a with
  | ⟨0, _⟩ => show win0_14.index t 0 * 1 + 1 * (y 0).val = (y 0).val; rw [hi.1]; omega
  | ⟨1, _⟩ => show win0_14.index t 1 * 1024 + 1 * (y 1).val = (y 1).val; rw [hi.2]; omega

theorem b15_eq (t : Fin cfg0.N) : (iblk m c 15 t : Vec Ideal S1x1024 .f32) = V m c main_v12 := by
  have hi := idx15 t
  funext y
  refine congrArg (V m c main_v12) (funext fun a => Fin.ext ?_)
  match a with
  | ⟨0, _⟩ => show win0_15.index t 0 * 1 + 1 * (y 0).val = (y 0).val; rw [hi.1]; omega
  | ⟨1, _⟩ => show win0_15.index t 1 * 1024 + 1 * (y 1).val = (y 1).val; rw [hi.2]; omega

theorem b9_eq (t : Fin cfg0.N) : (iblk m c 9 t : Vec Ideal S3x128x512 .bf16) = V m c main_v0 := by
  have hi := idx9 t
  funext y
  refine congrArg (V m c main_v0) (funext fun a => Fin.ext ?_)
  match a with
  | ⟨0, _⟩ => show win0_9.index t 0 * 3 + 1 * (y 0).val = (y 0).val; rw [hi.1]; omega
  | ⟨1, _⟩ => show win0_9.index t 1 * 128 + 1 * (y 1).val = (y 1).val; rw [hi.2.1]; omega
  | ⟨2, _⟩ => show win0_9.index t 2 * 512 + 1 * (y 2).val = (y 2).val; rw [hi.2.2]; omega

end Cert.Kernel3Ideal.Hand

end
-- ==== Proof.OutWhole.lean ====
module

public import proofs.«01_k».proof.Proof.OutWindows

@[expose] public section

set_option maxHeartbeats 1000000

noncomputable section

namespace Cert.Kernel3Ideal.Hand
open Cert.Kernel3Ideal Cert.Kernel3Ideal.Gen Cert.OutSpec
open Idealize.ShloMosaic Idealize.ShloMosaic.TcCoe
open Cert.KernelIdeal.Value (lnorm lnorm_congr)

variable (m : (ℓ : Loc nD τ sig) → Buf (Elt Ideal) ℓ) (c : Dev nD)

abbrev aYA : Vec Ideal S16384x256 .f32 := m ((c : Thread nD τ).loc main_arg0)
abbrev aO1 : Vec Ideal S16384x512 .f32 := m ((c : Thread nD τ).loc main_arg1)
abbrev aO2 : Vec Ideal S16384x512 .f32 := m ((c : Thread nD τ).loc main_arg2)
abbrev aO3 : Vec Ideal S16384x512 .f32 := m ((c : Thread nD τ).loc main_arg3)
abbrev aH : Vec Ideal S16384x2432 .f32 := m ((c : Thread nD τ).loc main_arg4)
abbrev aYC : Vec Ideal S16384x256 .f32 := m ((c : Thread nD τ).loc main_arg5)
abbrev aX : Vec Ideal S16384x1024 .f32 := m ((c : Thread nD τ).loc main_arg6)
abbrev aB : Vec Ideal S24 .f32 := m ((c : Thread nD τ).loc main_arg7)
abbrev aOG : Vec Ideal S1024 .f32 := m ((c : Thread nD τ).loc main_arg8)
abbrev aW : Vec Ideal S1024x1024 .f32 := m ((c : Thread nD τ).loc main_arg9)
abbrev aLG : Vec Ideal S1024 .f32 := m ((c : Thread nD τ).loc main_arg10)
abbrev aLB : Vec Ideal S1024 .f32 := m ((c : Thread nD τ).loc main_arg11)
abbrev aEX : Vec Ideal S3x128x512 .f32 := m ((c : Thread nD τ).loc main_arg14)
abbrev aMB : Vec Ideal S512x512 .f32 := m ((c : Thread nD τ).loc main_arg15)
abbrev aMC : Vec Ideal S256x256 .f32 := m ((c : Thread nD τ).loc main_arg16)

/-- What the tables hold. -/
structure Tables : Prop where
  ex : ∀ (b : Fin 3) (k : Fin 128) (j : Fin 512), aEX m c (ix3 b k j) = if k.val = 3 * (j.val / 64) + b.val then 1 else 0
  mb : ∀ k j : Fin 512, aMB m c (ix2 k j) = if k.val / 64 = j.val / 64 then Ideal.ofBits .f32 0x3C800000#32 else 0
  mc : ∀ k j : Fin 256, aMC m c (ix2 k j) = if k.val / 64 = j.val / 64 then Ideal.ofBits .f32 0x3C800000#32 else 0

/-- The layer's rows, of the arguments. -/
abbrev res : Vec Ideal S16384x1024 .f32 :=
  outx (aYA m c) (aO1 m c) (aO2 m c) (aO3 m c) (aH m c) (aYC m c) (aX m c) (aB m c) (aOG m c) (aW m c) (aLG m c) (aLB m c)

theorem res_at (n : Fin 16384) (j : Fin 1024) : res m c (ix2 n j)
    = row (fun k => aYA m c (ix2 n k)) (fun k => aO1 m c (ix2 n k)) (fun k => aO2 m c (ix2 n k)) (fun k => aO3 m c (ix2 n k))
      (fun k => aH m c (ix2 n ⟨2304 + k.val, by omega⟩) + aB m c (ix1 k)) (fun k => aH m c (ix2 n ⟨2048 + k.val, by omega⟩)) (fun k => aYC m c (ix2 n k))
      (fun k => aX m c (ix2 n k)) (fun k => aOG m c (ix1 k)) (fun k j => aW m c (ix2 k j)) (fun k => aLG m c (ix1 k)) (fun k => aLB m c (ix1 k)) j := rfl

/-- The block a point writes. -/
abbrev blkAt (t : Fin cfg0.N) : Vec Ideal S512x1024 .f32 :=
  blk19 (iblk m c 0 t) (iblk m c 1 t) (iblk m c 2 t) (iblk m c 3 t) (iblk m c 4 t) (iblk m c 5 t) (X0_6 m c t) (iblk m c 7 t) (iblk m c 8 t) (iblk m c 9 t)
    (iblk m c 10 t) (iblk m c 11 t) (iblk m c 12 t) (iblk m c 13 t) (iblk m c 14 t) (iblk m c 15 t)

section
variable (hT : Tables m c) (t : Fin cfg0.N)
include hT

theorem spread0 : Spread 0 (cutE0 (iblk m c 9 t)) := fun k j => by
  rw [b9_eq]
  refine (congrArg (V m c main_v0) (show _ = ix3 0 k j from funext fun a => Fin.ext ?_)).trans ((V_ex m c 0 k j).trans (hT.ex 0 k j))
  match a with
  | ⟨0, _⟩ => rfl
  | ⟨1, _⟩ => show 0 + 1 * k.val = k.val; omega
  | ⟨2, _⟩ => show 0 + 1 * j.val = j.val; omega

theorem spread1 : Spread 1 (cutE1 (iblk m c 9 t)) := fun k j => by
  rw [b9_eq]
  refine (congrArg (V m c main_v0) (show _ = ix3 1 k j from funext fun a => Fin.ext ?_)).trans ((V_ex m c 1 k j).trans (hT.ex 1 k j))
  match a with
  | ⟨0, _⟩ => rfl
  | ⟨1, _⟩ => show 0 + 1 * k.val = k.val; omega
  | ⟨2, _⟩ => show 0 + 1 * j.val = j.val; omega

theorem spread2 : Spread 2 (cutE2 (iblk m c 9 t)) := fun k j => by
  rw [b9_eq]
  refine (congrArg (V m c main_v0) (show _ = ix3 2 k j from funext fun a => Fin.ext ?_)).trans ((V_ex m c 2 k j).trans (hT.ex 2 k j))
  match a with
  | ⟨0, _⟩ => rfl
  | ⟨1, _⟩ => show 0 + 1 * k.val = k.val; omega
  | ⟨2, _⟩ => show 0 + 1 * j.val = j.val; omega

theorem meanB : Mean (n := 512) (iblk m c 10 t) := fun k j => by
  rw [b10_eq]
  exact (V_gmb m c k j).trans (hT.mb k j)

theorem meanC : Mean (n := 256) (iblk m c 11 t) := fun k j => by
  rw [b11_eq]
  exact (V_gmc m c k j).trans (hT.mc k j)

omit hT in
theorem gate_eq (r j : Fin 512) (b : ℕ) (hb : b < 3) :
    @HAdd.hAdd EReal EReal EReal _ ((iblk m c 4 t : Vec Ideal S512x128 .f32) (ix2 r (lane128 b hb j))) ((iblk m c 8 t : Vec Ideal S1x128 .f32) (ix2 0 (lane128 b hb j)))
      = aH m c (ix2 (rowOf t r) ⟨2304 + (lane b hb j).val, by omega⟩) + aB m c (ix1 (lane b hb j)) := by
  rw [b4_at, b8_eq]
  exact congrArg₂ (· + ·) rfl (V_bias m c (lane b hb j))

theorem partB_at (r j : Fin 512) : partB (iblk m c 1 t) (iblk m c 2 t) (iblk m c 3 t) (iblk m c 4 t) (iblk m c 8 t) (iblk m c 9 t) (iblk m c 10 t) (iblk m c 12 t) (ix2 r j)
    = rms (gated (fun k => aH m c (ix2 (rowOf t r) ⟨2304 + k.val, by omega⟩) + aB m c (ix1 k)) (fun k => aO1 m c (ix2 (rowOf t r) k))
        (fun k => aO2 m c (ix2 (rowOf t r) k)) (fun k => aO3 m c (ix2 (rowOf t r) k))) (fun k => aOG m c (ix1 ⟨256 + k.val, by omega⟩)) j := by
  unfold partB
  rw [normB_at _ _ _ _ _ _ _ _ (spread0 m c hT t) (spread1 m c hT t) (spread2 m c hT t) _ (meanB m c hT t)]
  refine congr (congrArg₂ rms (funext fun j => ?_) (funext fun k => ?_)) rfl
  · unfold mixAt gated
    rw [gate_eq, gate_eq, gate_eq, b1_at, b2_at, b3_at]
  · rw [b12_eq]
    refine (congrArg (V m c main_v9) (show _ = ix2 0 ⟨256 + k.val, by omega⟩ from funext fun a => Fin.ext ?_)).trans (V_og m c _)
    match a with
    | ⟨0, _⟩ => rfl
    | ⟨1, _⟩ => show 256 + 1 * k.val = 256 + k.val; omega

theorem partC_at (r : Fin 512) (j : Fin 256) : partC (iblk m c 5 t) (iblk m c 11 t) (iblk m c 12 t) (ix2 r j)
    = rms (fun k => aYC m c (ix2 (rowOf t r) k)) (fun k => aOG m c (ix1 ⟨768 + k.val, by omega⟩)) j := by
  unfold partC
  rw [normC_at _ _ (meanC m c hT t)]
  refine congr (congrArg₂ rms (funext fun j => ?_) (funext fun k => ?_)) rfl
  · exact b5_at m c t r j
  · rw [b12_eq]
    refine (congrArg (V m c main_v9) (show _ = ix2 0 ⟨768 + k.val, by omega⟩ from funext fun a => Fin.ext ?_)).trans (V_og m c _)
    match a with
    | ⟨0, _⟩ => rfl
    | ⟨1, _⟩ => show 768 + 1 * k.val = 768 + k.val; omega

omit hT in
theorem cutW1_at (k : Fin 256) (j : Fin 1024) : cutW1 (iblk m c 13 t) (ix2 k j) = aW m c (ix2 ⟨k.val, by omega⟩ j) := by
  rw [b13_eq]
  refine (congrArg (V m c main_v10) (show _ = ix2 ⟨k.val, by omega⟩ j from funext fun a => Fin.ext ?_)).trans (V_w m c _ j)
  match a with
  | ⟨0, _⟩ => show 0 + 1 * k.val = k.val; omega
  | ⟨1, _⟩ => show 0 + 1 * j.val = j.val; omega

omit hT in
theorem cutW2_at (k : Fin 512) (j : Fin 1024) : cutW2 (iblk m c 13 t) (ix2 k j) = aW m c (ix2 ⟨256 + k.val, by omega⟩ j) := by
  rw [b13_eq]
  refine (congrArg (V m c main_v10) (show _ = ix2 ⟨256 + k.val, by omega⟩ j from funext fun a => Fin.ext ?_)).trans (V_w m c _ j)
  match a with
  | ⟨0, _⟩ => show 256 + 1 * k.val = 256 + k.val; omega
  | ⟨1, _⟩ => show 0 + 1 * j.val = j.val; omega

omit hT in
theorem cutW3_at (k : Fin 256) (j : Fin 1024) : cutW3 (iblk m c 13 t) (ix2 k j) = aW m c (ix2 ⟨768 + k.val, by omega⟩ j) := by
  rw [b13_eq]
  refine (congrArg (V m c main_v10) (show _ = ix2 ⟨768 + k.val, by omega⟩ j from funext fun a => Fin.ext ?_)).trans (V_w m c _ j)
  match a with
  | ⟨0, _⟩ => show 768 + 1 * k.val = 768 + k.val; omega
  | ⟨1, _⟩ => show 0 + 1 * j.val = j.val; omega

theorem blk_at (r : Fin 512) (j : Fin 1024) : blkAt m c t (ix2 r j) = res m c (ix2 (rowOf t r) j) := by
  unfold blkAt blk19
  rw [out_at]
  rw [res_at]
  unfold row
  refine lnorm_congr (fun j => ?_) (fun k => ?_) (fun k => ?_) j
  · rw [z_at]
    unfold zrow
    refine congrArg₂ (· + ·) (congrArg (Ideal.ofBits .f32 0x3FB504F3#32 * ·) (b7_at m c t r j)) (congrArg₂ (· + ·) (congrArg₂ (· + ·) ?_ ?_) ?_)
    · exact Finset.sum_congr rfl fun k _ => congrArg₂ (· * ·) (b0_at m c t r k) (cutW1_at m c t k j)
    · exact Finset.sum_congr rfl fun k _ => congrArg₂ (· * ·) (partB_at m c hT t r k) (cutW2_at m c t k j)
    · refine Finset.sum_congr rfl fun k _ => congrArg₂ (· * ·) (congrArg₂ (· * ·) (partC_at m c hT t r k) ?_) (cutW3_at m c t k j)
      rw [b6_at]
  · rw [b14_eq]
    exact V_lg m c k
  · rw [b15_eq]
    exact V_lb m c k

end

/-- The result's array ends at the layer's rows. -/
theorem final19 (hT : Tables m c) : (dats m 0 c).arrAt 19 cfg0.N = res m c := by
  refine (dats m 0 c).arrAt_eq_of_cover 19 _ (fun t _ => ?_) fun i => ?_
  · rw [Value.flushed19_A, out19_eq]
    have hi := idx19 t
    funext y
    have h0 : (y 0).val < 512 := (y 0).isLt
    have h1 : (y 1).val < 1024 := (y 1).isLt
    refine (show _ = blkAt m c t (ix2 ⟨(y 0).val, h0⟩ ⟨(y 1).val, h1⟩) from congrArg (blkAt m c t) (funext fun a => Fin.ext ?_)).trans ((blk_at m c hT t _ _).trans ?_)
    · match a with
      | ⟨0, _⟩ => rfl
      | ⟨1, _⟩ => rfl
    · refine congrArg (res m c) (funext fun a => Fin.ext ?_)
      match a with
      | ⟨0, _⟩ => show 512 * t.val + (y 0).val = win0_19.index t 0 * 512 + 1 * (y 0).val; rw [hi.1]; omega
      | ⟨1, _⟩ => show (y 1).val = win0_19.index t 1 * 1024 + 1 * (y 1).val; rw [hi.2]; omega
  · have h0 : (i 0).val < 16384 := (i 0).isLt
    have h1 : (i 1).val < 1024 := (i 1).isLt
    obtain ⟨t, ht⟩ : ∃ t : Fin cfg0.N, t.val = (i 0).val / 512 := ⟨⟨(i 0).val / 512, by have : cfg0.N = 32 := N_0; omega⟩, rfl⟩
    refine ⟨t, flush0_19 t, ?_⟩
    have hi := idx19 t
    have key : (show S16384x1024.Idx from i) ∈ ((View.whole main_v13_0).slice (win0_19.rect t)).set := by
      rw [View.set_slice_whole, Rect.mem_set_unit]
      intro a
      match a with
      | ⟨0, _⟩ => show win0_19.index t 0 * 512 ≤ (i 0).val ∧ (i 0).val < win0_19.index t 0 * 512 + 512; rw [hi.1]; omega
      | ⟨1, _⟩ => show win0_19.index t 1 * 1024 ≤ (i 1).val ∧ (i 1).val < win0_19.index t 1 * 1024 + 1024; rw [hi.2]; omega
    exact key

end Cert.Kernel3Ideal.Hand

end
-- ==== Proof.OutPlain.lean ====
module

public import proofs.«01_k».proof.Proof.OutSpec
public import proofs.«01_k».proof.Proof.Plain
public import proofs.«01_k».proof.Proof.Gen.Reference3Ideal.Run

@[expose] public section

set_option maxHeartbeats 1000000

noncomputable section

namespace Cert.Reference3Ideal.Plain
open Cert.Reference3Ideal Cert.Reference3Ideal.Gen Cert.Reference3Ideal.Value Cert.OutSpec
open Idealize.ShloMosaic Idealize.ShloMosaic.TcCoe Idealize.SL.Sem Idealize.ShloMosaic.StableHlo
open Cert.KernelIdeal.Value (lnorm lnorm_congr)

/-! ## The reference's row -/

section
variable (A0 : Vec Ideal S16384x256 .f32) (A1 A2 A3 : Vec Ideal S16384x512 .f32) (A4 : Vec Ideal S16384x2432 .f32) (A5 : Vec Ideal S16384x256 .f32)
  (A6 : Vec Ideal S16384x1024 .f32) (A7 : Vec Ideal S24 .f32) (A8 : Vec Ideal S1024 .f32) (A9 : Vec Ideal S1024x1024 .f32)

def gates : Vec Ideal S16384x8x3 .f32 :=
  shapeCast _ (Host.divf (F := Ideal) (φ := .f32) (broadcastInDim S16384x24 ![] bcast_S_S16384x24 (constant (F := Ideal) S_ .f32 0x3F800000#32))
    (addf (broadcastInDim S16384x24 ![] bcast_S_S16384x24 (constant (F := Ideal) S_ .f32 0x3F800000#32))
      (Host.exp (Host.negf (addf (F := Ideal) (φ := .f32) (extractStridedSlice S16384x24 ![0, 2304] A4 slices_S16384x2432_S16384x24_0_2304)
        (broadcastInDim S16384x24 ![0, 1] bcast_S1x24_S16384x24_0_1 (broadcastInDim S1x24 ![1] bcast_S24_S1x24_1 A7))))))) shapeCasts_S16384x24_S16384x8x3

def mix (g : Vec Ideal S16384x8x3 .f32) : Vec Ideal S16384x8x64 .f32 :=
  addf (F := Ideal) (φ := .f32) (addf
    (mulf (broadcastInDim S16384x8x64 ![0, 1, 2] bcast_S16384x8x1_S16384x8x64_0_1_2 (extractStridedSlice S16384x8x1 ![0, 0, 0] g slices_S16384x8x3_S16384x8x1_0_0_0)) (shapeCast _ A1 shapeCasts_S16384x512_S16384x8x64))
    (mulf (broadcastInDim S16384x8x64 ![0, 1, 2] bcast_S16384x8x1_S16384x8x64_0_1_2 (extractStridedSlice S16384x8x1 ![0, 0, 1] g slices_S16384x8x3_S16384x8x1_0_0_1)) (shapeCast _ A2 shapeCasts_S16384x512_S16384x8x64)))
    (mulf (broadcastInDim S16384x8x64 ![0, 1, 2] bcast_S16384x8x1_S16384x8x64_0_1_2 (extractStridedSlice S16384x8x1 ![0, 0, 2] g slices_S16384x8x3_S16384x8x1_0_0_2)) (shapeCast _ A3 shapeCasts_S16384x512_S16384x8x64))

def norm8 (y : Vec Ideal S16384x8x64 .f32) : Vec Ideal S16384x512 .f32 :=
  shapeCast _ (mulf (F := Ideal) (φ := .f32) (mulf y (broadcastInDim S16384x8x64 ![0, 1, 2] bcast_S16384x8x1_S16384x8x64_0_1_2
      (Host.rsqrt (addf (Host.divf (broadcastInDim S16384x8x1 ![0, 1] bcast_S16384x8_S16384x8x1_0_1 (Host.reduceAdd (mulf y y) (constant (F := Ideal) S_ .f32 0x00000000#32) reducesTo_S16384x8x64_S16384x8_d2 h_S_))
        (broadcastInDim S16384x8x1 ![] bcast_S_S16384x8x1 (constant (F := Ideal) S_ .f32 0x42800000#32))) (broadcastInDim S16384x8x1 ![] bcast_S_S16384x8x1 (constant (F := Ideal) S_ .f32 0x358637BD#32))))))
    (broadcastInDim S16384x8x64 ![0, 1, 2] bcast_S1x8x64_S16384x8x64_0_1_2 (broadcastInDim S1x8x64 ![1, 2] bcast_S8x64_S1x8x64_1_2 (shapeCast _ (extractStridedSlice S512 ![256] A8 slices_S1024_S512_256) shapeCasts_S512_S8x64)))) shapeCasts_S16384x8x64_S16384x512

def norm4 (y : Vec Ideal S16384x4x64 .f32) : Vec Ideal S16384x256 .f32 :=
  shapeCast _ (mulf (F := Ideal) (φ := .f32) (mulf y (broadcastInDim S16384x4x64 ![0, 1, 2] bcast_S16384x4x1_S16384x4x64_0_1_2
      (Host.rsqrt (addf (Host.divf (broadcastInDim S16384x4x1 ![0, 1] bcast_S16384x4_S16384x4x1_0_1 (Host.reduceAdd (mulf y y) (constant (F := Ideal) S_ .f32 0x00000000#32) reducesTo_S16384x4x64_S16384x4_d2 h_S_))
        (broadcastInDim S16384x4x1 ![] bcast_S_S16384x4x1 (constant (F := Ideal) S_ .f32 0x42800000#32))) (broadcastInDim S16384x4x1 ![] bcast_S_S16384x4x1 (constant (F := Ideal) S_ .f32 0x358637BD#32))))))
    (broadcastInDim S16384x4x64 ![0, 1, 2] bcast_S1x4x64_S16384x4x64_0_1_2 (broadcastInDim S1x4x64 ![1, 2] bcast_S4x64_S1x4x64_1_2 (shapeCast _ (extractStridedSlice S256 ![768] A8 slices_S1024_S256_768) shapeCasts_S256_S4x64)))) shapeCasts_S16384x4x64_S16384x256

def silu : Vec Ideal S16384x256 .f32 :=
  mulf (F := Ideal) (φ := .f32) (extractStridedSlice S16384x256 ![0, 2048] A4 slices_S16384x2432_S16384x256_0_2048)
    (Host.divf (broadcastInDim S16384x256 ![] bcast_S_S16384x256 (constant (F := Ideal) S_ .f32 0x3F800000#32))
      (addf (broadcastInDim S16384x256 ![] bcast_S_S16384x256 (constant (F := Ideal) S_ .f32 0x3F800000#32)) (Host.exp (Host.negf (extractStridedSlice S16384x256 ![0, 2048] A4 slices_S16384x2432_S16384x256_0_2048)))))

def joined (b : Vec Ideal S16384x512 .f32) (d : Vec Ideal S16384x256 .f32) : Vec Ideal S16384x1024 .f32 :=
  (concatenate S16384x1024 1 [⟨S16384x256, (A0 : (⟨S16384x256, .f32⟩ : BufTy).Contents (Elt Ideal))⟩, ⟨S16384x512, (b : (⟨S16384x512, .f32⟩ : BufTy).Contents (Elt Ideal))⟩,
    ⟨S16384x256, (d : (⟨S16384x256, .f32⟩ : BufTy).Contents (Elt Ideal))⟩] concatenates_S16384x256_S16384x512_S16384x256_S16384x1024_d1 : (⟨S16384x1024, .f32⟩ : BufTy).Contents (Elt Ideal))

def heads : Vec Ideal S16384x1024 .f32 :=
  joined A0 (norm8 A8 (mix A1 A2 A3 (gates A4 A7))) (mulf (F := Ideal) (φ := .f32) (norm4 A8 (shapeCast _ A5 shapeCasts_S16384x256_S16384x4x64)) (silu A4))

def summed (y : Vec Ideal S16384x1024 .f32) : Vec Ideal S16384x1024 .f32 :=
  addf (F := Ideal) (φ := .f32) (mulf (broadcastInDim S16384x1024 ![] bcast_S_S16384x1024 (constant (F := Ideal) S_ .f32 0x3FB504F3#32)) A6)
    (Host.dotGeneral (F := Ideal) (φ₁ := .f32) (φ₂ := .f32) dot_S16384x1024_S1024x1024_S16384x1024_1_0_0_1_n_n none y A9)

theorem gates_at (n : Fin 16384) (h : Fin 8) (b : Fin 3) : gates A4 A7 (ix3 n h b)
    = sg (A4 (ix2 n ⟨2304 + (h.val * 3 + b.val), by omega⟩) + A7 (ix1 ⟨h.val * 3 + b.val, by omega⟩)) := by
  unfold sg
  pointwise [gates]
  rw [zero_sub]

theorem mix_at (g : Vec Ideal S16384x8x3 .f32) (n : Fin 16384) (h : Fin 8) (d : Fin 64) : mix A1 A2 A3 g (ix3 n h d)
    = g (ix3 n h 0) * A1 (ix2 n ⟨h.val * 64 + d.val, by omega⟩) + g (ix3 n h 1) * A2 (ix2 n ⟨h.val * 64 + d.val, by omega⟩) + g (ix3 n h 2) * A3 (ix2 n ⟨h.val * 64 + d.val, by omega⟩) := by
  pointwise [mix]

theorem norm8_at (y : Vec Ideal S16384x8x64 .f32) (n : Fin 16384) (j : Fin 512) : norm8 A8 y (ix2 n j)
    = rms (fun j : Fin 512 => y (ix3 n (⟨j.val / 64, by omega⟩ : Fin 8) (⟨j.val % 64, by omega⟩ : Fin 64))) (fun k => A8 (ix1 ⟨256 + k.val, by omega⟩)) j := by
  unfold rms
  pointwise [norm8]
  have hj := j.isLt
  rw [← msq_head (fun j : Fin 512 => y (ix3 n (⟨j.val / 64, by omega⟩ : Fin 8) (⟨j.val % 64, by omega⟩ : Fin 64))) j (fun d => ⟨64 * (j.val / 64) + d.val, by omega⟩) fun d => rfl]
  have e (d : Fin 64) : (ix3 n (⟨(64 * (j.val / 64) + d.val) / 64, by omega⟩ : Fin 8) (⟨(64 * (j.val / 64) + d.val) % 64, by omega⟩ : Fin 64) : S16384x8x64.Idx) = ix3 n (⟨j.val / 64, by omega⟩ : Fin 8) d :=
    congrArg₂ (ix3 n) (Fin.ext (by dsimp only; omega)) (Fin.ext (by dsimp only; omega))
  simp only [e]

theorem norm4_at (n : Fin 16384) (j : Fin 256) : norm4 A8 (shapeCast _ A5 shapeCasts_S16384x256_S16384x4x64) (ix2 n j)
    = rms (fun j : Fin 256 => A5 (ix2 n j)) (fun k => A8 (ix1 ⟨768 + k.val, by omega⟩)) j := by
  unfold rms
  pointwise [norm4]
  have hj := j.isLt
  rw [← msq_head (fun j : Fin 256 => A5 (ix2 n j)) j (fun d => ⟨j.val / 64 * 64 + d.val, by omega⟩) fun d => by dsimp only; omega]

theorem silu_at (n : Fin 16384) (j : Fin 256) : silu A4 (ix2 n j) = A4 (ix2 n ⟨2048 + j.val, by omega⟩) * sg (A4 (ix2 n ⟨2048 + j.val, by omega⟩)) := by
  unfold sg
  pointwise [silu]
  rw [zero_sub]

theorem summed_at (y : Vec Ideal S16384x1024 .f32) (n : Fin 16384) (j : Fin 1024) : summed A6 A9 y (ix2 n j)
    = Ideal.ofBits .f32 0x3FB504F3#32 * A6 (ix2 n j) + ∑ k : Fin 1024, y (ix2 n k) * A9 (ix2 k j) := by
  pointwise [summed]

theorem joined_one (b : Vec Ideal S16384x512 .f32) (d : Vec Ideal S16384x256 .f32) (n : Fin 16384) (k : Fin 256) :
    joined A0 b d (ix2 n ⟨k.val, by omega⟩) = A0 (ix2 n k) := by
  pointwise [joined]

theorem joined_two (b : Vec Ideal S16384x512 .f32) (d : Vec Ideal S16384x256 .f32) (n : Fin 16384) (k : Fin 512) :
    joined A0 b d (ix2 n ⟨256 + k.val, by omega⟩) = b (ix2 n k) := by
  have hk := k.isLt
  pointwise [joined]

theorem joined_three (b : Vec Ideal S16384x512 .f32) (d : Vec Ideal S16384x256 .f32) (n : Fin 16384) (k : Fin 256) :
    joined A0 b d (ix2 n ⟨768 + k.val, by omega⟩) = d (ix2 n k) := by
  have hk := k.isLt
  pointwise [joined]
  rw [dif_neg (by omega), dif_neg (by omega)]
  exact congrArg (fun k => d (ix2 n k)) (Fin.ext (by dsimp only; omega))

theorem mixed_at (n : Fin 16384) (j : Fin 512) : mix A1 A2 A3 (gates A4 A7) (ix3 n (⟨j.val / 64, by omega⟩ : Fin 8) (⟨j.val % 64, by omega⟩ : Fin 64))
    = gated (fun k => A4 (ix2 n ⟨2304 + k.val, by omega⟩) + A7 (ix1 k)) (fun k => A1 (ix2 n k)) (fun k => A2 (ix2 n k)) (fun k => A3 (ix2 n k)) j := by
  have hj := j.isLt
  rw [mix_at, gates_at, gates_at, gates_at]
  have e : (⟨j.val / 64 * 64 + j.val % 64, by omega⟩ : Fin 512) = j := Fin.ext (by dsimp only; omega)
  have l0 : (⟨j.val / 64 * 3 + 0, by omega⟩ : Fin 24) = lane 0 (by omega) j := Fin.ext (by unfold lane; dsimp only; omega)
  have l1 : (⟨j.val / 64 * 3 + 1, by omega⟩ : Fin 24) = lane 1 (by omega) j := Fin.ext (by unfold lane; dsimp only; omega)
  have l2 : (⟨j.val / 64 * 3 + 2, by omega⟩ : Fin 24) = lane 2 (by omega) j := Fin.ext (by unfold lane; dsimp only; omega)
  unfold gated
  rw [← l0, ← l1, ← l2]
  exact congrArg (fun k => _ * A1 (ix2 n k) + _ * A2 (ix2 n k) + _ * A3 (ix2 n k)) e

theorem heads_row (n : Fin 16384) (j : Fin 1024) : summed A6 A9 (heads A0 A1 A2 A3 A4 A5 A7 A8) (ix2 n j)
    = zrow (fun k => A0 (ix2 n k)) (rms (gated (fun k => A4 (ix2 n ⟨2304 + k.val, by omega⟩) + A7 (ix1 k)) (fun k => A1 (ix2 n k)) (fun k => A2 (ix2 n k)) (fun k => A3 (ix2 n k)))
        fun k => A8 (ix1 ⟨256 + k.val, by omega⟩))
      (fun k => rms (fun k => A5 (ix2 n k)) (fun k => A8 (ix1 ⟨768 + k.val, by omega⟩)) k * (A4 (ix2 n ⟨2048 + k.val, by omega⟩) * sg (A4 (ix2 n ⟨2048 + k.val, by omega⟩))))
      (fun k => A6 (ix2 n k)) (fun k j => A9 (ix2 k j)) j := by
  rw [summed_at, sum_parts]
  unfold zrow heads
  refine congrArg (Ideal.ofBits .f32 0x3FB504F3#32 * A6 (ix2 n j) + ·) (congrArg₂ (· + ·) (congrArg₂ (· + ·) ?_ ?_) ?_)
  · exact Finset.sum_congr rfl fun k _ => congrArg (· * A9 (ix2 ⟨k.val, by omega⟩ j)) (joined_one _ _ _ n k)
  · refine Finset.sum_congr rfl fun k _ => congrArg (· * A9 (ix2 ⟨256 + k.val, by omega⟩ j)) ((joined_two _ _ _ n k).trans ((norm8_at _ _ n k).trans ?_))
    exact congrArg (fun y => rms y _ k) (funext fun j => mixed_at A1 A2 A3 A4 A7 n j)
  · refine Finset.sum_congr rfl fun k _ => congrArg (· * A9 (ix2 ⟨768 + k.val, by omega⟩ j)) ((joined_three _ _ _ n k).trans ?_)
    exact congrArg₂ (· * ·) (norm4_at A5 A8 n k) (silu_at A4 n k)

theorem normed_row (A10 A11 : Vec Ideal S1024 .f32) : Cert.ReferenceIdeal.Plain.normed (summed A6 A9 (heads A0 A1 A2 A3 A4 A5 A7 A8)) A10 A11
    = outx A0 A1 A2 A3 A4 A5 A6 A7 A8 A9 A10 A11 := by
  funext y
  obtain ⟨n, j, rfl⟩ : ∃ n j, y = ix2 n j := ⟨y 0, y 1, by funext d; fin_cases d <;> rfl⟩
  refine (Cert.ReferenceIdeal.Plain.normed_apply _ _ _ n j).trans ?_
  exact lnorm_congr (fun k => heads_row A0 A1 A2 A3 A4 A5 A6 A7 A8 A9 n k) (fun _ => rfl) (fun _ => rfl) j

end

theorem res_eq (m : (ℓ : Loc nD τ sig) → Buf (Elt Ideal) ℓ) (c : Dev nD) : res_main_v89 (F := Ideal) m c
    = Cert.ReferenceIdeal.Plain.normed (summed (m ((c.tc : Thread nD τ).loc main_arg6)) (m ((c.tc : Thread nD τ).loc main_arg9))
      (heads (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg7)) (m ((c.tc : Thread nD τ).loc main_arg8))))
      (m ((c.tc : Thread nD τ).loc main_arg10)) (m ((c.tc : Thread nD τ).loc main_arg11)) := by
  unfold res_main_v89
  rfl

end Cert.Reference3Ideal.Plain

end
-- ==== Proof.OutValue.lean ====
module

public import proofs.«01_k».proof.Defs
public import proofs.«01_k».proof.Proof.Gen.Kernel3
public import proofs.«01_k».proof.Proof.OutWhole
public import proofs.«01_k».proof.Proof.OutPlain

@[expose] public section

set_option maxHeartbeats 4000000

noncomputable section

namespace Cert.Proof.Out
open Idealize.ShloMosaic Idealize.ShloMosaic.TcCoe Idealize.SL.Sem
open Cert.Kernel3Ideal Cert.Kernel3Ideal.Gen Cert.Kernel3Ideal.Hand Cert.OutSpec

section
variable {F : FTy → Type} [FloatOps F]

/-- The output projection's two printed programs have one text: their bodies are the same. -/
theorem body_same : Cert.Kernel3.cc0_outproj_ln_router (F := F) = Cert.Kernel3Ideal.cc0_outproj_ln_router (F := F) := rfl

/-- So are the tables of the labels they call. -/
theorem labels_same : Cert.Kernel3.defs₀ (F := F) = Cert.Kernel3Ideal.defs₀ (F := F) := by
  refine congrArg Defs.onTc (funext fun l => funext fun p => ?_)
  match l, p with
  | 0, (t, s) => exact rfl
  | ⟨_ + 1, h⟩, _ => exact absurd h (Nat.not_lt.2 (Nat.le_add_left _ _))

theorem defs_same : Cert.Kernel3.defs (F := F) = Cert.Kernel3Ideal.defs (F := F) :=
  congrArg (Pipeline.defs (Cert.Kernel3Ideal.pcfgs (F := F))) labels_same

theorem main_same : onTc (τ := τ) (Cert.Kernel3.main (F := F)) = onTc (τ := τ) (Cert.Kernel3Ideal.main (F := F)) :=
  congrArg (fun p => onTc (τ := τ) p) (rfl : Cert.Kernel3.main (F := F) = Cert.Kernel3Ideal.main (F := F))

end

/-- The output projection's printed program, at words. -/
theorem frame_kernel : Cert.quiescent_Kernel3 := fun m ρ _ => by
  have h := Cert.Kernel3Ideal.Gen.frame (F := Bits) m ρ
  rw [← defs_same, ← main_same] at h
  exact h

/-- The same program over the extended reals. -/
theorem frame_ideal : Cert.quiescent_Kernel3Ideal := fun m ρ _ => Cert.Kernel3Ideal.Gen.frame (F := Ideal) m ρ

/-- The reference over the extended reals. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-! ## What the precondition says of the tables -/

theorem tables_facts : Cert.Pre_tables_are_heads.Facts := ⟨by decide, by decide, by decide⟩

theorem eq_of_cmpf {s : Shape} (x y : FVec Ideal s .f32) (i : s.Idx) (h : cmpf (F := Ideal) .oeq x y i = 1#1) : x i = y i := by
  have hb : ∀ a : Bool, BitVec.ofBool a = 1#1 → a = true := by decide
  exact of_decide_eq_true (hb (decide (x i = y i)) h)

theorem select_eq (a b : BitVec 32) (u v : EReal) : Scalar.select (IntOp.cmpi CmpIPredicate.eq a b) u v = if a = b then u else v := by
  unfold Scalar.select IntOp.cmpi
  by_cases h : a = b
  · simp [h]
  · have e : (a == b) = false := by simpa using h
    simp [e, h]

section
variable (hP : Cert.Pre_tables_are_heads.Facts)

abbrev S0 : Shape := ⟨0, ![]⟩

def tabE : Vec Ideal S3x128x512 .f32 :=
  select (cmpi .eq (iotaInDim S3x128x512 32 1) (addi (muli (Host.shrui (iotaInDim S3x128x512 32 2) (broadcastInDim S3x128x512 ![] hP.bcast_S_S3x128x512 (constantI S0 32 6#32)))
      (broadcastInDim S3x128x512 ![] hP.bcast_S_S3x128x512 (constantI S0 32 3#32))) (iotaInDim S3x128x512 32 0)))
    (broadcastInDim S3x128x512 ![] hP.bcast_S_S3x128x512 (constant (F := Ideal) S0 .f32 0x3F800000#32)) (broadcastInDim S3x128x512 ![] hP.bcast_S_S3x128x512 (constant (F := Ideal) S0 .f32 0x00000000#32))

def tabB : Vec Ideal S512x512 .f32 :=
  select (cmpi .eq (Host.shrui (iotaInDim S512x512 32 0) (broadcastInDim S512x512 ![] hP.bcast_S_S512x512 (constantI S0 32 6#32)))
      (Host.shrui (iotaInDim S512x512 32 1) (broadcastInDim S512x512 ![] hP.bcast_S_S512x512 (constantI S0 32 6#32))))
    (broadcastInDim S512x512 ![] hP.bcast_S_S512x512 (constant (F := Ideal) S0 .f32 0x3C800000#32)) (broadcastInDim S512x512 ![] hP.bcast_S_S512x512 (constant (F := Ideal) S0 .f32 0x00000000#32))

def tabC : Vec Ideal S256x256 .f32 :=
  select (cmpi .eq (Host.shrui (iotaInDim S256x256 32 0) (broadcastInDim S256x256 ![] hP.bcast_S_S256x256 (constantI S0 32 6#32)))
      (Host.shrui (iotaInDim S256x256 32 1) (broadcastInDim S256x256 ![] hP.bcast_S_S256x256 (constantI S0 32 6#32))))
    (broadcastInDim S256x256 ![] hP.bcast_S_S256x256 (constant (F := Ideal) S0 .f32 0x3C800000#32)) (broadcastInDim S256x256 ![] hP.bcast_S_S256x256 (constant (F := Ideal) S0 .f32 0x00000000#32))

theorem shr_at (a : ℕ) (ha : a < 4294967296) : (IntOp.shrui ArithUnit.host (BitVec.ofNat 32 a) 6#32).toNat = a / 64 := by
  simp [IntOp.shrui, BitVec.toNat_ushiftRight, Nat.shiftRight_eq_div_pow]
  omega

theorem tabE_at (b : Fin 3) (k : Fin 128) (j : Fin 512) : tabE hP (ix3 b k j) = if k.val = 3 * (j.val / 64) + b.val then 1 else 0 := by
  have hb := b.isLt
  have hk := k.isLt
  have hj := j.isLt
  pointwise [tabE]
  rw [select_eq]
  refine if_congr ?_ rfl rfl
  rw [← BitVec.toNat_inj]
  simp [IntOp.addi, IntOp.muli, BitVec.toNat_ushiftRight, BitVec.toNat_add, BitVec.toNat_mul, Nat.shiftRight_eq_div_pow]
  rw [shr_at _ (by omega)]
  omega

theorem tabB_at (k j : Fin 512) : tabB hP (ix2 k j) = if k.val / 64 = j.val / 64 then Ideal.ofBits .f32 0x3C800000#32 else 0 := by
  have hk := k.isLt
  have hj := j.isLt
  pointwise [tabB]
  rw [select_eq]
  refine if_congr ?_ rfl rfl
  rw [← BitVec.toNat_inj, shr_at _ (by omega), shr_at _ (by omega)]

theorem tabC_at (k j : Fin 256) : tabC hP (ix2 k j) = if k.val / 64 = j.val / 64 then Ideal.ofBits .f32 0x3C800000#32 else 0 := by
  have hk := k.isLt
  have hj := j.isLt
  pointwise [tabC]
  rw [select_eq]
  refine if_congr ?_ rfl rfl
  rw [← BitVec.toNat_inj, shr_at _ (by omega), shr_at _ (by omega)]

theorem tables_of_pre (m : (ℓ : Loc nD τ sig) → Buf (Elt Ideal) ℓ) (h : Cert.Pre_Kernel3Ideal_tables_are_heads m) (c : Dev nD) : Tables m c := by
  have hE : cmpf (F := Ideal) .oeq (aEX m c) (tabE hP) = fun _ => 1#1 := (h c).1
  have hB : cmpf (F := Ideal) .oeq (aMB m c) (tabB hP) = fun _ => 1#1 := (h c).2.1
  have hC : cmpf (F := Ideal) .oeq (aMC m c) (tabC hP) = fun _ => 1#1 := (h c).2.2
  exact ⟨fun b k j => (eq_of_cmpf _ _ _ (congrFun hE (ix3 b k j))).trans (tabE_at hP b k j),
    fun k j => (eq_of_cmpf _ _ _ (congrFun hB (ix2 k j))).trans (tabB_at hP k j),
    fun k j => (eq_of_cmpf _ _ _ (congrFun hC (ix2 k j))).trans (tabC_at hP k j)⟩

end

/-- Both runs leave the layer's rows. -/
theorem algebraic (hP : Cert.Pre_tables_are_heads.Facts) : Cert.algebraic_Kernel3Ideal_Reference3Ideal_pre_tables_are_heads := by
  intro m ρ m' ρ' hpre hagree
  refine ⟨fun c => res m c, ?_, ?_⟩
  · exact (θ_run Cert.Kernel3Ideal.defs _ _).mono
      (fun r h c => ⟨(h c).1.trans (final19 m c (tables_of_pre hP m hpre c)), (h c).2.2⟩)
      (Cert.Kernel3Ideal.Value.run_blocks (F := Ideal) m ρ)
  · refine (θ_run Cert.Reference3Ideal.defs _ _).mono (fun r h c => ⟨(h c).1.trans ?_, (h c).2⟩) (Cert.Reference3Ideal.Value.run (F := Ideal) m' ρ')
    obtain ⟨e0, e1, e2, e3, e4, e5, e6, e7, e8, e9, e10, e11, e12, e13, e14, e15, e16⟩ := hagree c
    refine (Cert.Reference3Ideal.Plain.res_eq m' c).trans ((Cert.Reference3Ideal.Plain.normed_row _ _ _ _ _ _ _ _ _ _ _ _).trans ?_)
    exact congr (congr (congr (congr (congr (congr (congr (congr (congr (congr (congr (congrArg outx e0) e1) e2) e3) e4) e5) e6) e7) e8) e9) e10) e11

end Cert.Proof.Out

end
-- ==== Proof.lean ====
module

public import proofs.«01_k».proof.Defs
public import proofs.«01_k».proof.Proof.Value
public import proofs.«01_k».proof.Proof.InValue
public import proofs.«01_k».proof.Proof.OutValue
public import proofs.«01_k».proof.Proof.Gen.Kernel
public import proofs.«01_k».proof.Proof.Gen.KernelIdeal
public import proofs.«01_k».proof.Proof.Gen.ReferenceIdeal
public import proofs.«01_k».proof.Proof.Gen.Kernel2Ideal.Value
public import proofs.«01_k».proof.Proof.Gen.Kernel2
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3
public import proofs.«01_k».proof.Proof.Gen.Reference3Ideal
public import proofs.«01_k».proof.Proof.Gen.Reference3Ideal.Run

@[expose] public section

noncomputable section

namespace Cert.Proof

open Idealize.ShloMosaic Idealize.SL.Sem

/-- The claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, pre_facts, Out.tables_facts,
  frame_kernel, frame_ideal, fun m ρ _ => frame_ideal m ρ trivial, frame_reference, fun m ρ _ => frame_reference m ρ trivial,
  In.frame_kernel, In.frame_ideal, In.frame_reference,
  Out.frame_kernel, Out.frame_ideal, fun m ρ _ => Out.frame_ideal m ρ trivial, Out.frame_reference, fun m ρ _ => Out.frame_reference m ρ trivial,
  trivial, algebraic pre_facts, trivial, In.algebraic, trivial, Out.algebraic Out.tables_facts⟩

end Cert.Proof

end
